-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_real_inputs [hPre_real_inputs : Cert.Pre_real_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_real_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_real_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_real_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_real_inputs [hPre_real_inputs : Cert.Pre_real_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_real_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_real_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_real_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_real_inputs [hKernelIdeal : Cert.KernelIdeal.Facts] [hPre_real_inputs : Cert.Pre_real_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_real_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_real_inputs [hReferenceIdeal : Cert.ReferenceIdeal.Facts] [hPre_real_inputs : Cert.Pre_real_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_real_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_real_inputs [hKernelIdeal : Cert.KernelIdeal.Facts] [hReferenceIdeal : Cert.ReferenceIdeal.Facts] [hPre_real_inputs : Cert.Pre_real_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_real_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v30) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v21) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v17) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v13) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v34)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v34) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v49) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)) →
    ∃ (v0 : (c : Dev Cert.Kernel11Ideal.nD) → Buf (Elt Ideal) ((c.tc : Thread Cert.Kernel11Ideal.nD Cert.Kernel11Ideal.τ).loc Cert.Kernel11Ideal.main_v33)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v33) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v51) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_real_inputs : Cert.Pre_real_inputs.Facts),
    quiescent_Kernel (hKernel := hKernel)
    ∧ quiescent_KernelIdeal (hKernelIdeal := hKernelIdeal)
    ∧ quiescent_KernelIdeal_pre_real_inputs (hKernelIdeal := hKernelIdeal) (hPre_real_inputs := hPre_real_inputs)
    ∧ quiescent_ReferenceIdeal (hReferenceIdeal := hReferenceIdeal)
    ∧ quiescent_ReferenceIdeal_pre_real_inputs (hReferenceIdeal := hReferenceIdeal) (hPre_real_inputs := hPre_real_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_real_inputs (hKernelIdeal := hKernelIdeal) (hReferenceIdeal := hReferenceIdeal) (hPre_real_inputs := hPre_real_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_real_inputs.lean ====
abbrev S9216x1024 : Shape := ⟨2, ![9216, 1024]⟩
abbrev S128x512 : Shape := ⟨2, ![128, 512]⟩
abbrev S9216x1536 : Shape := ⟨2, ![9216, 1536]⟩
abbrev S9216x512 : Shape := ⟨2, ![9216, 512]⟩
abbrev S_ : Shape := ⟨0, ![]⟩

class Facts : Prop where
  bitsLt_bf16_f32 : FTy.bits .bf16 < FTy.bits .f32
  bcast_S_S9216x1024 : S_.BroadcastsInDim S9216x1024 (![] : Fin 0 → Fin S9216x1024.rank)
  bcast_S_S128x512 : S_.BroadcastsInDim S128x512 (![] : Fin 0 → Fin S128x512.rank)
  bcast_S_S9216x1536 : S_.BroadcastsInDim S9216x1536 (![] : Fin 0 → Fin S9216x1536.rank)

variable [Facts]

def fn {F : FTy → Type} [FloatOps F] (main_arg0 : FVec F S9216x1024 .bf16) (main_arg1 : FVec F S128x512 .f32) (main_arg2 : FVec F S9216x1536 .f32) (main_arg3 : FVec F S9216x512 .f32) : IVec S9216x1024 1 × IVec S128x512 1 × IVec S9216x1536 1 :=
  let main_v0 : FVec F S9216x1024 .f32 := (extf .f32 · bitsLt_bf16_f32) main_arg0
  let main_cst : FVec F S_ .f32 := constant S_ .f32 0xFF800000#32
  let main_v1 : FVec F S9216x1024 .f32 := broadcastInDim S9216x1024 ![] bcast_S_S9216x1024 main_cst
  let main_v2 : IVec S9216x1024 1 := cmpf .ogt main_v0 main_v1
  let main_cst_0 : FVec F S_ .f32 := constant S_ .f32 0x7F800000#32
  let main_v3 : FVec F S9216x1024 .f32 := broadcastInDim S9216x1024 ![] bcast_S_S9216x1024 main_cst_0
  let main_v4 : IVec S9216x1024 1 := cmpf .olt main_v0 main_v3
  let main_v5 : IVec S9216x1024 1 := andi main_v2 main_v4
  let main_cst_1 : FVec F S_ .f32 := constant S_ .f32 0xFF800000#32
  let main_v6 : FVec F S128x512 .f32 := broadcastInDim S128x512 ![] bcast_S_S128x512 main_cst_1
  let main_v7 : IVec S128x512 1 := cmpf .ogt main_arg1 main_v6
  let main_cst_2 : FVec F S_ .f32 := constant S_ .f32 0x7F800000#32
  let main_v8 : FVec F S128x512 .f32 := broadcastInDim S128x512 ![] bcast_S_S128x512 main_cst_2
  let main_v9 : IVec S128x512 1 := cmpf .olt main_arg1 main_v8
  let main_v10 : IVec S128x512 1 := andi main_v7 main_v9
  let main_cst_3 : FVec F S_ .f32 := constant S_ .f32 0xFF800000#32
  let main_v11 : FVec F S9216x1536 .f32 := broadcastInDim S9216x1536 ![] bcast_S_S9216x1536 main_cst_3
  let main_v12 : IVec S9216x1536 1 := cmpf .ogt main_arg2 main_v11
  let main_cst_4 : FVec F S_ .f32 := constant S_ .f32 0x7F800000#32
  let main_v13 : FVec F S9216x1536 .f32 := broadcastInDim S9216x1536 ![] bcast_S_S9216x1536 main_cst_4
  let main_v14 : IVec S9216x1536 1 := cmpf .olt main_arg2 main_v13
  let main_v15 : IVec S9216x1536 1 := andi main_v12 main_v14
  (main_v5, main_v10, main_v15)
-- ==== Kernel.lean ====
abbrev S9216x1024 : Shape := ⟨2, ![9216, 1024]⟩
abbrev S128x512 : Shape := ⟨2, ![128, 512]⟩
abbrev S9216x1536 : Shape := ⟨2, ![9216, 1536]⟩
abbrev S9216x512 : Shape := ⟨2, ![9216, 512]⟩
abbrev S128x256 : Shape := ⟨2, ![128, 256]⟩
abbrev S2x64x4x64 : Shape := ⟨4, ![2, 64, 4, 64]⟩
abbrev S2x4x64x64 : Shape := ⟨4, ![2, 4, 64, 64]⟩
abbrev S8192x1536 : Shape := ⟨2, ![8192, 1536]⟩
abbrev S8192x256 : Shape := ⟨2, ![8192, 256]⟩
abbrev S2x4096x4x64 : Shape := ⟨4, ![2, 4096, 4, 64]⟩
abbrev S2x4x4096x64 : Shape := ⟨4, ![2, 4, 4096, 64]⟩
abbrev S8192x1024 : Shape := ⟨2, ![8192, 1024]⟩
abbrev S1x1x64x64 : Shape := ⟨4, ![1, 1, 64, 64]⟩
abbrev S1x1x4096x64 : Shape := ⟨4, ![1, 1, 4096, 64]⟩
abbrev S128x128 : Shape := ⟨2, ![128, 128]⟩
abbrev S8x128x512 : Shape := ⟨3, ![8, 128, 512]⟩
abbrev S128x64 : Shape := ⟨2, ![128, 64]⟩
abbrev S512x64 : Shape := ⟨2, ![512, 64]⟩
abbrev S128x1 : Shape := ⟨2, ![128, 1]⟩
abbrev S512x1 : Shape := ⟨2, ![512, 1]⟩
abbrev S64x64 : Shape := ⟨2, ![64, 64]⟩
abbrev S1x64 : Shape := ⟨2, ![1, 64]⟩
abbrev S512 : Shape := ⟨1, ![512]⟩
abbrev S64x512 : Shape := ⟨2, ![64, 512]⟩
abbrev S1x128x512 : Shape := ⟨3, ![1, 128, 512]⟩
abbrev S1x1x512x64 : Shape := ⟨4, ![1, 1, 512, 64]⟩
abbrev S512x512 : Shape := ⟨2, ![512, 512]⟩
abbrev S1x512 : Shape := ⟨2, ![1, 512]⟩
abbrev S1x1x640x64 : Shape := ⟨4, ![1, 1, 640, 64]⟩
abbrev S640x64 : Shape := ⟨2, ![640, 64]⟩
abbrev S512x640 : Shape := ⟨2, ![512, 640]⟩
abbrev S1x640 : Shape := ⟨2, ![1, 640]⟩

abbrev nBuf : Space → Nat
  | .hbm => 30
  | .vmem => 19
  | .smem => 0
  | _ => 0

abbrev bufTy : (tb : Table) → Fin (tcTables nBuf tb) → BufTy
  | .hbm, ⟨0, _⟩ => ⟨S9216x1024, .bf16⟩
  | .hbm, ⟨1, _⟩ => ⟨S128x512, .f32⟩
  | .hbm, ⟨2, _⟩ => ⟨S9216x1536, .f32⟩
  | .hbm, ⟨3, _⟩ => ⟨S9216x512, .f32⟩
  | .hbm, ⟨4, _⟩ => ⟨S128x256, .f32⟩
  | .hbm, ⟨5, _⟩ => ⟨S2x64x4x64, .f32⟩
  | .hbm, ⟨6, _⟩ => ⟨S2x4x64x64, .f32⟩
  | .hbm, ⟨7, _⟩ => ⟨S2x4x64x64, .bf16⟩
  | .hbm, ⟨8, _⟩ => ⟨S128x256, .f32⟩
  | .hbm, ⟨9, _⟩ => ⟨S2x64x4x64, .f32⟩
  | .hbm, ⟨10, _⟩ => ⟨S2x4x64x64, .f32⟩
  | .hbm, ⟨11, _⟩ => ⟨S2x4x64x64, .bf16⟩
  | .hbm, ⟨12, _⟩ => ⟨S8192x1536, .f32⟩
  | .hbm, ⟨13, _⟩ => ⟨S8192x256, .f32⟩
  | .hbm, ⟨14, _⟩ => ⟨S2x4096x4x64, .f32⟩
  | .hbm, ⟨15, _⟩ => ⟨S2x4x4096x64, .f32⟩
  | .hbm, ⟨16, _⟩ => ⟨S2x4x4096x64, .bf16⟩
  | .hbm, ⟨17, _⟩ => ⟨S8192x256, .f32⟩
  | .hbm, ⟨18, _⟩ => ⟨S2x4096x4x64, .f32⟩
  | .hbm, ⟨19, _⟩ => ⟨S2x4x4096x64, .f32⟩
  | .hbm, ⟨20, _⟩ => ⟨S2x4x4096x64, .bf16⟩
  | .hbm, ⟨21, _⟩ => ⟨S8192x256, .f32⟩
  | .hbm, ⟨22, _⟩ => ⟨S2x4096x4x64, .f32⟩
  | .hbm, ⟨23, _⟩ => ⟨S2x4x4096x64, .f32⟩
  | .hbm, ⟨24, _⟩ => ⟨S2x4x4096x64, .bf16⟩
  | .hbm, ⟨25, _⟩ => ⟨S8192x256, .f32⟩
  | .hbm, ⟨26, _⟩ => ⟨S2x4096x4x64, .f32⟩
  | .hbm, ⟨27, _⟩ => ⟨S2x4x4096x64, .f32⟩
  | .hbm, ⟨28, _⟩ => ⟨S2x4x4096x64, .bf16⟩
  | .hbm, ⟨29, _⟩ => ⟨S8192x1024, .bf16⟩
  | .local _ .vmem, ⟨0, _⟩ => ⟨S128x256, .bf16⟩
  | .local _ .vmem, ⟨1, _⟩ => ⟨S128x256, .bf16⟩
  | .local _ .vmem, ⟨2, _⟩ => ⟨S1x1x64x64, .bf16⟩
  | .local _ .vmem, ⟨3, _⟩ => ⟨S1x1x64x64, .bf16⟩
  | .local _ .vmem, ⟨4, _⟩ => ⟨S1x1x64x64, .bf16⟩
  | .local _ .vmem, ⟨5, _⟩ => ⟨S1x1x64x64, .bf16⟩
  | .local _ .vmem, ⟨6, _⟩ => ⟨S1x1x4096x64, .bf16⟩
  | .local _ .vmem, ⟨7, _⟩ => ⟨S1x1x4096x64, .bf16⟩
  | .local _ .vmem, ⟨8, _⟩ => ⟨S1x1x4096x64, .bf16⟩
  | .local _ .vmem, ⟨9, _⟩ => ⟨S1x1x4096x64, .bf16⟩
  | .local _ .vmem, ⟨10, _⟩ => ⟨S1x1x4096x64, .bf16⟩
  | .local _ .vmem, ⟨11, _⟩ => ⟨S1x1x4096x64, .bf16⟩
  | .local _ .vmem, ⟨12, _⟩ => ⟨S1x1x4096x64, .bf16⟩
  | .local _ .vmem, ⟨13, _⟩ => ⟨S1x1x4096x64, .bf16⟩
  | .local _ .vmem, ⟨14, _⟩ => ⟨S128x128, .f32⟩
  | .local _ .vmem, ⟨15, _⟩ => ⟨S128x128, .f32⟩
  | .local _ .vmem, ⟨16, _⟩ => ⟨S128x256, .bf16⟩
  | .local _ .vmem, ⟨17, _⟩ => ⟨S128x256, .bf16⟩
  | .local _ .vmem, ⟨18, _⟩ => ⟨S8x128x512, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 4, 32], ![false, false, false]⟩

@[reducible] def k0_t1_loop (i : grid0.Coords) : Scf.Loop 32 :=
  let c0_i32_211 : BitVec 32 := 0#32
  let arg2 : BitVec 32 := BitVec.ofNat 32 (i 2).val
  let c128_i32_203 : BitVec 32 := 128#32
  let v1027 : BitVec 32 := Scalar.muli arg2 c128_i32_203
  let c128_i32_204 : BitVec 32 := 128#32
  let v1028 : BitVec 32 := Scalar.addi v1027 c128_i32_204
  let c1_i32_205 : BitVec 32 := 1#32
  let v1029 : BitVec 32 := Scalar.subi v1028 c1_i32_205
  let c512_i32_206 : BitVec 32 := 512#32
  let v1030 : BitVec 32 := Scalar.divsi v1029 c512_i32_206
  let c1_i32_207 : BitVec 32 := 1#32
  let v1031 : BitVec 32 := Scalar.addi v1030 c1_i32_207
  let v1035 : BitVec 32 := Scalar.subi v1031 c0_i32_211
  let c1_i32_212 : BitVec 32 := 1#32
  let v1037 : BitVec 32 := Scalar.divsi v1035 c1_i32_212
  let v1038 : BitVec 32 := Scalar.muli v1037 c1_i32_212
  let v1039 : BitVec 32 := Scalar.addi c0_i32_211 v1038
  let c1_i32_213 : BitVec 32 := 1#32
  ⟨c0_i32_211, v1039, c1_i32_213⟩
def k0_mult1 (i : grid0.Coords) (k0_t1 : Fin (k0_t1_loop i).trips) : BitVec 32 :=
  let c0_i32_211 : BitVec 32 := 0#32
  let c1_i32_213 : BitVec 32 := 1#32
  let arg13 : BitVec 32 := Scf.iv c0_i32_211 c1_i32_213 k0_t1
  let c512_i32_234 : BitVec 32 := 512#32
  let v1140 : BitVec 32 := Scalar.muli arg13 c512_i32_234
  v1140
def k0_off1 (i : grid0.Coords) (k0_t1 : Fin (k0_t1_loop i).trips) : Fin 4 → Nat :=
  let c0_235 : Index := 0#32
  let c0_236 : Index := 0#32
  let c0_i32_211 : BitVec 32 := 0#32
  let c1_i32_213 : BitVec 32 := 1#32
  let arg13 : BitVec 32 := Scf.iv c0_i32_211 c1_i32_213 k0_t1
  let c512_i32_234 : BitVec 32 := 512#32
  let v1140 : BitVec 32 := Scalar.muli arg13 c512_i32_234
  let v1141 : BitVec 32 := v1140
  let v1142 : Index := Scalar.indexCast v1141
  let c0_237 : Index := 0#32
  ![0, 0, v1142.toNat, 0]
def k0_off2 (i : grid0.Coords) (k0_t1 : Fin (k0_t1_loop i).trips) : Fin 3 → Nat :=
  let c0_i32_211 : BitVec 32 := 0#32
  let c1_i32_213 : BitVec 32 := 1#32
  let arg13 : BitVec 32 := Scf.iv c0_i32_211 c1_i32_213 k0_t1
  let v1155 : Index := Scalar.indexCast arg13
  let c0_242 : Index := 0#32
  let c0_243 : Index := 0#32
  ![v1155.toNat, 0, 0]
@[reducible] def k0_t2_loop (i : grid0.Coords) : Scf.Loop 32 :=
  let c0_i32_211 : BitVec 32 := 0#32
  let arg2 : BitVec 32 := BitVec.ofNat 32 (i 2).val
  let c128_i32_203 : BitVec 32 := 128#32
  let v1027 : BitVec 32 := Scalar.muli arg2 c128_i32_203
  let c128_i32_204 : BitVec 32 := 128#32
  let v1028 : BitVec 32 := Scalar.addi v1027 c128_i32_204
  let c1_i32_205 : BitVec 32 := 1#32
  let v1029 : BitVec 32 := Scalar.subi v1028 c1_i32_205
  let c512_i32_206 : BitVec 32 := 512#32
  let v1030 : BitVec 32 := Scalar.divsi v1029 c512_i32_206
  let c1_i32_207 : BitVec 32 := 1#32
  let v1031 : BitVec 32 := Scalar.addi v1030 c1_i32_207
  let v1035 : BitVec 32 := Scalar.subi v1031 c0_i32_211
  let c1_i32_212 : BitVec 32 := 1#32
  let v1037 : BitVec 32 := Scalar.divsi v1035 c1_i32_212
  let v1038 : BitVec 32 := Scalar.muli v1037 c1_i32_212
  let v1039 : BitVec 32 := Scalar.addi c0_i32_211 v1038
  let v1036 : BitVec 32 := Scalar.addi c0_i32_211 v1035
  let c1_i32_214 : BitVec 32 := 1#32
  ⟨v1039, v1036, c1_i32_214⟩
def k0_mult2 (i : grid0.Coords) (k0_t2 : Fin (k0_t2_loop i).trips) : BitVec 32 :=
  let c0_i32_211 : BitVec 32 := 0#32
  let arg2 : BitVec 32 := BitVec.ofNat 32 (i 2).val
  let c128_i32_203 : BitVec 32 := 128#32
  let v1027 : BitVec 32 := Scalar.muli arg2 c128_i32_203
  let c128_i32_204 : BitVec 32 := 128#32
  let v1028 : BitVec 32 := Scalar.addi v1027 c128_i32_204
  let c1_i32_205 : BitVec 32 := 1#32
  let v1029 : BitVec 32 := Scalar.subi v1028 c1_i32_205
  let c512_i32_206 : BitVec 32 := 512#32
  let v1030 : BitVec 32 := Scalar.divsi v1029 c512_i32_206
  let c1_i32_207 : BitVec 32 := 1#32
  let v1031 : BitVec 32 := Scalar.addi v1030 c1_i32_207
  let v1035 : BitVec 32 := Scalar.subi v1031 c0_i32_211
  let c1_i32_212 : BitVec 32 := 1#32
  let v1037 : BitVec 32 := Scalar.divsi v1035 c1_i32_212
  let v1038 : BitVec 32 := Scalar.muli v1037 c1_i32_212
  let v1039 : BitVec 32 := Scalar.addi c0_i32_211 v1038
  let c1_i32_214 : BitVec 32 := 1#32
  let arg13 : BitVec 32 := Scf.iv v1039 c1_i32_214 k0_t2
  let c512_i32_234 : BitVec 32 := 512#32
  let v1140 : BitVec 32 := Scalar.muli arg13 c512_i32_234
  v1140
def k0_off3 (i : grid0.Coords) (k0_t2 : Fin (k0_t2_loop i).trips) : Fin 4 → Nat :=
  let c0_235 : Index := 0#32
  let c0_236 : Index := 0#32
  let c0_i32_211 : BitVec 32 := 0#32
  let arg2 : BitVec 32 := BitVec.ofNat 32 (i 2).val
  let c128_i32_203 : BitVec 32 := 128#32
  let v1027 : BitVec 32 := Scalar.muli arg2 c128_i32_203
  let c128_i32_204 : BitVec 32 := 128#32
  let v1028 : BitVec 32 := Scalar.addi v1027 c128_i32_204
  let c1_i32_205 : BitVec 32 := 1#32
  let v1029 : BitVec 32 := Scalar.subi v1028 c1_i32_205
  let c512_i32_206 : BitVec 32 := 512#32
  let v1030 : BitVec 32 := Scalar.divsi v1029 c512_i32_206
  let c1_i32_207 : BitVec 32 := 1#32
  let v1031 : BitVec 32 := Scalar.addi v1030 c1_i32_207
  let v1035 : BitVec 32 := Scalar.subi v1031 c0_i32_211
  let c1_i32_212 : BitVec 32 := 1#32
  let v1037 : BitVec 32 := Scalar.divsi v1035 c1_i32_212
  let v1038 : BitVec 32 := Scalar.muli v1037 c1_i32_212
  let v1039 : BitVec 32 := Scalar.addi c0_i32_211 v1038
  let c1_i32_214 : BitVec 32 := 1#32
  let arg13 : BitVec 32 := Scf.iv v1039 c1_i32_214 k0_t2
  let c512_i32_234 : BitVec 32 := 512#32
  let v1140 : BitVec 32 := Scalar.muli arg13 c512_i32_234
  let v1141 : BitVec 32 := v1140
  let v1142 : Index := Scalar.indexCast v1141
  let c0_237 : Index := 0#32
  ![0, 0, v1142.toNat, 0]
def k0_off4 (i : grid0.Coords) (k0_t2 : Fin (k0_t2_loop i).trips) : Fin 3 → Nat :=
  let c0_i32_211 : BitVec 32 := 0#32
  let arg2 : BitVec 32 := BitVec.ofNat 32 (i 2).val
  let c128_i32_203 : BitVec 32 := 128#32
  let v1027 : BitVec 32 := Scalar.muli arg2 c128_i32_203
  let c128_i32_204 : BitVec 32 := 128#32
  let v1028 : BitVec 32 := Scalar.addi v1027 c128_i32_204
  let c1_i32_205 : BitVec 32 := 1#32
  let v1029 : BitVec 32 := Scalar.subi v1028 c1_i32_205
  let c512_i32_206 : BitVec 32 := 512#32
  let v1030 : BitVec 32 := Scalar.divsi v1029 c512_i32_206
  let c1_i32_207 : BitVec 32 := 1#32
  let v1031 : BitVec 32 := Scalar.addi v1030 c1_i32_207
  let v1035 : BitVec 32 := Scalar.subi v1031 c0_i32_211
  let c1_i32_212 : BitVec 32 := 1#32
  let v1037 : BitVec 32 := Scalar.divsi v1035 c1_i32_212
  let v1038 : BitVec 32 := Scalar.muli v1037 c1_i32_212
  let v1039 : BitVec 32 := Scalar.addi c0_i32_211 v1038
  let c1_i32_214 : BitVec 32 := 1#32
  let arg13 : BitVec 32 := Scf.iv v1039 c1_i32_214 k0_t2
  let v1155 : Index := Scalar.indexCast arg13
  let c0_242 : Index := 0#32
  let c0_243 : Index := 0#32
  ![v1155.toNat, 0, 0]
def k0_mult3 (i : grid0.Coords) : BitVec 32 :=
  let arg2 : BitVec 32 := BitVec.ofNat 32 (i 2).val
  let c128_i32_215 : BitVec 32 := 128#32
  let v1044 : BitVec 32 := Scalar.muli arg2 c128_i32_215
  let c512_i32_216 : BitVec 32 := 512#32
  let v1045 : BitVec 32 := Scalar.subi v1044 c512_i32_216
  let c0_i32_217 : BitVec 32 := 0#32
  let v1046 : BitVec 32 := Scalar.maxsi v1045 c0_i32_217
  v1046
def k0_off5 (i : grid0.Coords) : Fin 4 → Nat :=
  let c0_218 : Index := 0#32
  let c0_219 : Index := 0#32
  let arg2 : BitVec 32 := BitVec.ofNat 32 (i 2).val
  let c128_i32_215 : BitVec 32 := 128#32
  let v1044 : BitVec 32 := Scalar.muli arg2 c128_i32_215
  let c512_i32_216 : BitVec 32 := 512#32
  let v1045 : BitVec 32 := Scalar.subi v1044 c512_i32_216
  let c0_i32_217 : BitVec 32 := 0#32
  let v1046 : BitVec 32 := Scalar.maxsi v1045 c0_i32_217
  let v1047 : BitVec 32 := v1046
  let v1048 : Index := Scalar.indexCast v1047
  let c0_220 : Index := 0#32
  ![0, 0, v1048.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x64x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x64x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x4096x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x4096x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x4096x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x4096x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S9216x1024 : Shape := ⟨2, ![9216, 1024]⟩
abbrev S128x512 : Shape := ⟨2, ![128, 512]⟩
abbrev S9216x1536 : Shape := ⟨2, ![9216, 1536]⟩
abbrev S9216x512 : Shape := ⟨2, ![9216, 512]⟩
abbrev S8192x1024 : Shape := ⟨2, ![8192, 1024]⟩
abbrev S2x4096x4x4x64 : Shape := ⟨5, ![2, 4096, 4, 4, 64]⟩
abbrev S2x64x2x4x64 : Shape := ⟨5, ![2, 64, 2, 4, 64]⟩
abbrev S8192x512 : Shape := ⟨2, ![8192, 512]⟩
abbrev S2x4096x2x4x64 : Shape := ⟨5, ![2, 4096, 2, 4, 64]⟩
abbrev S2x4096x4x128 : Shape := ⟨4, ![2, 4096, 4, 128]⟩
abbrev S2x4096x4x12 : Shape := ⟨4, ![2, 4096, 4, 12]⟩
abbrev S2x4096x4x3x4 : Shape := ⟨5, ![2, 4096, 4, 3, 4]⟩
abbrev S2x4096x4x4x3 : Shape := ⟨5, ![2, 4096, 4, 4, 3]⟩
abbrev S2x64x64x2x4x64 : Shape := ⟨6, ![2, 64, 64, 2, 4, 64]⟩
abbrev S2x2x4x64x64x64 : Shape := ⟨6, ![2, 2, 4, 64, 64, 64]⟩
abbrev S4096 : Shape := ⟨1, ![4096]⟩
abbrev S2x64x1x4x64 : Shape := ⟨5, ![2, 64, 1, 4, 64]⟩
abbrev S2x64x4x64 : Shape := ⟨4, ![2, 64, 4, 64]⟩
abbrev S1x2x4x64x64x64 : Shape := ⟨6, ![1, 2, 4, 64, 64, 64]⟩
abbrev S2x4x64x64x64 : Shape := ⟨5, ![2, 4, 64, 64, 64]⟩
abbrev S2x4096x1x4x64 : Shape := ⟨5, ![2, 4096, 1, 4, 64]⟩
abbrev S2x4096x4x64 : Shape := ⟨4, ![2, 4096, 4, 64]⟩
abbrev S64 : Shape := ⟨1, ![64]⟩
abbrev S4096x1 : Shape := ⟨2, ![4096, 1]⟩
abbrev S_ : Shape := ⟨0, ![]⟩
abbrev S1x64 : Shape := ⟨2, ![1, 64]⟩
abbrev S4096x64 : Shape := ⟨2, ![4096, 64]⟩
abbrev S2x4x64x4096x4 : Shape := ⟨5, ![2, 4, 64, 4096, 4]⟩
abbrev S2x4x4x4096x64 : Shape := ⟨5, ![2, 4, 4, 4096, 64]⟩
abbrev S2x4x4x4096 : Shape := ⟨4, ![2, 4, 4, 4096]⟩
abbrev S2x4x4x4096x1 : Shape := ⟨5, ![2, 4, 4, 4096, 1]⟩
abbrev S2x4x64x4x4096 : Shape := ⟨5, ![2, 4, 64, 4, 4096]⟩
abbrev S2x4x4096x64 : Shape := ⟨4, ![2, 4, 4096, 64]⟩
abbrev S2x4x4096x16 : Shape := ⟨4, ![2, 4, 4096, 16]⟩
abbrev S2x4x4096x16x1 : Shape := ⟨5, ![2, 4, 4096, 16, 1]⟩
abbrev S2x4x4096x16x64x64 : Shape := ⟨6, ![2, 4, 4096, 16, 64, 64]⟩
abbrev S1x1x1x1x64 : Shape := ⟨5, ![1, 1, 1, 1, 64]⟩
abbrev S2x4x4096x16x64 : Shape := ⟨5, ![2, 4, 4096, 16, 64]⟩
abbrev S4096x1x1 : Shape := ⟨3, ![4096, 1, 1]⟩
abbrev S1x1x4096x1x1 : Shape := ⟨5, ![1, 1, 4096, 1, 1]⟩
abbrev S2x4x4096x16x64x4 : Shape := ⟨6, ![2, 4, 4096, 16, 64, 4]⟩
abbrev S2x4x4x4096x16x64 : Shape := ⟨6, ![2, 4, 4, 4096, 16, 64]⟩
abbrev S2x4x1x4096x16x64 : Shape := ⟨6, ![2, 4, 1, 4096, 16, 64]⟩
abbrev S2x4x4x4096x1024 : Shape := ⟨5, ![2, 4, 4, 4096, 1024]⟩
abbrev S1x4096 : Shape := ⟨2, ![1, 4096]⟩
abbrev S4096x4096 : Shape := ⟨2, ![4096, 4096]⟩
abbrev S2x4x4096x4096x4 : Shape := ⟨5, ![2, 4, 4096, 4096, 4]⟩
abbrev S2x4x4x4096x4096 : Shape := ⟨5, ![2, 4, 4, 4096, 4096]⟩
abbrev S2x4096x4x4x1 : Shape := ⟨5, ![2, 4096, 4, 4, 1]⟩
abbrev S2x4096x1024 : Shape := ⟨3, ![2, 4096, 1024]⟩

abbrev nBuf : Space → Nat
  | .hbm => 247
  | .vmem => 0
  | .smem => 0
  | _ => 0

abbrev hbmTy0_0 (i : Nat) : BufTy := match i % 128 with
  | 0 => ⟨S9216x1024, .bf16⟩
  | 1 => ⟨S128x512, .f32⟩
  | 2 => ⟨S9216x1536, .f32⟩
  | 3 => ⟨S9216x512, .f32⟩
  | 4 => ⟨S8192x1024, .bf16⟩
  | 5 => ⟨S8192x1024, .f32⟩
  | 6 => ⟨S2x4096x4x4x64, .f32⟩
  | 7 => ⟨S2x64x2x4x64, .f32⟩
  | 8 => ⟨S8192x512, .f32⟩
  | 9 => ⟨S2x4096x2x4x64, .f32⟩
  | 10 => ⟨S8192x512, .f32⟩
  | 11 => ⟨S2x4096x2x4x64, .f32⟩
  | 12 => ⟨S8192x512, .f32⟩
  | 13 => ⟨S2x4096x4x128, .f32⟩
  | 14 => ⟨S2x4096x4x12, .f32⟩
  | 15 => ⟨S2x4096x4x3x4, .f32⟩
  | 16 => ⟨S2x4096x4x4x3, .f32⟩
  | 17 => ⟨S2x64x64x2x4x64, .f32⟩
  | 18 => ⟨S2x2x4x64x64x64, .f32⟩
  | 19 => ⟨S4096, .i32⟩
  | 20 => ⟨S2x64x1x4x64, .f32⟩
  | 21 => ⟨S2x64x4x64, .f32⟩
  | 22 => ⟨S2x64x1x4x64, .f32⟩
  | 23 => ⟨S2x64x4x64, .f32⟩
  | 24 => ⟨S1x2x4x64x64x64, .f32⟩
  | 25 => ⟨S2x4x64x64x64, .f32⟩
  | 26 => ⟨S1x2x4x64x64x64, .f32⟩
  | 27 => ⟨S2x4x64x64x64, .f32⟩
  | 28 => ⟨S2x4096x1x4x64, .f32⟩
  | 29 => ⟨S2x4096x4x64, .f32⟩
  | 30 => ⟨S2x4096x1x4x64, .f32⟩
  | 31 => ⟨S2x4096x4x64, .f32⟩
  | 32 => ⟨S64, .i32⟩
  | 33 => ⟨S4096x1, .i32⟩
  | 34 => ⟨S_, .i32⟩
  | 35 => ⟨S64, .i32⟩
  | 36 => ⟨S64, .i32⟩
  | 37 => ⟨S_, .i32⟩
  | 38 => ⟨S64, .i32⟩
  | 39 => ⟨S64, .i32⟩
  | 40 => ⟨S_, .i32⟩
  | 41 => ⟨S64, .i32⟩
  | 42 => ⟨S64, .i32⟩
  | 43 => ⟨S1x64, .i32⟩
  | 44 => ⟨S4096x64, .i32⟩
  | 45 => ⟨S4096x64, .i32⟩
  | 46 => ⟨S4096x64, .i1⟩
  | 47 => ⟨S2x4x64x4096x4, .f32⟩
  | 48 => ⟨S2x4x4x4096x64, .f32⟩
  | 49 => ⟨S_, .f32⟩
  | 50 => ⟨S_, .f32⟩
  | 51 => ⟨S2x4x4x4096x64, .i1⟩
  | 52 => ⟨S2x4x4x4096x64, .f32⟩
  | 53 => ⟨S2x4x4x4096x64, .f32⟩
  | 54 => ⟨S_, .f32⟩
  | 55 => ⟨S2x4x4x4096, .f32⟩
  | 56 => ⟨S_, .f32⟩
  | 57 => ⟨S2x4x4x4096, .f32⟩
  | 58 => ⟨S2x4x4x4096, .f32⟩
  | 59 => ⟨S2x4x4x4096x1, .f32⟩
  | 60 => ⟨S2x4x4x4096x64, .f32⟩
  | 61 => ⟨S2x4x4x4096x64, .f32⟩
  | 62 => ⟨S2x4x4x4096x64, .f32⟩
  | 63 => ⟨S_, .f32⟩
  | 64 => ⟨S2x4x4x4096, .f32⟩
  | 65 => ⟨S2x4x4x4096x1, .f32⟩
  | 66 => ⟨S2x4x4x4096x64, .f32⟩
  | 67 => ⟨S2x4x4x4096x64, .f32⟩
  | 68 => ⟨S_, .f32⟩
  | 69 => ⟨S_, .f32⟩
  | 70 => ⟨S2x4x4x4096x64, .i1⟩
  | 71 => ⟨S2x4x4x4096x64, .f32⟩
  | 72 => ⟨S2x4x4x4096x64, .f32⟩
  | 73 => ⟨S2x4x64x4x4096, .f32⟩
  | 74 => ⟨S2x4096x4x4x64, .f32⟩
  | 75 => ⟨S_, .i32⟩
  | 76 => ⟨S_, .i32⟩
  | 77 => ⟨S4096x1, .i32⟩
  | 78 => ⟨S4096x1, .i32⟩
  | 79 => ⟨S4096x1, .i32⟩
  | 80 => ⟨S_, .i32⟩
  | 81 => ⟨S4096x1, .i32⟩
  | 82 => ⟨S4096x1, .i1⟩
  | 83 => ⟨S4096x1, .i32⟩
  | 84 => ⟨S4096x1, .i32⟩
  | 85 => ⟨S_, .i32⟩
  | 86 => ⟨S4096x1, .i32⟩
  | 87 => ⟨S4096x1, .i1⟩
  | 88 => ⟨S4096x1, .i1⟩
  | 89 => ⟨S_, .i32⟩
  | 90 => ⟨S4096x1, .i32⟩
  | 91 => ⟨S4096x1, .i32⟩
  | 92 => ⟨S4096x1, .i32⟩
  | 93 => ⟨S_, .i32⟩
  | 94 => ⟨S64, .i32⟩
  | 95 => ⟨S64, .i1⟩
  | 96 => ⟨S1x64, .i32⟩
  | 97 => ⟨S4096x64, .i32⟩
  | 98 => ⟨S4096x64, .i32⟩
  | 99 => ⟨S4096x64, .i1⟩
  | 100 => ⟨S1x64, .i1⟩
  | 101 => ⟨S4096x64, .i1⟩
  | 102 => ⟨S4096x64, .i1⟩
  | 103 => ⟨S_, .i32⟩
  | 104 => ⟨S4096x1, .i32⟩
  | 105 => ⟨S4096x1, .i32⟩
  | 106 => ⟨S1x64, .i32⟩
  | 107 => ⟨S4096x64, .i32⟩
  | 108 => ⟨S4096x64, .i32⟩
  | 109 => ⟨S4096x64, .i1⟩
  | 110 => ⟨S4096x64, .i1⟩
  | 111 => ⟨S_, .i32⟩
  | 112 => ⟨S64, .i32⟩
  | 113 => ⟨S64, .i32⟩
  | 114 => ⟨S1x64, .i32⟩
  | 115 => ⟨S4096x64, .i32⟩
  | 116 => ⟨S4096x64, .i32⟩
  | 117 => ⟨S4096x64, .i1⟩
  | 118 => ⟨S_, .f32⟩
  | 119 => ⟨S2x4x4096x64, .f32⟩
  | 120 => ⟨S_, .f32⟩
  | 121 => ⟨S_, .f32⟩
  | 122 => ⟨S2x4x4096x64, .i1⟩
  | 123 => ⟨S2x4x4096x64, .f32⟩
  | 124 => ⟨S2x4x4096x64, .f32⟩
  | 125 => ⟨S_, .f32⟩
  | 126 => ⟨S_, .f32⟩
  | 127 => ⟨S2x4x4096x64, .i1⟩
  | _ => ⟨S9216x1024, .bf16⟩

abbrev hbmTy0_1 (i : Nat) : BufTy := match i % 128 with
  | 0 => ⟨S2x4x4096x64, .f32⟩
  | 1 => ⟨S2x4x4096x64, .f32⟩
  | 2 => ⟨S2x4x4096x16, .f32⟩
  | 3 => ⟨S2x4x4096x16, .i32⟩
  | 4 => ⟨S_, .i32⟩
  | 5 => ⟨S2x4x4096x16, .i32⟩
  | 6 => ⟨S2x4x4096x16, .i1⟩
  | 7 => ⟨S_, .i32⟩
  | 8 => ⟨S2x4x4096x16, .i32⟩
  | 9 => ⟨S2x4x4096x16, .i32⟩
  | 10 => ⟨S2x4x4096x16, .i32⟩
  | 11 => ⟨S2x4x4096x16x1, .i32⟩
  | 12 => ⟨S2x4x4096x16x64x64, .f32⟩
  | 13 => ⟨S_, .i32⟩
  | 14 => ⟨S2x4x4096x16, .i32⟩
  | 15 => ⟨S2x4x4096x16, .i1⟩
  | 16 => ⟨S_, .i32⟩
  | 17 => ⟨S2x4x4096x16, .i32⟩
  | 18 => ⟨S2x4x4096x16, .i32⟩
  | 19 => ⟨S2x4x4096x16, .i32⟩
  | 20 => ⟨S2x4x4096x16x1, .i32⟩
  | 21 => ⟨S2x4x4096x16x64x64, .f32⟩
  | 22 => ⟨S2x4x4096x16x1, .i32⟩
  | 23 => ⟨S_, .i32⟩
  | 24 => ⟨S2x4x4096x16x1, .i32⟩
  | 25 => ⟨S2x4x4096x16x1, .i32⟩
  | 26 => ⟨S64, .i32⟩
  | 27 => ⟨S1x1x1x1x64, .i32⟩
  | 28 => ⟨S2x4x4096x16x64, .i32⟩
  | 29 => ⟨S2x4x4096x16x64, .i32⟩
  | 30 => ⟨S2x4x4096x16x64, .i32⟩
  | 31 => ⟨S_, .f32⟩
  | 32 => ⟨S2x4x4096x16, .f32⟩
  | 33 => ⟨S2x4x4096x16, .i1⟩
  | 34 => ⟨S2x4x4096x16x1, .i1⟩
  | 35 => ⟨S4096x1x1, .i32⟩
  | 36 => ⟨S1x1x4096x1x1, .i32⟩
  | 37 => ⟨S2x4x4096x16x64, .i32⟩
  | 38 => ⟨S2x4x4096x16x64, .i1⟩
  | 39 => ⟨S2x4x4096x16x64, .i1⟩
  | 40 => ⟨S2x4x4096x16x64, .i1⟩
  | 41 => ⟨S2x4x4096x16x64x4, .f32⟩
  | 42 => ⟨S2x4x4x4096x16x64, .f32⟩
  | 43 => ⟨S2x4x1x4096x16x64, .i1⟩
  | 44 => ⟨S_, .f32⟩
  | 45 => ⟨S_, .f32⟩
  | 46 => ⟨S2x4x4x4096x16x64, .i1⟩
  | 47 => ⟨S2x4x4x4096x16x64, .f32⟩
  | 48 => ⟨S2x4x4x4096x16x64, .f32⟩
  | 49 => ⟨S2x4x4x4096x1024, .f32⟩
  | 50 => ⟨S_, .f32⟩
  | 51 => ⟨S2x4x4x4096, .f32⟩
  | 52 => ⟨S_, .f32⟩
  | 53 => ⟨S2x4x4x4096, .f32⟩
  | 54 => ⟨S2x4x4x4096, .f32⟩
  | 55 => ⟨S2x4x4x4096x1, .f32⟩
  | 56 => ⟨S2x4x4x4096x1024, .f32⟩
  | 57 => ⟨S2x4x4x4096x1024, .f32⟩
  | 58 => ⟨S2x4x4x4096x1024, .f32⟩
  | 59 => ⟨S_, .f32⟩
  | 60 => ⟨S2x4x4x4096, .f32⟩
  | 61 => ⟨S2x4x4x4096x1, .f32⟩
  | 62 => ⟨S2x4x4x4096x1024, .f32⟩
  | 63 => ⟨S2x4x4x4096x1024, .f32⟩
  | 64 => ⟨S2x4x4x4096x16x64, .f32⟩
  | 65 => ⟨S2x4096x4x4x64, .f32⟩
  | 66 => ⟨S1x4096, .i32⟩
  | 67 => ⟨S4096x4096, .i32⟩
  | 68 => ⟨S4096x4096, .i32⟩
  | 69 => ⟨S4096x4096, .i1⟩
  | 70 => ⟨S_, .i32⟩
  | 71 => ⟨S4096x1, .i32⟩
  | 72 => ⟨S4096x1, .i32⟩
  | 73 => ⟨S4096x4096, .i32⟩
  | 74 => ⟨S4096x4096, .i32⟩
  | 75 => ⟨S4096x4096, .i1⟩
  | 76 => ⟨S4096x4096, .i1⟩
  | 77 => ⟨S_, .i32⟩
  | 78 => ⟨S1x4096, .i32⟩
  | 79 => ⟨S1x4096, .i1⟩
  | 80 => ⟨S4096x4096, .i1⟩
  | 81 => ⟨S4096x4096, .i1⟩
  | 82 => ⟨S2x4x4096x4096x4, .f32⟩
  | 83 => ⟨S2x4x4x4096x4096, .f32⟩
  | 84 => ⟨S_, .f32⟩
  | 85 => ⟨S_, .f32⟩
  | 86 => ⟨S2x4x4x4096x4096, .i1⟩
  | 87 => ⟨S2x4x4x4096x4096, .f32⟩
  | 88 => ⟨S2x4x4x4096x4096, .f32⟩
  | 89 => ⟨S_, .f32⟩
  | 90 => ⟨S2x4x4x4096, .f32⟩
  | 91 => ⟨S_, .f32⟩
  | 92 => ⟨S2x4x4x4096, .f32⟩
  | 93 => ⟨S2x4x4x4096, .f32⟩
  | 94 => ⟨S2x4x4x4096x1, .f32⟩
  | 95 => ⟨S2x4x4x4096x4096, .f32⟩
  | 96 => ⟨S2x4x4x4096x4096, .f32⟩
  | 97 => ⟨S2x4x4x4096x4096, .f32⟩
  | 98 => ⟨S_, .f32⟩
  | 99 => ⟨S2x4x4x4096, .f32⟩
  | 100 => ⟨S2x4x4x4096x1, .f32⟩
  | 101 => ⟨S2x4x4x4096x4096, .f32⟩
  | 102 => ⟨S2x4x4x4096x4096, .f32⟩
  | 103 => ⟨S2x4x64x4x4096, .f32⟩
  | 104 => ⟨S2x4096x4x4x64, .f32⟩
  | 105 => ⟨S2x4096x4x4x1, .f32⟩
  | 106 => ⟨S2x4096x4x4x64, .f32⟩
  | 107 => ⟨S2x4096x4x4x64, .f32⟩
  | 108 => ⟨S2x4096x4x4x1, .f32⟩
  | 109 => ⟨S2x4096x4x4x64, .f32⟩
  | 110 => ⟨S2x4096x4x4x64, .f32⟩
  | 111 => ⟨S2x4096x4x4x64, .f32⟩
  | 112 => ⟨S2x4096x4x4x1, .f32⟩
  | 113 => ⟨S2x4096x4x4x64, .f32⟩
  | 114 => ⟨S2x4096x4x4x64, .f32⟩
  | 115 => ⟨S2x4096x4x4x64, .f32⟩
  | 116 => ⟨S2x4096x1024, .f32⟩
  | 117 => ⟨S8192x1024, .f32⟩
  | 118 => ⟨S8192x1024, .bf16⟩
  | _ => ⟨S9216x1024, .bf16⟩

abbrev hbmTy (i : Nat) : BufTy := match i / 128 with
  | 0 => hbmTy0_0 i
  | 1 => hbmTy0_1 i
  | _ => ⟨S9216x1024, .bf16⟩

abbrev bufTy : (tb : Table) → Fin (tcTables nBuf tb) → BufTy
  | .hbm, ⟨i, _⟩ => hbmTy i
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_c : Ref sig .tc := ⟨.hbm, 34, rfl⟩
abbrev main_v30 : Ref sig .tc := ⟨.hbm, 35, rfl⟩
abbrev main_v31 : Ref sig .tc := ⟨.hbm, 36, rfl⟩
abbrev main_c_0 : Ref sig .tc := ⟨.hbm, 37, rfl⟩
abbrev main_v32 : Ref sig .tc := ⟨.hbm, 38, rfl⟩
abbrev main_v33 : Ref sig .tc := ⟨.hbm, 39, rfl⟩
abbrev main_c_1 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_cst : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_v42 : Ref sig .tc := ⟨.hbm, 53, rfl⟩
abbrev main_cst_2 : Ref sig .tc := ⟨.hbm, 54, rfl⟩
abbrev main_v43 : Ref sig .tc := ⟨.hbm, 55, rfl⟩
abbrev main_cst_3 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_4 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_5 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_c_6 : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_call2_v5 : Ref sig .tc := ⟨.hbm, 81, rfl⟩
abbrev main_call2_v6 : Ref sig .tc := ⟨.hbm, 82, rfl⟩
abbrev main_call2_v7 : Ref sig .tc := ⟨.hbm, 83, rfl⟩
abbrev main_call2_v8 : Ref sig .tc := ⟨.hbm, 84, rfl⟩
abbrev main_call2_c : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_c_0 : Ref sig .tc := ⟨.hbm, 89, rfl⟩
abbrev main_call2_v12 : Ref sig .tc := ⟨.hbm, 90, rfl⟩
abbrev main_call2_v13 : Ref sig .tc := ⟨.hbm, 91, rfl⟩
abbrev main_v57 : Ref sig .tc := ⟨.hbm, 92, rfl⟩
abbrev main_c_7 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_c_8 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_c_9 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst_10 : Ref sig .tc := ⟨.hbm, 118, rfl⟩
abbrev main_v80 : Ref sig .tc := ⟨.hbm, 119, rfl⟩
abbrev main_cst_11 : Ref sig .tc := ⟨.hbm, 120, rfl⟩
abbrev main_call3_v0 : Ref sig .tc := ⟨.hbm, 121, rfl⟩
abbrev main_call3_v1 : Ref sig .tc := ⟨.hbm, 122, rfl⟩
abbrev main_call3_v2 : Ref sig .tc := ⟨.hbm, 123, rfl⟩
abbrev main_v81 : Ref sig .tc := ⟨.hbm, 124, rfl⟩
abbrev main_cst_12 : Ref sig .tc := ⟨.hbm, 125, rfl⟩
abbrev main_call4_v0 : Ref sig .tc := ⟨.hbm, 126, rfl⟩
abbrev main_call4_v1 : Ref sig .tc := ⟨.hbm, 127, rfl⟩
abbrev main_call4_v2 : Ref sig .tc := ⟨.hbm, 128, rfl⟩
abbrev main_v82 : Ref sig .tc := ⟨.hbm, 129, rfl⟩
abbrev main_values : Ref sig .tc := ⟨.hbm, 130, rfl⟩
abbrev main_indices : Ref sig .tc := ⟨.hbm, 131, rfl⟩
abbrev main_c_13 : Ref sig .tc := ⟨.hbm, 132, rfl⟩
abbrev main_v83 : Ref sig .tc := ⟨.hbm, 133, rfl⟩
abbrev main_v84 : Ref sig .tc := ⟨.hbm, 134, rfl⟩
abbrev main_c_14 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_c_15 : Ref sig .tc := ⟨.hbm, 141, rfl⟩
abbrev main_v90 : Ref sig .tc := ⟨.hbm, 142, rfl⟩
abbrev main_v91 : Ref sig .tc := ⟨.hbm, 143, rfl⟩
abbrev main_c_16 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_c_17 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_cst_18 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_cst_19 : Ref sig .tc := ⟨.hbm, 172, rfl⟩
abbrev main_call5_v0 : Ref sig .tc := ⟨.hbm, 173, rfl⟩
abbrev main_call5_v1 : Ref sig .tc := ⟨.hbm, 174, rfl⟩
abbrev main_call5_v2 : Ref sig .tc := ⟨.hbm, 175, rfl⟩
abbrev main_v117 : Ref sig .tc := ⟨.hbm, 176, rfl⟩
abbrev main_v118 : Ref sig .tc := ⟨.hbm, 177, rfl⟩
abbrev main_cst_20 : Ref sig .tc := ⟨.hbm, 178, rfl⟩
abbrev main_v119 : Ref sig .tc := ⟨.hbm, 179, rfl⟩
abbrev main_cst_21 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_cst_22 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_c_23 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_c_24 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_cst_25 : Ref sig .tc := ⟨.hbm, 212, rfl⟩
abbrev main_call6_v0 : Ref sig .tc := ⟨.hbm, 213, rfl⟩
abbrev main_call6_v1 : Ref sig .tc := ⟨.hbm, 214, rfl⟩
abbrev main_call6_v2 : Ref sig .tc := ⟨.hbm, 215, rfl⟩
abbrev main_v148 : Ref sig .tc := ⟨.hbm, 216, rfl⟩
abbrev main_cst_26 : Ref sig .tc := ⟨.hbm, 217, rfl⟩
abbrev main_v149 : Ref sig .tc := ⟨.hbm, 218, rfl⟩
abbrev main_cst_27 : Ref sig .tc := ⟨.hbm, 219, rfl⟩
abbrev main_v150 : Ref sig .tc := ⟨.hbm, 220, rfl⟩
abbrev main_v151 : Ref sig .tc := ⟨.hbm, 221, rfl⟩
abbrev main_v152 : Ref sig .tc := ⟨.hbm, 222, rfl⟩
abbrev main_v153 : Ref sig .tc := ⟨.hbm, 223, rfl⟩
abbrev main_v154 : Ref sig .tc := ⟨.hbm, 224, rfl⟩
abbrev main_v155 : Ref sig .tc := ⟨.hbm, 225, rfl⟩
abbrev main_cst_28 : Ref sig .tc := ⟨.hbm, 226, rfl⟩
abbrev main_v156 : Ref sig .tc := ⟨.hbm, 227, rfl⟩
abbrev main_v157 : Ref sig .tc := ⟨.hbm, 228, rfl⟩
abbrev main_v158 : Ref sig .tc := ⟨.hbm, 229, rfl⟩
abbrev main_v159 : Ref sig .tc := ⟨.hbm, 230, rfl⟩
abbrev main_v160 : Ref sig .tc := ⟨.hbm, 231, rfl⟩
abbrev main_v161 : Ref sig .tc := ⟨.hbm, 232, rfl⟩
abbrev main_v162 : Ref sig .tc := ⟨.hbm, 233, rfl⟩
abbrev main_v163 : Ref sig .tc := ⟨.hbm, 234, rfl⟩
abbrev main_v164 : Ref sig .tc := ⟨.hbm, 235, rfl⟩
abbrev main_v165 : Ref sig .tc := ⟨.hbm, 236, rfl⟩
abbrev main_v166 : Ref sig .tc := ⟨.hbm, 237, rfl⟩
abbrev main_v167 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_v172 : Ref sig .tc := ⟨.hbm, 243, rfl⟩
abbrev main_v173 : Ref sig .tc := ⟨.hbm, 244, rfl⟩
abbrev main_v174 : Ref sig .tc := ⟨.hbm, 245, rfl⟩
abbrev main_v175 : Ref sig .tc := ⟨.hbm, 246, rfl⟩

abbrev nD : Nat := 1
abbrev τ : Topo := Topo.v7x

variable {F : FTy → Type} [FloatOps F]
-- ==== Kernel2.lean ====
abbrev S9216x2048 : Shape := ⟨2, ![9216, 2048]⟩
abbrev S2048 : Shape := ⟨1, ![2048]⟩
abbrev S2048x8192 : Shape := ⟨2, ![2048, 8192]⟩
abbrev S8192x2048 : Shape := ⟨2, ![8192, 2048]⟩
abbrev S1x2048 : Shape := ⟨2, ![1, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 10
  | .vmem => 12
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S2048, .f32⟩
  | .hbm, ⟨5, _⟩ => ⟨S2048x8192, .bf16⟩
  | .hbm, ⟨6, _⟩ => ⟨S8192x2048, .bf16⟩
  | .hbm, ⟨7, _⟩ => ⟨S1x2048, .f32⟩
  | .hbm, ⟨8, _⟩ => ⟨S1x2048, .f32⟩
  | .hbm, ⟨9, _⟩ => ⟨S9216x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S512x2048, .bf16⟩
  | .local _ .vmem, ⟨6, _⟩ => ⟨S512x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .f32⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![18, 16], ![false, false]⟩

def k0_cond2 (i : grid0.Coords) : BitVec 1 :=
  let arg1 : BitVec 32 := BitVec.ofNat 32 (i 1).val
  let c15_i32 : BitVec 32 := 15#32
  let v19 : BitVec 1 := Scalar.cmpi .eq arg1 c15_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S9216x2048 : Shape := ⟨2, ![9216, 2048]⟩
abbrev S2048 : Shape := ⟨1, ![2048]⟩
abbrev S2048x8192 : Shape := ⟨2, ![2048, 8192]⟩
abbrev S8192x2048 : Shape := ⟨2, ![8192, 2048]⟩
abbrev S_ : Shape := ⟨0, ![]⟩
abbrev S9216 : Shape := ⟨1, ![9216]⟩
abbrev S9216x1 : Shape := ⟨2, ![9216, 1]⟩
abbrev S1x2048 : Shape := ⟨2, ![1, 2048]⟩
abbrev S9216x8192 : Shape := ⟨2, ![9216, 8192]⟩

abbrev nBuf : Space → Nat
  | .hbm => 44
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S2048, .f32⟩
  | .hbm, ⟨5, _⟩ => ⟨S9216x2048, .f32⟩
  | .hbm, ⟨6, _⟩ => ⟨S_, .f32⟩
  | .hbm, ⟨7, _⟩ => ⟨S9216, .f32⟩
  | .hbm, ⟨8, _⟩ => ⟨S9216x1, .f32⟩
  | .hbm, ⟨9, _⟩ => ⟨S_, .f32⟩
  | .hbm, ⟨10, _⟩ => ⟨S9216x1, .f32⟩
  | .hbm, ⟨11, _⟩ => ⟨S9216x1, .f32⟩
  | .hbm, ⟨12, _⟩ => ⟨S_, .f32⟩
  | .hbm, ⟨13, _⟩ => ⟨S9216x1, .f32⟩
  | .hbm, ⟨14, _⟩ => ⟨S9216x1, .f32⟩
  | .hbm, ⟨15, _⟩ => ⟨S9216x1, .f32⟩
  | .hbm, ⟨16, _⟩ => ⟨S9216x2048, .f32⟩
  | .hbm, ⟨17, _⟩ => ⟨S9216x2048, .f32⟩
  | .hbm, ⟨18, _⟩ => ⟨S1x2048, .f32⟩
  | .hbm, ⟨19, _⟩ => ⟨S9216x2048, .f32⟩
  | .hbm, ⟨20, _⟩ => ⟨S9216x2048, .f32⟩
  | .hbm, ⟨21, _⟩ => ⟨S9216x8192, .f32⟩
  | .hbm, ⟨22, _⟩ => ⟨S_, .f32⟩
  | .hbm, ⟨23, _⟩ => ⟨S9216x8192, .f32⟩
  | .hbm, ⟨24, _⟩ => ⟨S9216x8192, .f32⟩
  | .hbm, ⟨25, _⟩ => ⟨S9216x8192, .f32⟩
  | .hbm, ⟨26, _⟩ => ⟨S9216x2048, .f32⟩
  | .hbm, ⟨27, _⟩ => ⟨S9216x2048, .f32⟩
  | .hbm, ⟨28, _⟩ => ⟨S9216x2048, .f32⟩
  | .hbm, ⟨29, _⟩ => ⟨S_, .f32⟩
  | .hbm, ⟨30, _⟩ => ⟨S9216, .f32⟩
  | .hbm, ⟨31, _⟩ => ⟨S9216x1, .f32⟩
  | .hbm, ⟨32, _⟩ => ⟨S_, .f32⟩
  | .hbm, ⟨33, _⟩ => ⟨S9216x1, .f32⟩
  | .hbm, ⟨34, _⟩ => ⟨S9216x1, .f32⟩
  | .hbm, ⟨35, _⟩ => ⟨S_, .f32⟩
  | .hbm, ⟨36, _⟩ => ⟨S9216x1, .f32⟩
  | .hbm, ⟨37, _⟩ => ⟨S9216x1, .f32⟩
  | .hbm, ⟨38, _⟩ => ⟨S9216x1, .f32⟩
  | .hbm, ⟨39, _⟩ => ⟨S9216x2048, .f32⟩
  | .hbm, ⟨40, _⟩ => ⟨S9216x2048, .f32⟩
  | .hbm, ⟨41, _⟩ => ⟨S1x2048, .f32⟩
  | .hbm, ⟨42, _⟩ => ⟨S9216x2048, .f32⟩
  | .hbm, ⟨43, _⟩ => ⟨S9216x2048, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Kernel3.lean ====
abbrev S9216x2048 : Shape := ⟨2, ![9216, 2048]⟩
abbrev S2048 : Shape := ⟨1, ![2048]⟩
abbrev S2048x8192 : Shape := ⟨2, ![2048, 8192]⟩
abbrev S8192x2048 : Shape := ⟨2, ![8192, 2048]⟩
abbrev S1x2048 : Shape := ⟨2, ![1, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 10
  | .vmem => 12
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S2048, .f32⟩
  | .hbm, ⟨5, _⟩ => ⟨S2048x8192, .bf16⟩
  | .hbm, ⟨6, _⟩ => ⟨S8192x2048, .bf16⟩
  | .hbm, ⟨7, _⟩ => ⟨S1x2048, .f32⟩
  | .hbm, ⟨8, _⟩ => ⟨S1x2048, .f32⟩
  | .hbm, ⟨9, _⟩ => ⟨S9216x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S512x2048, .bf16⟩
  | .local _ .vmem, ⟨6, _⟩ => ⟨S512x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .f32⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![18, 16], ![false, false]⟩

def k0_cond2 (i : grid0.Coords) : BitVec 1 :=
  let arg1 : BitVec 32 := BitVec.ofNat 32 (i 1).val
  let c15_i32 : BitVec 32 := 15#32
  let v19 : BitVec 1 := Scalar.cmpi .eq arg1 c15_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference3Ideal.lean ====
abbrev S9216x2048 : Shape := ⟨2, ![9216, 2048]⟩
abbrev S2048 : Shape := ⟨1, ![2048]⟩
abbrev S2048x8192 : Shape := ⟨2, ![2048, 8192]⟩
abbrev S8192x2048 : Shape := ⟨2, ![8192, 2048]⟩
abbrev S_ : Shape := ⟨0, ![]⟩
abbrev S9216 : Shape := ⟨1, ![9216]⟩
abbrev S9216x1 : Shape := ⟨2, ![9216, 1]⟩
abbrev S1x2048 : Shape := ⟨2, ![1, 2048]⟩
abbrev S9216x8192 : Shape := ⟨2, ![9216, 8192]⟩

abbrev nBuf : Space → Nat
  | .hbm => 28
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S2048, .f32⟩
  | .hbm, ⟨5, _⟩ => ⟨S9216x2048, .f32⟩
  | .hbm, ⟨6, _⟩ => ⟨S_, .f32⟩
  | .hbm, ⟨7, _⟩ => ⟨S9216, .f32⟩
  | .hbm, ⟨8, _⟩ => ⟨S9216x1, .f32⟩
  | .hbm, ⟨9, _⟩ => ⟨S_, .f32⟩
  | .hbm, ⟨10, _⟩ => ⟨S9216x1, .f32⟩
  | .hbm, ⟨11, _⟩ => ⟨S9216x1, .f32⟩
  | .hbm, ⟨12, _⟩ => ⟨S_, .f32⟩
  | .hbm, ⟨13, _⟩ => ⟨S9216x1, .f32⟩
  | .hbm, ⟨14, _⟩ => ⟨S9216x1, .f32⟩
  | .hbm, ⟨15, _⟩ => ⟨S9216x1, .f32⟩
  | .hbm, ⟨16, _⟩ => ⟨S9216x2048, .f32⟩
  | .hbm, ⟨17, _⟩ => ⟨S9216x2048, .f32⟩
  | .hbm, ⟨18, _⟩ => ⟨S1x2048, .f32⟩
  | .hbm, ⟨19, _⟩ => ⟨S9216x2048, .f32⟩
  | .hbm, ⟨20, _⟩ => ⟨S9216x2048, .f32⟩
  | .hbm, ⟨21, _⟩ => ⟨S9216x8192, .f32⟩
  | .hbm, ⟨22, _⟩ => ⟨S_, .f32⟩
  | .hbm, ⟨23, _⟩ => ⟨S9216x8192, .f32⟩
  | .hbm, ⟨24, _⟩ => ⟨S9216x8192, .f32⟩
  | .hbm, ⟨25, _⟩ => ⟨S9216x8192, .f32⟩
  | .hbm, ⟨26, _⟩ => ⟨S9216x2048, .f32⟩
  | .hbm, ⟨27, _⟩ => ⟨S9216x2048, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Kernel4.lean ====
abbrev S9216x2048 : Shape := ⟨2, ![9216, 2048]⟩
abbrev S2048 : Shape := ⟨1, ![2048]⟩
abbrev S2048x7728 : Shape := ⟨2, ![2048, 7728]⟩
abbrev S2048x1536 : Shape := ⟨2, ![2048, 1536]⟩
abbrev S1x2048 : Shape := ⟨2, ![1, 2048]⟩
abbrev S9216x1536 : Shape := ⟨2, ![9216, 1536]⟩
abbrev S1024x2048 : Shape := ⟨2, ![1024, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S2048x7728, .f32⟩
  | .hbm, ⟨3, _⟩ => ⟨S2048x1536, .f32⟩
  | .hbm, ⟨4, _⟩ => ⟨S2048x1536, .bf16⟩
  | .hbm, ⟨5, _⟩ => ⟨S1x2048, .f32⟩
  | .hbm, ⟨6, _⟩ => ⟨S9216x1536, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x512, .f32⟩
  | .local _ .vmem, ⟨6, _⟩ => ⟨S1024x512, .f32⟩
  | .local _ .vmem, ⟨7, _⟩ => ⟨S1024x2048, .bf16⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![9, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S9216x2048 : Shape := ⟨2, ![9216, 2048]⟩
abbrev S2048 : Shape := ⟨1, ![2048]⟩
abbrev S2048x7728 : Shape := ⟨2, ![2048, 7728]⟩
abbrev S_ : Shape := ⟨0, ![]⟩
abbrev S9216 : Shape := ⟨1, ![9216]⟩
abbrev S9216x1 : Shape := ⟨2, ![9216, 1]⟩
abbrev S1x2048 : Shape := ⟨2, ![1, 2048]⟩
abbrev S9216x7728 : Shape := ⟨2, ![9216, 7728]⟩
abbrev S9216x1536 : Shape := ⟨2, ![9216, 1536]⟩

abbrev nBuf : Space → Nat
  | .hbm => 21
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S2048x7728, .f32⟩
  | .hbm, ⟨3, _⟩ => ⟨S9216x2048, .f32⟩
  | .hbm, ⟨4, _⟩ => ⟨S_, .f32⟩
  | .hbm, ⟨5, _⟩ => ⟨S9216, .f32⟩
  | .hbm, ⟨6, _⟩ => ⟨S9216x1, .f32⟩
  | .hbm, ⟨7, _⟩ => ⟨S_, .f32⟩
  | .hbm, ⟨8, _⟩ => ⟨S9216x1, .f32⟩
  | .hbm, ⟨9, _⟩ => ⟨S9216x1, .f32⟩
  | .hbm, ⟨10, _⟩ => ⟨S_, .f32⟩
  | .hbm, ⟨11, _⟩ => ⟨S9216x1, .f32⟩
  | .hbm, ⟨12, _⟩ => ⟨S9216x1, .f32⟩
  | .hbm, ⟨13, _⟩ => ⟨S9216x1, .f32⟩
  | .hbm, ⟨14, _⟩ => ⟨S9216x2048, .f32⟩
  | .hbm, ⟨15, _⟩ => ⟨S9216x2048, .f32⟩
  | .hbm, ⟨16, _⟩ => ⟨S1x2048, .f32⟩
  | .hbm, ⟨17, _⟩ => ⟨S9216x2048, .f32⟩
  | .hbm, ⟨18, _⟩ => ⟨S9216x2048, .f32⟩
  | .hbm, ⟨19, _⟩ => ⟨S9216x7728, .f32⟩
  | .hbm, ⟨20, _⟩ => ⟨S9216x1536, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel5.lean ====
abbrev S9216x2048 : Shape := ⟨2, ![9216, 2048]⟩
abbrev S2048 : Shape := ⟨1, ![2048]⟩
abbrev S2048x7728 : Shape := ⟨2, ![2048, 7728]⟩
abbrev S2048x1024 : Shape := ⟨2, ![2048, 1024]⟩
abbrev S1x2048 : Shape := ⟨2, ![1, 2048]⟩
abbrev S9216x1024 : Shape := ⟨2, ![9216, 1024]⟩
abbrev S1024x2048 : Shape := ⟨2, ![1024, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S2048x7728, .f32⟩
  | .hbm, ⟨3, _⟩ => ⟨S2048x1024, .f32⟩
  | .hbm, ⟨4, _⟩ => ⟨S2048x1024, .bf16⟩
  | .hbm, ⟨5, _⟩ => ⟨S1x2048, .f32⟩
  | .hbm, ⟨6, _⟩ => ⟨S9216x1024, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x512, .f32⟩
  | .local _ .vmem, ⟨6, _⟩ => ⟨S1024x512, .f32⟩
  | .local _ .vmem, ⟨7, _⟩ => ⟨S1024x2048, .bf16⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![9, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S9216x2048 : Shape := ⟨2, ![9216, 2048]⟩
abbrev S2048 : Shape := ⟨1, ![2048]⟩
abbrev S2048x7728 : Shape := ⟨2, ![2048, 7728]⟩
abbrev S_ : Shape := ⟨0, ![]⟩
abbrev S9216 : Shape := ⟨1, ![9216]⟩
abbrev S9216x1 : Shape := ⟨2, ![9216, 1]⟩
abbrev S1x2048 : Shape := ⟨2, ![1, 2048]⟩
abbrev S9216x7728 : Shape := ⟨2, ![9216, 7728]⟩
abbrev S9216x1024 : Shape := ⟨2, ![9216, 1024]⟩

abbrev nBuf : Space → Nat
  | .hbm => 21
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S2048x7728, .f32⟩
  | .hbm, ⟨3, _⟩ => ⟨S9216x2048, .f32⟩
  | .hbm, ⟨4, _⟩ => ⟨S_, .f32⟩
  | .hbm, ⟨5, _⟩ => ⟨S9216, .f32⟩
  | .hbm, ⟨6, _⟩ => ⟨S9216x1, .f32⟩
  | .hbm, ⟨7, _⟩ => ⟨S_, .f32⟩
  | .hbm, ⟨8, _⟩ => ⟨S9216x1, .f32⟩
  | .hbm, ⟨9, _⟩ => ⟨S9216x1, .f32⟩
  | .hbm, ⟨10, _⟩ => ⟨S_, .f32⟩
  | .hbm, ⟨11, _⟩ => ⟨S9216x1, .f32⟩
  | .hbm, ⟨12, _⟩ => ⟨S9216x1, .f32⟩
  | .hbm, ⟨13, _⟩ => ⟨S9216x1, .f32⟩
  | .hbm, ⟨14, _⟩ => ⟨S9216x2048, .f32⟩
  | .hbm, ⟨15, _⟩ => ⟨S9216x2048, .f32⟩
  | .hbm, ⟨16, _⟩ => ⟨S1x2048, .f32⟩
  | .hbm, ⟨17, _⟩ => ⟨S9216x2048, .f32⟩
  | .hbm, ⟨18, _⟩ => ⟨S9216x2048, .f32⟩
  | .hbm, ⟨19, _⟩ => ⟨S9216x7728, .f32⟩
  | .hbm, ⟨20, _⟩ => ⟨S9216x1024, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel6.lean ====
abbrev S9216x2048 : Shape := ⟨2, ![9216, 2048]⟩
abbrev S2048 : Shape := ⟨1, ![2048]⟩
abbrev S2048x7728 : Shape := ⟨2, ![2048, 7728]⟩
abbrev S2048x4096 : Shape := ⟨2, ![2048, 4096]⟩
abbrev S1x2048 : Shape := ⟨2, ![1, 2048]⟩
abbrev S9216x4096 : Shape := ⟨2, ![9216, 4096]⟩
abbrev S1024x2048 : Shape := ⟨2, ![1024, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S2048x7728, .f32⟩
  | .hbm, ⟨3, _⟩ => ⟨S2048x4096, .f32⟩
  | .hbm, ⟨4, _⟩ => ⟨S2048x4096, .bf16⟩
  | .hbm, ⟨5, _⟩ => ⟨S1x2048, .f32⟩
  | .hbm, ⟨6, _⟩ => ⟨S9216x4096, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x512, .bf16⟩
  | .local _ .vmem, ⟨6, _⟩ => ⟨S1024x512, .bf16⟩
  | .local _ .vmem, ⟨7, _⟩ => ⟨S1024x2048, .bf16⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![9, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S9216x2048 : Shape := ⟨2, ![9216, 2048]⟩
abbrev S2048 : Shape := ⟨1, ![2048]⟩
abbrev S2048x7728 : Shape := ⟨2, ![2048, 7728]⟩
abbrev S_ : Shape := ⟨0, ![]⟩
abbrev S9216 : Shape := ⟨1, ![9216]⟩
abbrev S9216x1 : Shape := ⟨2, ![9216, 1]⟩
abbrev S1x2048 : Shape := ⟨2, ![1, 2048]⟩
abbrev S9216x7728 : Shape := ⟨2, ![9216, 7728]⟩
abbrev S9216x4096 : Shape := ⟨2, ![9216, 4096]⟩

abbrev nBuf : Space → Nat
  | .hbm => 30
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S2048x7728, .f32⟩
  | .hbm, ⟨3, _⟩ => ⟨S9216x2048, .f32⟩
  | .hbm, ⟨4, _⟩ => ⟨S_, .f32⟩
  | .hbm, ⟨5, _⟩ => ⟨S9216, .f32⟩
  | .hbm, ⟨6, _⟩ => ⟨S9216x1, .f32⟩
  | .hbm, ⟨7, _⟩ => ⟨S_, .f32⟩
  | .hbm, ⟨8, _⟩ => ⟨S9216x1, .f32⟩
  | .hbm, ⟨9, _⟩ => ⟨S9216x1, .f32⟩
  | .hbm, ⟨10, _⟩ => ⟨S_, .f32⟩
  | .hbm, ⟨11, _⟩ => ⟨S9216x1, .f32⟩
  | .hbm, ⟨12, _⟩ => ⟨S9216x1, .f32⟩
  | .hbm, ⟨13, _⟩ => ⟨S9216x1, .f32⟩
  | .hbm, ⟨14, _⟩ => ⟨S9216x2048, .f32⟩
  | .hbm, ⟨15, _⟩ => ⟨S9216x2048, .f32⟩
  | .hbm, ⟨16, _⟩ => ⟨S1x2048, .f32⟩
  | .hbm, ⟨17, _⟩ => ⟨S9216x2048, .f32⟩
  | .hbm, ⟨18, _⟩ => ⟨S9216x2048, .f32⟩
  | .hbm, ⟨19, _⟩ => ⟨S9216x7728, .f32⟩
  | .hbm, ⟨20, _⟩ => ⟨S9216x4096, .f32⟩
  | .hbm, ⟨21, _⟩ => ⟨S9216x4096, .f32⟩
  | .hbm, ⟨22, _⟩ => ⟨S9216x4096, .f32⟩
  | .hbm, ⟨23, _⟩ => ⟨S_, .f32⟩
  | .hbm, ⟨24, _⟩ => ⟨S9216x4096, .f32⟩
  | .hbm, ⟨25, _⟩ => ⟨S9216x4096, .f32⟩
  | .hbm, ⟨26, _⟩ => ⟨S_, .f32⟩
  | .hbm, ⟨27, _⟩ => ⟨S9216x4096, .f32⟩
  | .hbm, ⟨28, _⟩ => ⟨S9216x4096, .f32⟩
  | .hbm, ⟨29, _⟩ => ⟨S9216x4096, .bf16⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel7.lean ====
abbrev S9216x2048 : Shape := ⟨2, ![9216, 2048]⟩
abbrev S2048 : Shape := ⟨1, ![2048]⟩
abbrev S2048x7728 : Shape := ⟨2, ![2048, 7728]⟩
abbrev S2048x1024 : Shape := ⟨2, ![2048, 1024]⟩
abbrev S_ : Shape := ⟨0, ![]⟩
abbrev S1x2048 : Shape := ⟨2, ![1, 2048]⟩
abbrev S9216x1024 : Shape := ⟨2, ![9216, 1024]⟩
abbrev S1024x2048 : Shape := ⟨2, ![1024, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 10
  | .vmem => 8
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S2048x7728, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S2048x1024, .bf16⟩
  | .hbm, ⟨8, _⟩ => ⟨S1x2048, .f32⟩
  | .hbm, ⟨9, _⟩ => ⟨S9216x1024, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x512, .bf16⟩
  | .local _ .vmem, ⟨6, _⟩ => ⟨S1024x512, .bf16⟩
  | .local _ .vmem, ⟨7, _⟩ => ⟨S1024x2048, .bf16⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![9, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S9216x2048 : Shape := ⟨2, ![9216, 2048]⟩
abbrev S2048 : Shape := ⟨1, ![2048]⟩
abbrev S2048x7728 : Shape := ⟨2, ![2048, 7728]⟩
abbrev S_ : Shape := ⟨0, ![]⟩
abbrev S9216 : Shape := ⟨1, ![9216]⟩
abbrev S9216x1 : Shape := ⟨2, ![9216, 1]⟩
abbrev S1x2048 : Shape := ⟨2, ![1, 2048]⟩
abbrev S9216x7728 : Shape := ⟨2, ![9216, 7728]⟩
abbrev S9216x1024 : Shape := ⟨2, ![9216, 1024]⟩

abbrev nBuf : Space → Nat
  | .hbm => 25
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S2048x7728, .f32⟩
  | .hbm, ⟨3, _⟩ => ⟨S9216x2048, .f32⟩
  | .hbm, ⟨4, _⟩ => ⟨S_, .f32⟩
  | .hbm, ⟨5, _⟩ => ⟨S9216, .f32⟩
  | .hbm, ⟨6, _⟩ => ⟨S9216x1, .f32⟩
  | .hbm, ⟨7, _⟩ => ⟨S_, .f32⟩
  | .hbm, ⟨8, _⟩ => ⟨S9216x1, .f32⟩
  | .hbm, ⟨9, _⟩ => ⟨S9216x1, .f32⟩
  | .hbm, ⟨10, _⟩ => ⟨S_, .f32⟩
  | .hbm, ⟨11, _⟩ => ⟨S9216x1, .f32⟩
  | .hbm, ⟨12, _⟩ => ⟨S9216x1, .f32⟩
  | .hbm, ⟨13, _⟩ => ⟨S9216x1, .f32⟩
  | .hbm, ⟨14, _⟩ => ⟨S9216x2048, .f32⟩
  | .hbm, ⟨15, _⟩ => ⟨S9216x2048, .f32⟩
  | .hbm, ⟨16, _⟩ => ⟨S1x2048, .f32⟩
  | .hbm, ⟨17, _⟩ => ⟨S9216x2048, .f32⟩
  | .hbm, ⟨18, _⟩ => ⟨S9216x2048, .f32⟩
  | .hbm, ⟨19, _⟩ => ⟨S9216x7728, .f32⟩
  | .hbm, ⟨20, _⟩ => ⟨S9216x1024, .f32⟩
  | .hbm, ⟨21, _⟩ => ⟨S_, .f32⟩
  | .hbm, ⟨22, _⟩ => ⟨S9216x1024, .f32⟩
  | .hbm, ⟨23, _⟩ => ⟨S9216x1024, .f32⟩
  | .hbm, ⟨24, _⟩ => ⟨S9216x1024, .bf16⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel8.lean ====
abbrev S9216x1024 : Shape := ⟨2, ![9216, 1024]⟩
abbrev S1024x2048 : Shape := ⟨2, ![1024, 2048]⟩
abbrev S9216x4096 : Shape := ⟨2, ![9216, 4096]⟩
abbrev S9216x2048 : Shape := ⟨2, ![9216, 2048]⟩
abbrev S1024x1024 : Shape := ⟨2, ![1024, 1024]⟩
abbrev S1024x512 : Shape := ⟨2, ![1024, 512]⟩

abbrev nBuf : Space → Nat
  | .hbm => 8
  | .vmem => 14
  | .smem => 0
  | _ => 0

abbrev bufTy : (tb : Table) → Fin (tcTables nBuf tb) → BufTy
  | .hbm, ⟨0, _⟩ => ⟨S9216x1024, .bf16⟩
  | .hbm, ⟨1, _⟩ => ⟨S9216x1024, .bf16⟩
  | .hbm, ⟨2, _⟩ => ⟨S1024x2048, .f32⟩
  | .hbm, ⟨3, _⟩ => ⟨S1024x2048, .f32⟩
  | .hbm, ⟨4, _⟩ => ⟨S9216x4096, .bf16⟩
  | .hbm, ⟨5, _⟩ => ⟨S1024x2048, .bf16⟩
  | .hbm, ⟨6, _⟩ => ⟨S1024x2048, .bf16⟩
  | .hbm, ⟨7, _⟩ => ⟨S9216x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![9, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference8Ideal.lean ====
abbrev S9216x1024 : Shape := ⟨2, ![9216, 1024]⟩
abbrev S1024x2048 : Shape := ⟨2, ![1024, 2048]⟩
abbrev S9216x4096 : Shape := ⟨2, ![9216, 4096]⟩
abbrev S9216x2x2048 : Shape := ⟨3, ![9216, 2, 2048]⟩
abbrev S9216x1x2048 : Shape := ⟨3, ![9216, 1, 2048]⟩
abbrev S9216x2048 : Shape := ⟨2, ![9216, 2048]⟩

abbrev nBuf : Space → Nat
  | .hbm => 19
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S9216x1024, .bf16⟩
  | .hbm, ⟨2, _⟩ => ⟨S1024x2048, .f32⟩
  | .hbm, ⟨3, _⟩ => ⟨S1024x2048, .f32⟩
  | .hbm, ⟨4, _⟩ => ⟨S9216x4096, .bf16⟩
  | .hbm, ⟨5, _⟩ => ⟨S9216x4096, .f32⟩
  | .hbm, ⟨6, _⟩ => ⟨S9216x2x2048, .f32⟩
  | .hbm, ⟨7, _⟩ => ⟨S9216x1x2048, .f32⟩
  | .hbm, ⟨8, _⟩ => ⟨S9216x2048, .f32⟩
  | .hbm, ⟨9, _⟩ => ⟨S9216x1024, .f32⟩
  | .hbm, ⟨10, _⟩ => ⟨S9216x2048, .f32⟩
  | .hbm, ⟨11, _⟩ => ⟨S9216x2048, .f32⟩
  | .hbm, ⟨12, _⟩ => ⟨S9216x1x2048, .f32⟩
  | .hbm, ⟨13, _⟩ => ⟨S9216x2048, .f32⟩
  | .hbm, ⟨14, _⟩ => ⟨S9216x1024, .f32⟩
  | .hbm, ⟨15, _⟩ => ⟨S9216x2048, .f32⟩
  | .hbm, ⟨16, _⟩ => ⟨S9216x2048, .f32⟩
  | .hbm, ⟨17, _⟩ => ⟨S9216x2048, .f32⟩
  | .hbm, ⟨18, _⟩ => ⟨S9216x2048, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel9.lean ====
abbrev S9216x2048 : Shape := ⟨2, ![9216, 2048]⟩
abbrev S2048x2048 : Shape := ⟨2, ![2048, 2048]⟩
abbrev S1024x512 : Shape := ⟨2, ![1024, 512]⟩
abbrev S1024x2048 : Shape := ⟨2, ![1024, 2048]⟩
abbrev S2048x512 : Shape := ⟨2, ![2048, 512]⟩

abbrev nBuf : Space → Nat
  | .hbm => 5
  | .vmem => 8
  | .smem => 0
  | _ => 0

abbrev bufTy : (tb : Table) → Fin (tcTables nBuf tb) → BufTy
  | .hbm, ⟨0, _⟩ => ⟨S9216x2048, .f32⟩
  | .hbm, ⟨1, _⟩ => ⟨S9216x2048, .bf16⟩
  | .hbm, ⟨2, _⟩ => ⟨S2048x2048, .f32⟩
  | .hbm, ⟨3, _⟩ => ⟨S2048x2048, .bf16⟩
  | .hbm, ⟨4, _⟩ => ⟨S9216x2048, .f32⟩
  | .local _ .vmem, ⟨0, _⟩ => ⟨S1024x512, .f32⟩
  | .local _ .vmem, ⟨1, _⟩ => ⟨S1024x512, .f32⟩
  | .local _ .vmem, ⟨2, _⟩ => ⟨S1024x2048, .bf16⟩
  | .local _ .vmem, ⟨3, _⟩ => ⟨S1024x2048, .bf16⟩
  | .local _ .vmem, ⟨4, _⟩ => ⟨S2048x512, .bf16⟩
  | .local _ .vmem, ⟨5, _⟩ => ⟨S2048x512, .bf16⟩
  | .local _ .vmem, ⟨6, _⟩ => ⟨S1024x512, .f32⟩
  | .local _ .vmem, ⟨7, _⟩ => ⟨S1024x512, .f32⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![9, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S9216x2048 : Shape := ⟨2, ![9216, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S9216x2048, .bf16⟩
  | .hbm, ⟨2, _⟩ => ⟨S2048x2048, .f32⟩
  | .hbm, ⟨3, _⟩ => ⟨S9216x2048, .f32⟩
  | .hbm, ⟨4, _⟩ => ⟨S9216x2048, .f32⟩
  | .hbm, ⟨5, _⟩ => ⟨S9216x2048, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel10.lean ====
abbrev S2560x128x2x4x64 : Shape := ⟨5, ![2560, 128, 2, 4, 64]⟩
abbrev S64x64 : Shape := ⟨2, ![64, 64]⟩
abbrev S4096x128 : Shape := ⟨2, ![4096, 128]⟩
abbrev S128x64 : Shape := ⟨2, ![128, 64]⟩
abbrev S64x64x128 : Shape := ⟨3, ![64, 64, 128]⟩
abbrev S_ : Shape := ⟨0, ![]⟩
abbrev S64x64x256 : Shape := ⟨3, ![64, 64, 256]⟩
abbrev S64x128x256 : Shape := ⟨3, ![64, 128, 256]⟩
abbrev S128x128 : Shape := ⟨2, ![128, 128]⟩
abbrev S256x128 : Shape := ⟨2, ![256, 128]⟩
abbrev S64x128 : Shape := ⟨2, ![64, 128]⟩
abbrev S1x64x128 : Shape := ⟨3, ![1, 64, 128]⟩
abbrev S2x64x128 : Shape := ⟨3, ![2, 64, 128]⟩
abbrev S1x64x128x256 : Shape := ⟨4, ![1, 64, 128, 256]⟩
abbrev S2x64x128x256 : Shape := ⟨4, ![2, 64, 128, 256]⟩
abbrev S1x256x128 : Shape := ⟨3, ![1, 256, 128]⟩
abbrev S2x256x128 : Shape := ⟨3, ![2, 256, 128]⟩
abbrev S327680x512 : Shape := ⟨2, ![327680, 512]⟩
abbrev S5120x512 : Shape := ⟨2, ![5120, 512]⟩
abbrev S8192x128 : Shape := ⟨2, ![8192, 128]⟩
abbrev S128x256 : Shape := ⟨2, ![128, 256]⟩
abbrev S1x1x128 : Shape := ⟨3, ![1, 1, 128]⟩
abbrev S1x128 : Shape := ⟨2, ![1, 128]⟩
abbrev S1x1x128x256 : Shape := ⟨4, ![1, 1, 128, 256]⟩

abbrev nBuf : Space → Nat
  | .hbm => 46
  | .vmem => 10
  | .smem => 0
  | _ => 0

abbrev bufTy : (tb : Table) → Fin (tcTables nBuf tb) → BufTy
  | .hbm, ⟨0, _⟩ => ⟨S2560x128x2x4x64, .f32⟩
  | .hbm, ⟨1, _⟩ => ⟨S64x64, .f32⟩
  | .hbm, ⟨2, _⟩ => ⟨S4096x128, .f32⟩
  | .hbm, ⟨3, _⟩ => ⟨S128x64, .f32⟩
  | .hbm, ⟨4, _⟩ => ⟨S64x64, .f32⟩
  | .hbm, ⟨5, _⟩ => ⟨S4096x128, .f32⟩
  | .hbm, ⟨6, _⟩ => ⟨S128x64, .f32⟩
  | .hbm, ⟨7, _⟩ => ⟨S64x64x128, .f32⟩
  | .hbm, ⟨8, _⟩ => ⟨S_, .f32⟩
  | .hbm, ⟨9, _⟩ => ⟨S64x64x128, .f32⟩
  | .hbm, ⟨10, _⟩ => ⟨S64x64x256, .f32⟩
  | .hbm, ⟨11, _⟩ => ⟨S64x64x256, .f32⟩
  | .hbm, ⟨12, _⟩ => ⟨S64x128x256, .f32⟩
  | .hbm, ⟨13, _⟩ => ⟨S_, .f32⟩
  | .hbm, ⟨14, _⟩ => ⟨S128x64, .f32⟩
  | .hbm, ⟨15, _⟩ => ⟨S128x128, .f32⟩
  | .hbm, ⟨16, _⟩ => ⟨S128x128, .f32⟩
  | .hbm, ⟨17, _⟩ => ⟨S256x128, .f32⟩
  | .hbm, ⟨18, _⟩ => ⟨S64x128, .f32⟩
  | .hbm, ⟨19, _⟩ => ⟨S64x128x256, .bf16⟩
  | .hbm, ⟨20, _⟩ => ⟨S256x128, .bf16⟩
  | .hbm, ⟨21, _⟩ => ⟨S64x64x128, .f32⟩
  | .hbm, ⟨22, _⟩ => ⟨S_, .f32⟩
  | .hbm, ⟨23, _⟩ => ⟨S64x64x128, .f32⟩
  | .hbm, ⟨24, _⟩ => ⟨S64x64x256, .f32⟩
  | .hbm, ⟨25, _⟩ => ⟨S64x64x256, .f32⟩
  | .hbm, ⟨26, _⟩ => ⟨S64x128x256, .f32⟩
  | .hbm, ⟨27, _⟩ => ⟨S_, .f32⟩
  | .hbm, ⟨28, _⟩ => ⟨S128x64, .f32⟩
  | .hbm, ⟨29, _⟩ => ⟨S128x128, .f32⟩
  | .hbm, ⟨30, _⟩ => ⟨S128x128, .f32⟩
  | .hbm, ⟨31, _⟩ => ⟨S256x128, .f32⟩
  | .hbm, ⟨32, _⟩ => ⟨S64x128, .f32⟩
  | .hbm, ⟨33, _⟩ => ⟨S64x128x256, .bf16⟩
  | .hbm, ⟨34, _⟩ => ⟨S256x128, .bf16⟩
  | .hbm, ⟨35, _⟩ => ⟨S1x64x128, .f32⟩
  | .hbm, ⟨36, _⟩ => ⟨S1x64x128, .f32⟩
  | .hbm, ⟨37, _⟩ => ⟨S2x64x128, .f32⟩
  | .hbm, ⟨38, _⟩ => ⟨S1x64x128x256, .bf16⟩
  | .hbm, ⟨39, _⟩ => ⟨S1x64x128x256, .bf16⟩
  | .hbm, ⟨40, _⟩ => ⟨S2x64x128x256, .bf16⟩
  | .hbm, ⟨41, _⟩ => ⟨S1x256x128, .bf16⟩
  | .hbm, ⟨42, _⟩ => ⟨S1x256x128, .bf16⟩
  | .hbm, ⟨43, _⟩ => ⟨S2x256x128, .bf16⟩
  | .hbm, ⟨44, _⟩ => ⟨S327680x512, .f32⟩
  | .hbm, ⟨45, _⟩ => ⟨S5120x512, .f32⟩
  | .local _ .vmem, ⟨0, _⟩ => ⟨S8192x128, .f32⟩
  | .local _ .vmem, ⟨1, _⟩ => ⟨S8192x128, .f32⟩
  | .local _ .vmem, ⟨2, _⟩ => ⟨S1x64x128, .f32⟩
  | .local _ .vmem, ⟨3, _⟩ => ⟨S1x64x128, .f32⟩
  | .local _ .vmem, ⟨4, _⟩ => ⟨S1x64x128x256, .bf16⟩
  | .local _ .vmem, ⟨5, _⟩ => ⟨S1x64x128x256, .bf16⟩
  | .local _ .vmem, ⟨6, _⟩ => ⟨S1x256x128, .bf16⟩
  | .local _ .vmem, ⟨7, _⟩ => ⟨S1x256x128, .bf16⟩
  | .local _ .vmem, ⟨8, _⟩ => ⟨S128x128, .f32⟩
  | .local _ .vmem, ⟨9, _⟩ => ⟨S128x128, .f32⟩
  | _, _ => ⟨S2560x128x2x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![40, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x64x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference10Ideal.lean ====
abbrev S2560x128x2x4x64 : Shape := ⟨5, ![2560, 128, 2, 4, 64]⟩
abbrev S64x64 : Shape := ⟨2, ![64, 64]⟩
abbrev S4096x128 : Shape := ⟨2, ![4096, 128]⟩
abbrev S128x64 : Shape := ⟨2, ![128, 64]⟩
abbrev S2560x128x1x4x64 : Shape := ⟨5, ![2560, 128, 1, 4, 64]⟩
abbrev S2560x128x4x64 : Shape := ⟨4, ![2560, 128, 4, 64]⟩
abbrev S2560x2x64x4x64 : Shape := ⟨5, ![2560, 2, 64, 4, 64]⟩
abbrev S1x1x64x1x64 : Shape := ⟨5, ![1, 1, 64, 1, 64]⟩
abbrev S2560x2x4x64x64 : Shape := ⟨5, ![2560, 2, 4, 64, 64]⟩
abbrev S2560x2x4x4096 : Shape := ⟨4, ![2560, 2, 4, 4096]⟩
abbrev S2560x2x4x128 : Shape := ⟨4, ![2560, 2, 4, 128]⟩
abbrev S_ : Shape := ⟨0, ![]⟩
abbrev S2560x2x4x64 : Shape := ⟨4, ![2560, 2, 4, 64]⟩
abbrev S2560x2x1x4x64 : Shape := ⟨5, ![2560, 2, 1, 4, 64]⟩
abbrev S2560x2x2x4x64 : Shape := ⟨5, ![2560, 2, 2, 4, 64]⟩
abbrev S5120x512 : Shape := ⟨2, ![5120, 512]⟩

abbrev nBuf : Space → Nat
  | .hbm => 65
  | .vmem => 0
  | .smem => 0
  | _ => 0

abbrev bufTy : (tb : Table) → Fin (tcTables nBuf tb) → BufTy
  | .hbm, ⟨0, _⟩ => ⟨S2560x128x2x4x64, .f32⟩
  | .hbm, ⟨1, _⟩ => ⟨S64x64, .f32⟩
  | .hbm, ⟨2, _⟩ => ⟨S4096x128, .f32⟩
  | .hbm, ⟨3, _⟩ => ⟨S128x64, .f32⟩
  | .hbm, ⟨4, _⟩ => ⟨S64x64, .f32⟩
  | .hbm, ⟨5, _⟩ => ⟨S4096x128, .f32⟩
  | .hbm, ⟨6, _⟩ => ⟨S128x64, .f32⟩
  | .hbm, ⟨7, _⟩ => ⟨S2560x128x1x4x64, .f32⟩
  | .hbm, ⟨8, _⟩ => ⟨S2560x128x4x64, .f32⟩
  | .hbm, ⟨9, _⟩ => ⟨S2560x2x64x4x64, .f32⟩
  | .hbm, ⟨10, _⟩ => ⟨S1x1x64x1x64, .f32⟩
  | .hbm, ⟨11, _⟩ => ⟨S2560x2x64x4x64, .f32⟩
  | .hbm, ⟨12, _⟩ => ⟨S2560x2x64x4x64, .f32⟩
  | .hbm, ⟨13, _⟩ => ⟨S2560x2x4x64x64, .f32⟩
  | .hbm, ⟨14, _⟩ => ⟨S2560x2x4x4096, .f32⟩
  | .hbm, ⟨15, _⟩ => ⟨S2560x2x4x128, .f32⟩
  | .hbm, ⟨16, _⟩ => ⟨S2560x2x4x128, .f32⟩
  | .hbm, ⟨17, _⟩ => ⟨S2560x2x4x128, .f32⟩
  | .hbm, ⟨18, _⟩ => ⟨S_, .f32⟩
  | .hbm, ⟨19, _⟩ => ⟨S2560x2x4x128, .f32⟩
  | .hbm, ⟨20, _⟩ => ⟨S2560x2x4x128, .f32⟩
  | .hbm, ⟨21, _⟩ => ⟨S2560x2x4x128, .f32⟩
  | .hbm, ⟨22, _⟩ => ⟨S_, .f32⟩
  | .hbm, ⟨23, _⟩ => ⟨S2560x2x4x128, .f32⟩
  | .hbm, ⟨24, _⟩ => ⟨S2560x2x4x128, .f32⟩
  | .hbm, ⟨25, _⟩ => ⟨S2560x2x4x128, .f32⟩
  | .hbm, ⟨26, _⟩ => ⟨S_, .f32⟩
  | .hbm, ⟨27, _⟩ => ⟨S2560x2x4x128, .f32⟩
  | .hbm, ⟨28, _⟩ => ⟨S2560x2x4x128, .f32⟩
  | .hbm, ⟨29, _⟩ => ⟨S_, .f32⟩
  | .hbm, ⟨30, _⟩ => ⟨S2560x2x4x128, .f32⟩
  | .hbm, ⟨31, _⟩ => ⟨S2560x2x4x128, .f32⟩
  | .hbm, ⟨32, _⟩ => ⟨S2560x2x4x128, .f32⟩
  | .hbm, ⟨33, _⟩ => ⟨S2560x2x4x64, .f32⟩
  | .hbm, ⟨34, _⟩ => ⟨S2560x128x1x4x64, .f32⟩
  | .hbm, ⟨35, _⟩ => ⟨S2560x128x4x64, .f32⟩
  | .hbm, ⟨36, _⟩ => ⟨S2560x2x64x4x64, .f32⟩
  | .hbm, ⟨37, _⟩ => ⟨S1x1x64x1x64, .f32⟩
  | .hbm, ⟨38, _⟩ => ⟨S2560x2x64x4x64, .f32⟩
  | .hbm, ⟨39, _⟩ => ⟨S2560x2x64x4x64, .f32⟩
  | .hbm, ⟨40, _⟩ => ⟨S2560x2x4x64x64, .f32⟩
  | .hbm, ⟨41, _⟩ => ⟨S2560x2x4x4096, .f32⟩
  | .hbm, ⟨42, _⟩ => ⟨S2560x2x4x128, .f32⟩
  | .hbm, ⟨43, _⟩ => ⟨S2560x2x4x128, .f32⟩
  | .hbm, ⟨44, _⟩ => ⟨S2560x2x4x128, .f32⟩
  | .hbm, ⟨45, _⟩ => ⟨S_, .f32⟩
  | .hbm, ⟨46, _⟩ => ⟨S2560x2x4x128, .f32⟩
  | .hbm, ⟨47, _⟩ => ⟨S2560x2x4x128, .f32⟩
  | .hbm, ⟨48, _⟩ => ⟨S2560x2x4x128, .f32⟩
  | .hbm, ⟨49, _⟩ => ⟨S_, .f32⟩
  | .hbm, ⟨50, _⟩ => ⟨S2560x2x4x128, .f32⟩
  | .hbm, ⟨51, _⟩ => ⟨S2560x2x4x128, .f32⟩
  | .hbm, ⟨52, _⟩ => ⟨S2560x2x4x128, .f32⟩
  | .hbm, ⟨53, _⟩ => ⟨S_, .f32⟩
  | .hbm, ⟨54, _⟩ => ⟨S2560x2x4x128, .f32⟩
  | .hbm, ⟨55, _⟩ => ⟨S2560x2x4x128, .f32⟩
  | .hbm, ⟨56, _⟩ => ⟨S_, .f32⟩
  | .hbm, ⟨57, _⟩ => ⟨S2560x2x4x128, .f32⟩
  | .hbm, ⟨58, _⟩ => ⟨S2560x2x4x128, .f32⟩
  | .hbm, ⟨59, _⟩ => ⟨S2560x2x4x128, .f32⟩
  | .hbm, ⟨60, _⟩ => ⟨S2560x2x4x64, .f32⟩
  | .hbm, ⟨61, _⟩ => ⟨S2560x2x1x4x64, .f32⟩
  | .hbm, ⟨62, _⟩ => ⟨S2560x2x1x4x64, .f32⟩
  | .hbm, ⟨63, _⟩ => ⟨S2560x2x2x4x64, .f32⟩
  | .hbm, ⟨64, _⟩ => ⟨S5120x512, .f32⟩
  | _, _ => ⟨S2560x128x2x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩

abbrev nD : Nat := 1
abbrev τ : Topo := Topo.v7x

variable {F : FTy → Type} [FloatOps F]
-- ==== Kernel11.lean ====
abbrev S9216x1536 : Shape := ⟨2, ![9216, 1536]⟩
abbrev S64x64 : Shape := ⟨2, ![64, 64]⟩
abbrev S4096x128 : Shape := ⟨2, ![4096, 128]⟩
abbrev S128x64 : Shape := ⟨2, ![128, 64]⟩
abbrev S64x64x128 : Shape := ⟨3, ![64, 64, 128]⟩
abbrev S_ : Shape := ⟨0, ![]⟩
abbrev S64x64x256 : Shape := ⟨3, ![64, 64, 256]⟩
abbrev S64x128x256 : Shape := ⟨3, ![64, 128, 256]⟩
abbrev S128x128 : Shape := ⟨2, ![128, 128]⟩
abbrev S256x128 : Shape := ⟨2, ![256, 128]⟩
abbrev S64x128 : Shape := ⟨2, ![64, 128]⟩
abbrev S1x64x128 : Shape := ⟨3, ![1, 64, 128]⟩
abbrev S2x64x128 : Shape := ⟨3, ![2, 64, 128]⟩
abbrev S1x64x128x256 : Shape := ⟨4, ![1, 64, 128, 256]⟩
abbrev S2x64x128x256 : Shape := ⟨4, ![2, 64, 128, 256]⟩
abbrev S1x256x128 : Shape := ⟨3, ![1, 256, 128]⟩
abbrev S2x256x128 : Shape := ⟨3, ![2, 256, 128]⟩
abbrev S128x512 : Shape := ⟨2, ![128, 512]⟩
abbrev S8192x128 : Shape := ⟨2, ![8192, 128]⟩
abbrev S128x256 : Shape := ⟨2, ![128, 256]⟩
abbrev S1x1x128 : Shape := ⟨3, ![1, 1, 128]⟩
abbrev S1x128 : Shape := ⟨2, ![1, 128]⟩
abbrev S1x1x128x256 : Shape := ⟨4, ![1, 1, 128, 256]⟩

abbrev nBuf : Space → Nat
  | .hbm => 45
  | .vmem => 10
  | .smem => 0
  | _ => 0

abbrev bufTy : (tb : Table) → Fin (tcTables nBuf tb) → BufTy
  | .hbm, ⟨0, _⟩ => ⟨S9216x1536, .f32⟩
  | .hbm, ⟨1, _⟩ => ⟨S64x64, .f32⟩
  | .hbm, ⟨2, _⟩ => ⟨S4096x128, .f32⟩
  | .hbm, ⟨3, _⟩ => ⟨S128x64, .f32⟩
  | .hbm, ⟨4, _⟩ => ⟨S64x64, .f32⟩
  | .hbm, ⟨5, _⟩ => ⟨S4096x128, .f32⟩
  | .hbm, ⟨6, _⟩ => ⟨S128x64, .f32⟩
  | .hbm, ⟨7, _⟩ => ⟨S64x64x128, .f32⟩
  | .hbm, ⟨8, _⟩ => ⟨S_, .f32⟩
  | .hbm, ⟨9, _⟩ => ⟨S64x64x128, .f32⟩
  | .hbm, ⟨10, _⟩ => ⟨S64x64x256, .f32⟩
  | .hbm, ⟨11, _⟩ => ⟨S64x64x256, .f32⟩
  | .hbm, ⟨12, _⟩ => ⟨S64x128x256, .f32⟩
  | .hbm, ⟨13, _⟩ => ⟨S_, .f32⟩
  | .hbm, ⟨14, _⟩ => ⟨S128x64, .f32⟩
  | .hbm, ⟨15, _⟩ => ⟨S128x128, .f32⟩
  | .hbm, ⟨16, _⟩ => ⟨S128x128, .f32⟩
  | .hbm, ⟨17, _⟩ => ⟨S256x128, .f32⟩
  | .hbm, ⟨18, _⟩ => ⟨S64x128, .f32⟩
  | .hbm, ⟨19, _⟩ => ⟨S64x128x256, .bf16⟩
  | .hbm, ⟨20, _⟩ => ⟨S256x128, .bf16⟩
  | .hbm, ⟨21, _⟩ => ⟨S64x64x128, .f32⟩
  | .hbm, ⟨22, _⟩ => ⟨S_, .f32⟩
  | .hbm, ⟨23, _⟩ => ⟨S64x64x128, .f32⟩
  | .hbm, ⟨24, _⟩ => ⟨S64x64x256, .f32⟩
  | .hbm, ⟨25, _⟩ => ⟨S64x64x256, .f32⟩
  | .hbm, ⟨26, _⟩ => ⟨S64x128x256, .f32⟩
  | .hbm, ⟨27, _⟩ => ⟨S_, .f32⟩
  | .hbm, ⟨28, _⟩ => ⟨S128x64, .f32⟩
  | .hbm, ⟨29, _⟩ => ⟨S128x128, .f32⟩
  | .hbm, ⟨30, _⟩ => ⟨S128x128, .f32⟩
  | .hbm, ⟨31, _⟩ => ⟨S256x128, .f32⟩
  | .hbm, ⟨32, _⟩ => ⟨S64x128, .f32⟩
  | .hbm, ⟨33, _⟩ => ⟨S64x128x256, .bf16⟩
  | .hbm, ⟨34, _⟩ => ⟨S256x128, .bf16⟩
  | .hbm, ⟨35, _⟩ => ⟨S1x64x128, .f32⟩
  | .hbm, ⟨36, _⟩ => ⟨S1x64x128, .f32⟩
  | .hbm, ⟨37, _⟩ => ⟨S2x64x128, .f32⟩
  | .hbm, ⟨38, _⟩ => ⟨S1x64x128x256, .bf16⟩
  | .hbm, ⟨39, _⟩ => ⟨S1x64x128x256, .bf16⟩
  | .hbm, ⟨40, _⟩ => ⟨S2x64x128x256, .bf16⟩
  | .hbm, ⟨41, _⟩ => ⟨S1x256x128, .bf16⟩
  | .hbm, ⟨42, _⟩ => ⟨S1x256x128, .bf16⟩
  | .hbm, ⟨43, _⟩ => ⟨S2x256x128, .bf16⟩
  | .hbm, ⟨44, _⟩ => ⟨S128x512, .f32⟩
  | .local _ .vmem, ⟨0, _⟩ => ⟨S8192x128, .f32⟩
  | .local _ .vmem, ⟨1, _⟩ => ⟨S8192x128, .f32⟩
  | .local _ .vmem, ⟨2, _⟩ => ⟨S1x64x128, .f32⟩
  | .local _ .vmem, ⟨3, _⟩ => ⟨S1x64x128, .f32⟩
  | .local _ .vmem, ⟨4, _⟩ => ⟨S1x64x128x256, .bf16⟩
  | .local _ .vmem, ⟨5, _⟩ => ⟨S1x64x128x256, .bf16⟩
  | .local _ .vmem, ⟨6, _⟩ => ⟨S1x256x128, .bf16⟩
  | .local _ .vmem, ⟨7, _⟩ => ⟨S1x256x128, .bf16⟩
  | .local _ .vmem, ⟨8, _⟩ => ⟨S128x128, .f32⟩
  | .local _ .vmem, ⟨9, _⟩ => ⟨S128x128, .f32⟩
  | _, _ => ⟨S9216x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x64x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference11Ideal.lean ====
abbrev S9216x1536 : Shape := ⟨2, ![9216, 1536]⟩
abbrev S64x64 : Shape := ⟨2, ![64, 64]⟩
abbrev S4096x128 : Shape := ⟨2, ![4096, 128]⟩
abbrev S128x64 : Shape := ⟨2, ![128, 64]⟩
abbrev S8192x512 : Shape := ⟨2, ![8192, 512]⟩
abbrev S2x4096x2x4x64 : Shape := ⟨5, ![2, 4096, 2, 4, 64]⟩
abbrev S2x4096x1x4x64 : Shape := ⟨5, ![2, 4096, 1, 4, 64]⟩
abbrev S2x4096x4x64 : Shape := ⟨4, ![2, 4096, 4, 64]⟩
abbrev S2x64x64x4x64 : Shape := ⟨5, ![2, 64, 64, 4, 64]⟩
abbrev S1x1x64x1x64 : Shape := ⟨5, ![1, 1, 64, 1, 64]⟩
abbrev S2x64x4x64x64 : Shape := ⟨5, ![2, 64, 4, 64, 64]⟩
abbrev S2x64x4x4096 : Shape := ⟨4, ![2, 64, 4, 4096]⟩
abbrev S2x64x4x128 : Shape := ⟨4, ![2, 64, 4, 128]⟩
abbrev S_ : Shape := ⟨0, ![]⟩
abbrev S2x64x4x64 : Shape := ⟨4, ![2, 64, 4, 64]⟩
abbrev S2x64x1x4x64 : Shape := ⟨5, ![2, 64, 1, 4, 64]⟩
abbrev S2x64x2x4x64 : Shape := ⟨5, ![2, 64, 2, 4, 64]⟩
abbrev S128x512 : Shape := ⟨2, ![128, 512]⟩

abbrev nBuf : Space → Nat
  | .hbm => 67
  | .vmem => 0
  | .smem => 0
  | _ => 0

abbrev bufTy : (tb : Table) → Fin (tcTables nBuf tb) → BufTy
  | .hbm, ⟨0, _⟩ => ⟨S9216x1536, .f32⟩
  | .hbm, ⟨1, _⟩ => ⟨S64x64, .f32⟩
  | .hbm, ⟨2, _⟩ => ⟨S4096x128, .f32⟩
  | .hbm, ⟨3, _⟩ => ⟨S128x64, .f32⟩
  | .hbm, ⟨4, _⟩ => ⟨S64x64, .f32⟩
  | .hbm, ⟨5, _⟩ => ⟨S4096x128, .f32⟩
  | .hbm, ⟨6, _⟩ => ⟨S128x64, .f32⟩
  | .hbm, ⟨7, _⟩ => ⟨S8192x512, .f32⟩
  | .hbm, ⟨8, _⟩ => ⟨S2x4096x2x4x64, .f32⟩
  | .hbm, ⟨9, _⟩ => ⟨S2x4096x1x4x64, .f32⟩
  | .hbm, ⟨10, _⟩ => ⟨S2x4096x4x64, .f32⟩
  | .hbm, ⟨11, _⟩ => ⟨S2x64x64x4x64, .f32⟩
  | .hbm, ⟨12, _⟩ => ⟨S1x1x64x1x64, .f32⟩
  | .hbm, ⟨13, _⟩ => ⟨S2x64x64x4x64, .f32⟩
  | .hbm, ⟨14, _⟩ => ⟨S2x64x64x4x64, .f32⟩
  | .hbm, ⟨15, _⟩ => ⟨S2x64x4x64x64, .f32⟩
  | .hbm, ⟨16, _⟩ => ⟨S2x64x4x4096, .f32⟩
  | .hbm, ⟨17, _⟩ => ⟨S2x64x4x128, .f32⟩
  | .hbm, ⟨18, _⟩ => ⟨S2x64x4x128, .f32⟩
  | .hbm, ⟨19, _⟩ => ⟨S2x64x4x128, .f32⟩
  | .hbm, ⟨20, _⟩ => ⟨S_, .f32⟩
  | .hbm, ⟨21, _⟩ => ⟨S2x64x4x128, .f32⟩
  | .hbm, ⟨22, _⟩ => ⟨S2x64x4x128, .f32⟩
  | .hbm, ⟨23, _⟩ => ⟨S2x64x4x128, .f32⟩
  | .hbm, ⟨24, _⟩ => ⟨S_, .f32⟩
  | .hbm, ⟨25, _⟩ => ⟨S2x64x4x128, .f32⟩
  | .hbm, ⟨26, _⟩ => ⟨S2x64x4x128, .f32⟩
  | .hbm, ⟨27, _⟩ => ⟨S2x64x4x128, .f32⟩
  | .hbm, ⟨28, _⟩ => ⟨S_, .f32⟩
  | .hbm, ⟨29, _⟩ => ⟨S2x64x4x128, .f32⟩
  | .hbm, ⟨30, _⟩ => ⟨S2x64x4x128, .f32⟩
  | .hbm, ⟨31, _⟩ => ⟨S_, .f32⟩
  | .hbm, ⟨32, _⟩ => ⟨S2x64x4x128, .f32⟩
  | .hbm, ⟨33, _⟩ => ⟨S2x64x4x128, .f32⟩
  | .hbm, ⟨34, _⟩ => ⟨S2x64x4x128, .f32⟩
  | .hbm, ⟨35, _⟩ => ⟨S2x64x4x64, .f32⟩
  | .hbm, ⟨36, _⟩ => ⟨S2x4096x1x4x64, .f32⟩
  | .hbm, ⟨37, _⟩ => ⟨S2x4096x4x64, .f32⟩
  | .hbm, ⟨38, _⟩ => ⟨S2x64x64x4x64, .f32⟩
  | .hbm, ⟨39, _⟩ => ⟨S1x1x64x1x64, .f32⟩
  | .hbm, ⟨40, _⟩ => ⟨S2x64x64x4x64, .f32⟩
  | .hbm, ⟨41, _⟩ => ⟨S2x64x64x4x64, .f32⟩
  | .hbm, ⟨42, _⟩ => ⟨S2x64x4x64x64, .f32⟩
  | .hbm, ⟨43, _⟩ => ⟨S2x64x4x4096, .f32⟩
  | .hbm, ⟨44, _⟩ => ⟨S2x64x4x128, .f32⟩
  | .hbm, ⟨45, _⟩ => ⟨S2x64x4x128, .f32⟩
  | .hbm, ⟨46, _⟩ => ⟨S2x64x4x128, .f32⟩
  | .hbm, ⟨47, _⟩ => ⟨S_, .f32⟩
  | .hbm, ⟨48, _⟩ => ⟨S2x64x4x128, .f32⟩
  | .hbm, ⟨49, _⟩ => ⟨S2x64x4x128, .f32⟩
  | .hbm, ⟨50, _⟩ => ⟨S2x64x4x128, .f32⟩
  | .hbm, ⟨51, _⟩ => ⟨S_, .f32⟩
  | .hbm, ⟨52, _⟩ => ⟨S2x64x4x128, .f32⟩
  | .hbm, ⟨53, _⟩ => ⟨S2x64x4x128, .f32⟩
  | .hbm, ⟨54, _⟩ => ⟨S2x64x4x128, .f32⟩
  | .hbm, ⟨55, _⟩ => ⟨S_, .f32⟩
  | .hbm, ⟨56, _⟩ => ⟨S2x64x4x128, .f32⟩
  | .hbm, ⟨57, _⟩ => ⟨S2x64x4x128, .f32⟩
  | .hbm, ⟨58, _⟩ => ⟨S_, .f32⟩
  | .hbm, ⟨59, _⟩ => ⟨S2x64x4x128, .f32⟩
  | .hbm, ⟨60, _⟩ => ⟨S2x64x4x128, .f32⟩
  | .hbm, ⟨61, _⟩ => ⟨S2x64x4x128, .f32⟩
  | .hbm, ⟨62, _⟩ => ⟨S2x64x4x64, .f32⟩
  | .hbm, ⟨63, _⟩ => ⟨S2x64x1x4x64, .f32⟩
  | .hbm, ⟨64, _⟩ => ⟨S2x64x1x4x64, .f32⟩
  | .hbm, ⟨65, _⟩ => ⟨S2x64x2x4x64, .f32⟩
  | .hbm, ⟨66, _⟩ => ⟨S128x512, .f32⟩
  | _, _ => ⟨S9216x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_3 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_4 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_cst_6 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩

abbrev nD : Nat := 1
abbrev τ : Topo := Topo.v7x

variable {F : FTy → Type} [FloatOps F]
-- ==== Proof.BSel.lean ====
/-
  The block selection of one query tile: the chain of comparisons that ranks the 64 blocks (before the mask is named).
-/
module

public import proofs.«01_k».proof.Proof.Gen.Kernel.Skeleton

@[expose] public section

set_option maxRecDepth 16384

noncomputable section

namespace Cert.Kernel.Nsa

open Idealize.ShloMosaic Cert.Kernel.Gen

section
variable {F : FTy → Type} [FloatOps F]

/-- The block selection of one query tile, from the token positions and the compressed probabilities. -/
@[irreducible] def selOf (v9 : IVec S128x1 32) (v34 : FVec F S512x64 .f32) : FVec F S128x64 .bf16 :=
  have v46 : IVec S128x64 32 := iota .tc S128x64 32 [1] iota_S128x64_d1_w32
  have v62 := k0_pay9 v9
  have v66 := k0_pay10 v9 v34
  have v80 := k0_pay11 v9 v34
  have v83 := k0_pay13 v9 v34
  have v85 := k0_pay14 v9 v34
  have v86 := k0_pay15
  have v132 := k0_pay16 v46 v66 v80 v83 v85 v86
  have v133 := k0_pay17 v66
  have v135 := k0_pay18 v66
  have v171 := k0_pay19 v46 v66 v132 v133 v135
  have v183 := k0_pay20 v46 v66
  have cst_45 : F .f32 := Scalar.ofBits .f32 0x3F800000#32
  have v223 := k0_pay21 v46 v66 v171 v183
  have v232 := k0_pay22 v46 v66
  have v275 := k0_pay23 v46 v66 v223 v232 cst_45
  have v278 := k0_pay25 v66
  have v280 := k0_pay26 v66
  have v281 := k0_pay27
  have v327 := k0_pay28 v46 v66 v275 v278 v280 v281
  have v328 := k0_pay29 v66
  have v330 := k0_pay30 v66
  have v366 := k0_pay31 v46 v66 v327 v328 v330
  have v378 := k0_pay32 v46 v66
  have cst_75 : F .f32 := Scalar.ofBits .f32 0x3F800000#32
  have v418 := k0_pay33 v46 v66 v366 v378
  have v427 := k0_pay34 v46 v66
  have v470 := k0_pay35 v46 v66 v418 v427 cst_75
  have v473 := k0_pay37 v66
  have v475 := k0_pay38 v66
  have v476 := k0_pay39
  have v522 := k0_pay40 v46 v66 v470 v473 v475 v476
  have v523 := k0_pay41 v66
  have v525 := k0_pay42 v66
  have v561 := k0_pay43 v46 v66 v522 v523 v525
  have v573 := k0_pay44 v46 v66
  have cst_105 : F .f32 := Scalar.ofBits .f32 0x3F800000#32
  have v613 := k0_pay45 v46 v66 v561 v573
  have v622 := k0_pay46 v46 v66
  have v665 := k0_pay47 v46 v66 v613 v622 cst_105
  have v668 := k0_pay49 v66
  have v670 := k0_pay50 v66
  have v671 := k0_pay51
  have v717 := k0_pay52 v46 v66 v665 v668 v670 v671
  have v718 := k0_pay53 v66
  have v720 := k0_pay54 v66
  have v756 := k0_pay55 v46 v66 v717 v718 v720
  have v768 := k0_pay56 v46 v66
  have cst_135 : F .f32 := Scalar.ofBits .f32 0x3F800000#32
  have v808 := k0_pay57 v46 v66 v756 v768
  have v817 := k0_pay58 v46 v66
  have v860 := k0_pay59 v46 v66 v808 v817 cst_135
  have v863 := k0_pay61 v66
  have v865 := k0_pay62 v66
  have v866 := k0_pay63
  have v906 := k0_pay64 v46 v62 v66 v860 v863 v865 v866
  v906

end

end Cert.Kernel.Nsa

end
-- ==== Proof.BFrame.lean ====
/-
  The attention kernel's (before the mask is named) whole launch: what each grid step leaves in the result's block, the proof data of the
  pipeline and the frame.
-/
module

public import proofs.«01_k».proof.Proof.BRun
public import Idealize.ShloMosaic.Lib.Claim

@[expose] public section

-- membership in a rectangle of production extents (`View.cover_of_tiled`): the elaborator's structural look
-- recurses once per coordinate of the long axes
set_option maxRecDepth 16384

noncomputable section

namespace Cert.Kernel.Nsa

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 8 tile its block, so they cover it. -/
theorem cover0_A_8 (c : Dev nD) (i : grid0.Coords) (arg3 : Memref sig .tc .vmem S128x256 .bf16) (harg3 : arg3.IsWhole) (arg4 : Memref sig .tc .vmem S1x1x64x64 .bf16) (harg4 : arg4.IsWhole) (arg5 : Memref sig .tc .vmem S1x1x64x64 .bf16) (harg5 : arg5.IsWhole) (arg6 : Memref sig .tc .vmem S1x1x4096x64 .bf16) (harg6 : arg6.IsWhole) (arg7 : Memref sig .tc .vmem S1x1x4096x64 .bf16) (harg7 : arg7.IsWhole) (arg8 : Memref sig .tc .vmem S1x1x4096x64 .bf16) (harg8 : arg8.IsWhole) (arg9 : Memref sig .tc .vmem S1x1x4096x64 .bf16) (harg9 : arg9.IsWhole) (arg10 : Memref sig .tc .vmem S128x128 .f32) (harg10 : arg10.IsWhole) (arg11 : Memref sig .tc .vmem S128x256 .bf16) (harg11 : arg11.IsWhole) (arg12 : Memref sig .tc .vmem S8x128x512 .f32) (harg12 : arg12.IsWhole)
    (x0 : Vec F S128x256 .bf16) (x1 : Vec F S1x1x64x64 .bf16) (x2 : Vec F S1x1x64x64 .bf16) (x3 : Vec F S1x1x4096x64 .bf16) (x4 : Vec F S1x1x4096x64 .bf16) (x5 : Vec F S1x1x4096x64 .bf16) (x6 : Vec F S1x1x4096x64 .bf16) (x7 : Vec F S128x128 .f32) (y : S128x256.Idx) :
    ∃ pc ∈ (kernelRun0_A c i arg3 harg3 arg4 harg4 arg5 harg5 arg6 harg6 arg7 harg7 arg8 harg8 arg9 harg9 arg10 harg10 arg11 harg11 arg12 harg12 x0 x1 x2 x3 x4 x5 x6 x7).1, y ∈ pc.1.set :=
  View.cover_of_tiledL (kernelRun0_A c i arg3 harg3 arg4 harg4 arg5 harg5 arg6 harg6 arg7 harg7 arg8 harg8 arg9 harg9 arg10 harg10 arg11 harg11 arg12 harg12 x0 x1 x2 x3 x4 x5 x6 x7).1 S128x256.size (by sl_kernel_rfl) y

/-- What the run leaves in output 8's staging buffer: its pieces read back over junk. -/
def out0_A_8 (c : Dev nD) (i : grid0.Coords) (arg3 : Memref sig .tc .vmem S128x256 .bf16) (harg3 : arg3.IsWhole) (arg4 : Memref sig .tc .vmem S1x1x64x64 .bf16) (harg4 : arg4.IsWhole) (arg5 : Memref sig .tc .vmem S1x1x64x64 .bf16) (harg5 : arg5.IsWhole) (arg6 : Memref sig .tc .vmem S1x1x4096x64 .bf16) (harg6 : arg6.IsWhole) (arg7 : Memref sig .tc .vmem S1x1x4096x64 .bf16) (harg7 : arg7.IsWhole) (arg8 : Memref sig .tc .vmem S1x1x4096x64 .bf16) (harg8 : arg8.IsWhole) (arg9 : Memref sig .tc .vmem S1x1x4096x64 .bf16) (harg9 : arg9.IsWhole) (arg10 : Memref sig .tc .vmem S128x128 .f32) (harg10 : arg10.IsWhole) (arg11 : Memref sig .tc .vmem S128x256 .bf16) (harg11 : arg11.IsWhole) (arg12 : Memref sig .tc .vmem S8x128x512 .f32) (harg12 : arg12.IsWhole)
    (x0 : Vec F S128x256 .bf16) (x1 : Vec F S1x1x64x64 .bf16) (x2 : Vec F S1x1x64x64 .bf16) (x3 : Vec F S1x1x4096x64 .bf16) (x4 : Vec F S1x1x4096x64 .bf16) (x5 : Vec F S1x1x4096x64 .bf16) (x6 : Vec F S1x1x4096x64 .bf16) (x7 : Vec F S128x128 .f32) : Vec F S128x256 .bf16 :=
  VO0_8.read (Elt F) (VO0_8.writes (Elt F) VO0_8.junk (kernelRun0_A c i arg3 harg3 arg4 harg4 arg5 harg5 arg6 harg6 arg7 harg7 arg8 harg8 arg9 harg9 arg10 harg10 arg11 harg11 arg12 harg12 x0 x1 x2 x3 x4 x5 x6 x7).1)

/-! ## What the outputs hold after each point -/

/-- What the outputs' staging buffers hold after the body at point `t`: the run's contents at
    the point's memrefs and input blocks. -/
def outsAt0 (c : Dev nD) (t : Fin cfg0.N) : Vec F S128x256 .bf16 :=
  out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (iblk m c 6 t) (iblk m c 7 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  unfold outsAt0
  unfold out0_A_8
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  iintro ⟨H0, H1, H2, H3, H4, H5, H6, H7, ⟨%e8, H8⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact View.read_writes_of_cover _ _ _ _ _ (cover0_A_8 c _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame at any values: the arguments end unchanged and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Nsa

end
-- ==== Proof.Softmax.lean ====
/-
  Masked softmax over the extended reals.

  A masked score is `⊥` where the mask is off and a real number where it is on. The weighted sum of such a
  softmax, a softmax computed in one pass, and the running softmax kept tile by tile are all the same quotient
  of two real sums over the unmasked entries.
-/
module

public import Idealize.ShloMosaic.PureOps.Ideal.Laws
public import Idealize.ShloMosaic.Lib.ValueIdx
public import Idealize.ShloMosaic.Lib.IdealHost

@[expose] public section

noncomputable section

namespace Cert.Nsa

open Idealize.ShloMosaic

variable {ι : Type} [Fintype ι]

/-- The greatest entry, from `⊥`. -/
def smax (x : ι → EReal) : EReal := Finset.univ.fold max ⊥ x

/-- The exponential of an entry less the greatest. -/
def ew (x : ι → EReal) (i : ι) : EReal := Ideal.exp (x i - smax x)

/-- Softmax of `x` at `i`. -/
def sm (x : ι → EReal) (i : ι) : EReal := Ideal.div (ew x i) (∑ j, ew x j)

/-- A score under a mask. -/
def msk (P : ι → Prop) [DecidablePred P] (s : ι → EReal) (i : ι) : EReal := if P i then s i else ⊥

theorem fold_max_cases (S : Finset ι) (x : ι → EReal) (hx : ∀ i ∈ S, x i = ⊥ ∨ ∃ r : ℝ, x i = r) :
    (S.fold max ⊥ x = ⊥ ∧ ∀ i ∈ S, x i = ⊥) ∨ ∃ r : ℝ, S.fold max ⊥ x = r := by
  classical
  induction S using Finset.induction_on with
  | empty => left; simp
  | insert a S ha ih =>
    rw [Finset.fold_insert ha]
    have ih' := ih fun i hi => hx i (Finset.mem_insert_of_mem hi)
    rcases hx a (Finset.mem_insert_self a S) with h | ⟨r, h⟩
    · rw [h, max_eq_right bot_le]
      rcases ih' with ⟨h1, h2⟩ | h1
      · left; refine ⟨h1, fun i hi => ?_⟩
        rcases Finset.mem_insert.1 hi with rfl | hi
        · exact h
        · exact h2 i hi
      · exact Or.inr h1
    · right
      rcases ih' with ⟨h1, _⟩ | ⟨r', h1⟩
      · exact ⟨r, by rw [h1, h, max_eq_left bot_le]⟩
      · exact ⟨max r r', by rw [h1, h]; exact (EReal.coe_strictMono.monotone.map_max (a := r) (b := r')).symm⟩

theorem smax_msk (P : ι → Prop) [DecidablePred P] (s : ι → ℝ) :
    (smax (msk P fun i => (s i : EReal)) = ⊥ ∧ ∀ i, ¬ P i) ∨ ∃ r : ℝ, smax (msk P fun i => (s i : EReal)) = r := by
  rcases fold_max_cases (Finset.univ : Finset ι) (msk P fun i => (s i : EReal)) (fun i _ => by
    unfold msk; split_ifs with h
    · exact Or.inr ⟨_, rfl⟩
    · exact Or.inl rfl) with ⟨h, h'⟩ | h
  · refine Or.inl ⟨h, fun i hi => ?_⟩
    have := h' i (Finset.mem_univ i)
    rw [msk, if_pos hi] at this
    exact EReal.coe_ne_bot _ this
  · exact Or.inr h

theorem exp_coe_sub (a b : ℝ) : Ideal.exp ((a : EReal) - (b : EReal)) = ((Real.exp (-b) * Real.exp a : ℝ) : EReal) := by
  rw [← EReal.coe_sub, Ideal.exp_coe, ← Real.exp_add]; congr 2; ring

theorem bot_sub' (a : EReal) : (⊥ : EReal) - a = ⊥ := by rw [sub_eq_add_neg, EReal.bot_add]

/-- The exponential of a masked score less a real. -/
theorem exp_msk (P : ι → Prop) [DecidablePred P] (s : ι → ℝ) (μ : ℝ) (i : ι) :
    Ideal.exp (msk P (fun i => (s i : EReal)) i - (μ : EReal)) = ((Real.exp (-μ) * (if P i then Real.exp (s i) else 0) : ℝ) : EReal) := by
  unfold msk; split_ifs with h
  · exact exp_coe_sub _ _
  · rw [bot_sub', Ideal.exp_bot, mul_zero, EReal.coe_zero]

theorem coe_sum' (f : ι → ℝ) : (∑ i, (f i : EReal)) = ((∑ i, f i : ℝ) : EReal) :=
  (map_sum (⟨⟨Real.toEReal, EReal.coe_zero⟩, EReal.coe_add⟩ : ℝ →+ EReal) f Finset.univ).symm

/-- The sum of the unmasked exponentials. -/
def den (P : ι → Prop) [DecidablePred P] (s : ι → ℝ) : ℝ := ∑ i, if P i then Real.exp (s i) else 0

/-- The sum of the unmasked exponentials, weighted. -/
def num (P : ι → Prop) [DecidablePred P] (s v : ι → ℝ) : ℝ := ∑ i, if P i then Real.exp (s i) * v i else 0

theorem den_nonneg (P : ι → Prop) [DecidablePred P] (s : ι → ℝ) : 0 ≤ den P s :=
  Finset.sum_nonneg fun i _ => by split_ifs; exacts [(Real.exp_pos _).le, le_rfl]

theorem den_pos (P : ι → Prop) [DecidablePred P] (s : ι → ℝ) (h : ∃ i, P i) : 0 < den P s := by
  obtain ⟨i, hi⟩ := h
  refine Finset.sum_pos' (fun i _ => by split_ifs; exacts [(Real.exp_pos _).le, le_rfl]) ⟨i, Finset.mem_univ i, ?_⟩
  rw [if_pos hi]; exact Real.exp_pos _

theorem div_coe_coe (a b : ℝ) (hb : b ≠ 0) : Ideal.div (a : EReal) (b : EReal) = ((a / b : ℝ) : EReal) := by
  rw [Ideal.div_coe hb, ← EReal.coe_mul]; congr 1; field_simp

/-- One entry of a masked softmax with an unmasked entry. -/
theorem sm_msk (P : ι → Prop) [DecidablePred P] (s : ι → ℝ) (h : ∃ i, P i) (i : ι) :
    sm (msk P fun i => (s i : EReal)) i = (((if P i then Real.exp (s i) else 0) / den P s : ℝ) : EReal) := by
  rcases smax_msk P s with ⟨_, h'⟩ | ⟨μ, hμ⟩
  · exact absurd h.choose_spec (h' _)
  · unfold sm ew
    simp only [hμ, exp_msk]
    rw [coe_sum', ← Finset.mul_sum]
    have hp : den P s ≠ 0 := (den_pos P s h).ne'
    have he : Real.exp (-μ) ≠ 0 := (Real.exp_pos _).ne'
    show Ideal.div _ ((Real.exp (-μ) * den P s : ℝ) : EReal) = _
    rw [div_coe_coe _ _ (mul_ne_zero he hp), mul_div_mul_left _ _ he]

theorem sm_msk_nonneg (P : ι → Prop) [DecidablePred P] (s : ι → ℝ) (h : ∃ i, P i) (i : ι) :
    0 ≤ sm (msk P fun i => (s i : EReal)) i := by
  rw [sm_msk P s h]
  exact EReal.coe_nonneg.2 (div_nonneg (by split_ifs; exacts [(Real.exp_pos _).le, le_rfl]) (den_nonneg P s))

/-- The values weighted by a masked softmax. -/
theorem sum_sm_msk (P : ι → Prop) [DecidablePred P] (s v : ι → ℝ) (h : ∃ i, P i) :
    (∑ i, sm (msk P fun i => (s i : EReal)) i * (v i : EReal)) = ((num P s v / den P s : ℝ) : EReal) := by
  simp only [sm_msk P s h, ← EReal.coe_mul]
  rw [coe_sum']; congr 1
  rw [num, Finset.sum_div]
  exact Finset.sum_congr rfl fun i _ => by split_ifs <;> ring

/-- The state of the running softmax: the greatest score so far, the sum of exponentials and the weighted sum,
    both rescaled by the greatest score. `Ls` and `As` are the sums without the rescaling. -/
def Run (Ls As : ℝ) (m l a : EReal) : Prop :=
  (m = ⊥ ∧ Ls = 0 ∧ As = 0 ∧ l = 0 ∧ a = 0) ∨
    ∃ μ : ℝ, m = μ ∧ l = ((Real.exp (-μ) * Ls : ℝ) : EReal) ∧ a = ((Real.exp (-μ) * As : ℝ) : EReal)

theorem Run.init : Run 0 0 ⊥ 0 0 := Or.inl ⟨rfl, rfl, rfl, rfl, rfl⟩

theorem exp_bot_sub (m : EReal) : Ideal.exp (⊥ - m) = 0 := by rw [bot_sub', Ideal.exp_bot]

/-- One tile of the running softmax. -/
theorem Run.step {Ls As : ℝ} {m l a : EReal} (h : Run Ls As m l a) (P : ι → Prop) [DecidablePred P] (s v : ι → ℝ)
    (m' : EReal) (hm' : m' = max m (smax (msk P fun i => (s i : EReal)))) :
    Run (Ls + den P s) (As + num P s v) m'
      (Ideal.exp (m - m') * l + ∑ i, Ideal.exp (msk P (fun i => (s i : EReal)) i - m'))
      (Ideal.exp (m - m') * a + ∑ i, Ideal.exp (msk P (fun i => (s i : EReal)) i - m') * (v i : EReal)) := by
  have key : ∀ μ' : ℝ, m' = μ' →
      (∑ i, Ideal.exp (msk P (fun i => (s i : EReal)) i - m')) = ((Real.exp (-μ') * den P s : ℝ) : EReal) ∧
      (∑ i, Ideal.exp (msk P (fun i => (s i : EReal)) i - m') * (v i : EReal)) = ((Real.exp (-μ') * num P s v : ℝ) : EReal) := by
    intro μ' h'
    simp only [h', exp_msk, ← EReal.coe_mul]
    rw [coe_sum', coe_sum', den, num, Finset.mul_sum, Finset.mul_sum]
    refine ⟨rfl, ?_⟩
    congr 1
    exact Finset.sum_congr rfl fun i _ => by split_ifs <;> ring
  have hcase : (smax (msk P fun i => (s i : EReal)) = ⊥ ∧ ∀ i, ¬ P i) ∨ ∃ r : ℝ, smax (msk P fun i => (s i : EReal)) = r := smax_msk P s
  rcases h with ⟨rfl, rfl, rfl, rfl, rfl⟩ | ⟨μ, rfl, rfl, rfl⟩
  · rcases hcase with ⟨h1, h2⟩ | ⟨r, h1⟩
    · left
      rw [h1, max_self] at hm'
      have hd : den P s = 0 := Finset.sum_eq_zero fun i _ => if_neg (h2 i)
      have hn : num P s v = 0 := Finset.sum_eq_zero fun i _ => if_neg (h2 i)
      have hz : ∀ i, Ideal.exp (msk P (fun i => (s i : EReal)) i - m') = 0 := fun i => by
        rw [msk, if_neg (h2 i), exp_bot_sub]
      refine ⟨hm', by rw [hd, add_zero], by rw [hn, add_zero], ?_, ?_⟩ <;> simp [hz, exp_bot_sub]
    · right
      rw [h1, max_eq_right bot_le] at hm'
      obtain ⟨k1, k2⟩ := key r hm'
      refine ⟨r, hm', ?_, ?_⟩
      · rw [exp_bot_sub, k1, mul_zero, zero_add, zero_add]
      · rw [exp_bot_sub, k2, mul_zero, zero_add, zero_add]
  · have hr : ∃ μ' : ℝ, m' = μ' := by
      rcases hcase with ⟨h1, _⟩ | ⟨r, h1⟩
      · exact ⟨μ, by rw [hm', h1, max_eq_left bot_le]⟩
      · exact ⟨max μ r, by rw [hm', h1]; exact (EReal.coe_strictMono.monotone.map_max (a := μ) (b := r)).symm⟩
    obtain ⟨μ', hμ'⟩ := hr
    obtain ⟨k1, k2⟩ := key μ' hμ'
    right
    refine ⟨μ', hμ', ?_, ?_⟩
    · rw [k1, hμ', exp_coe_sub, ← EReal.coe_mul, ← EReal.coe_add]; congr 1
      have : Real.exp μ * Real.exp (-μ) = 1 := by rw [← Real.exp_add, add_neg_cancel, Real.exp_zero]
      linear_combination (Real.exp (-μ') * Ls) * this
    · rw [k2, hμ', exp_coe_sub, ← EReal.coe_mul, ← EReal.coe_add]; congr 1
      have : Real.exp μ * Real.exp (-μ) = 1 := by rw [← Real.exp_add, add_neg_cancel, Real.exp_zero]
      linear_combination (Real.exp (-μ') * As) * this

/-- The quotient the running softmax ends with. -/
theorem Run.div {Ls As : ℝ} {m l a : EReal} (h : Run Ls As m l a) (hL : 0 < Ls) :
    Ideal.div a l = ((As / Ls : ℝ) : EReal) := by
  rcases h with ⟨_, rfl, _⟩ | ⟨μ, _, rfl, rfl⟩
  · exact absurd hL (lt_irrefl _)
  · have he : Real.exp (-μ) ≠ 0 := (Real.exp_pos _).ne'
    rw [div_coe_coe _ _ (mul_ne_zero he hL.ne'), mul_div_mul_left _ _ he]

end Cert.Nsa
-- ==== Proof.Rank.lean ====
/-
  The rank of an entry in a list sorted with the greater first, ties by position, and the stable sort that
  realises it.
-/
module

public import Idealize.ShloMosaic.PureOps.Ideal.Laws
public import Idealize.ShloMosaic.Lib.SortFacts
public import Idealize.ShloMosaic.Lib.SortPrefix

@[expose] public section

noncomputable section

namespace Cert.Nsa

open Idealize.ShloMosaic

variable {n : ℕ}

/-- `a` comes before `b`: greater, or equal and earlier. -/
def Bef (x : Fin n → EReal) (a b : Fin n) : Prop := x b < x a ∨ (x a = x b ∧ a < b)

open Classical in
/-- The number of entries that come before `b`. -/
def rk (x : Fin n → EReal) (b : Fin n) : ℕ := (Finset.univ.filter fun a => Bef x a b).card

open Classical in
/-- The order as a Boolean. -/
def befB (x : Fin n → EReal) (a b : Fin n) : Bool := decide (x b < x a) || (decide (x a = x b) && decide (a < b))

theorem befB_iff (x : Fin n → EReal) (a b : Fin n) : befB x a b = true ↔ Bef x a b := by
  simp [befB, Bef]

theorem befB_total (x : Fin n → EReal) : StrictTotalBefore (befB x) := by
  classical
  exact StrictTotalBefore.of_key_then_position (fun a b : EReal => decide (b < a)) x (by simp)
    (fun a b c h h' => by simp at *; exact h'.trans h)
    (fun a b => by
      rcases lt_trichotomy a b with h | h | h
      · exact Or.inr (Or.inr (by simpa using h))
      · exact Or.inr (Or.inl h)
      · exact Or.inl (by simpa using h))

open Classical in
theorem stableSort_befB (x : Fin n → EReal) (l : List (Fin n)) (hl : l.Pairwise (· < ·)) :
    stableSort (fun a b => decide (x b < x a)) l = stableSort (befB x) l := by
  induction l with
  | nil => rfl
  | cons a l ih =>
    have h := List.pairwise_cons.1 hl
    show insertBefore _ a (stableSort _ l) = insertBefore _ a (stableSort _ l)
    rw [ih h.2]
    refine insertBefore_congr _ _ a _ fun b hb => ?_
    have hb' : a < b := h.1 b ((perm_stableSort _ l).mem_iff.1 hb)
    simp [befB, not_lt_of_gt hb']

open Classical in
theorem sortedFrom_befB (x : Fin n → EReal) (k : Fin n) :
    sortedFrom (fun a b => decide (x b < x a)) k = sortedFrom (befB x) k := by
  unfold sortedFrom sortPositions
  simp only [List.get_eq_getElem, Fin.val_cast]
  congr 1
  exact stableSort_befB x _ (List.pairwise_lt_finRange n)

open Classical in
/-- The entry the sort puts at `k` has rank `k`. -/
theorem rk_sortedFrom (x : Fin n → EReal) (k : Fin n) :
    rk x (sortedFrom (fun a b => decide (x b < x a)) k) = k.val := by
  simp only [sortedFrom_befB]
  have hB := befB_total x
  have hinj := sortedFrom_injective (befB x)
  have hsur := sortedFrom_surjective (befB x)
  have hlt : ∀ i j : Fin n, i < j → befB x (sortedFrom (befB x) i) (sortedFrom (befB x) j) = true := by
    intro i j hij
    have hno : befB x (sortedFrom (befB x) j) (sortedFrom (befB x) i) = false := by
      have hs := hB.sorted_stableSort (List.finRange n)
      rw [List.pairwise_iff_get] at hs
      exact hs (i.cast (length_sortPositions n (befB x)).symm) (j.cast (length_sortPositions n (befB x)).symm) hij
    rcases hB.total (sortedFrom (befB x) i) (sortedFrom (befB x) j) (fun h => hij.ne (hinj h)) with h | h
    · exact h
    · rw [hno] at h; exact absurd h (by decide)
  have hset : (Finset.univ.filter fun a => Bef x a (sortedFrom (befB x) k))
      = (Finset.univ.filter fun i : Fin n => i < k).image (sortedFrom (befB x)) := by
    ext a
    simp only [Finset.mem_filter, Finset.mem_univ, true_and, Finset.mem_image]
    obtain ⟨i, rfl⟩ := hsur a
    constructor
    · intro h
      refine ⟨i, ?_, rfl⟩
      rcases lt_trichotomy i k with h' | h' | h'
      · exact h'
      · subst h'
        have := (befB_iff _ _ _).2 h
        rw [hB.irrefl] at this; exact absurd this (by decide)
      · have h1 := (befB_iff _ _ _).2 h
        have h2 := hB.asymm _ _ (hlt k i h')
        rw [h2] at h1; exact absurd h1 (by decide)
    · rintro ⟨j, hj, hji⟩
      rw [← hji]; exact (befB_iff _ _ _).1 (hlt j k hj)
  rw [rk]
  rw [show (Finset.univ.filter fun a => Bef x a (sortedFrom (befB x) k)) = _ from hset]
  rw [Finset.card_image_of_injective _ hinj]
  have : (Finset.univ.filter fun i : Fin n => i < k) = Finset.Iio k := by ext; simp
  rw [this, Fin.card_Iio]

open Classical in
theorem sortedFrom_bijective (x : Fin n → EReal) :
    Function.Bijective (sortedFrom (fun a b : Fin n => decide (x b < x a))) :=
  ⟨sortedFrom_injective _, sortedFrom_surjective _⟩

open Classical in
/-- A sum over the first `k` places of the sort is the sum over the entries of rank below `k`. -/
theorem sum_sortedFrom (x : Fin n → EReal) {k : ℕ} (hk : k ≤ n) (f : Fin n → ℝ) :
    (∑ j : Fin k, f (sortedFrom (fun a b : Fin n => decide (x b < x a)) (j.castLE hk)))
      = ∑ b : Fin n, if rk x b < k then f b else 0 := by
  rw [← (Equiv.ofBijective _ (sortedFrom_bijective x)).sum_comp]
  simp only [Equiv.ofBijective_apply, rk_sortedFrom]
  rw [← Finset.sum_filter]
  symm
  refine Finset.sum_bij' (fun i hi => (⟨i.val, (Finset.mem_filter.1 hi).2⟩ : Fin k)) (fun j _ => j.castLE hk) ?_ ?_ ?_ ?_ ?_
  · intro i hi; exact Finset.mem_univ _
  · intro j _; exact Finset.mem_filter.2 ⟨Finset.mem_univ _, j.isLt⟩
  · intro i hi; rfl
  · intro j _; rfl
  · intro i hi; rfl

/-- The rank as a sum of indicators. -/
theorem sum_bef (x : Fin n → EReal) (b : Fin n) (f : Fin n → EReal) (hf : ∀ a, (Bef x a b → f a = 1) ∧ (¬ Bef x a b → f a = 0)) :
    (∑ a, f a) = ((rk x b : ℝ) : EReal) := by
  classical
  have : ∀ a, f a = (((if Bef x a b then 1 else 0 : ℝ)) : EReal) := fun a => by
    split_ifs with h
    · exact (hf a).1 h
    · exact (hf a).2 h
  simp only [this]
  rw [show (∑ a, (((if Bef x a b then 1 else 0 : ℝ)) : EReal)) = ((∑ a, (if Bef x a b then 1 else 0 : ℝ) : ℝ) : EReal) from
    (map_sum (⟨⟨Real.toEReal, EReal.coe_zero⟩, EReal.coe_add⟩ : ℝ →+ EReal) _ Finset.univ).symm]
  congr 1
  rw [Finset.sum_boole, rk]

end Cert.Nsa
-- ==== Proof.Spec.lean ====
/-
  Native sparse attention of one query token, written densely: a compressed branch over 64 block summaries, a
  branch over the keys of the 16 blocks of greatest score, and a branch over a window of 512 keys.
-/
module

public import proofs.«01_k».proof.Proof.Softmax
public import proofs.«01_k».proof.Proof.Rank

@[expose] public section

noncomputable section

namespace Cert.Nsa

open Idealize.ShloMosaic

/-- What one token of one head group sees: queries, block keys and values, keys and values of the two sparse
    branches, gates (branch, head). -/
structure Tok where
  q : Fin 4 → Fin 64 → EReal
  kc : Fin 64 → Fin 64 → EReal
  vc : Fin 64 → Fin 64 → EReal
  ks : Fin 4096 → Fin 64 → EReal
  vs : Fin 4096 → Fin 64 → EReal
  kw : Fin 4096 → Fin 64 → EReal
  vw : Fin 4096 → Fin 64 → EReal
  ga : Fin 3 → Fin 4 → EReal

/-- An entry is a real number. -/
def IsReal (x : EReal) : Prop := ∃ r : ℝ, x = (r : EReal)

/-- Every query, key and value is real. -/
structure Tok.Real (A : Tok) : Prop where
  q : ∀ g d, IsReal (A.q g d)
  kc : ∀ g d, IsReal (A.kc g d)
  vc : ∀ g d, IsReal (A.vc g d)
  ks : ∀ g d, IsReal (A.ks g d)
  vs : ∀ g d, IsReal (A.vs g d)
  kw : ∀ g d, IsReal (A.kw g d)
  vw : ∀ g d, IsReal (A.vw g d)

/-- The score of query `q` against key `k`. -/
def dotp (q k : Fin 64 → EReal) : EReal := ∑ d, q d * k d

theorem isReal_dotp (q k : Fin 64 → EReal) (hq : ∀ d, IsReal (q d)) (hk : ∀ d, IsReal (k d)) : IsReal (dotp q k) := by
  choose a ha using hq
  choose b hb using hk
  refine ⟨∑ d, a d * b d, ?_⟩
  unfold dotp
  simp only [ha, hb, ← EReal.coe_mul]
  exact coe_sum' _

/-- The score a forced block gets. -/
def forcedScore : EReal := Ideal.ofBits .f32 0x461C4000#32

theorem forcedScore_eq : forcedScore = ((10000 : ℝ) : EReal) := by
  unfold forcedScore
  simp [Ideal.ofBits, Ideal.ieee, -EReal.coe_mul]
  norm_num

namespace Tok

variable (A : Tok) (t : ℕ)

/-- Block `b` lies wholly before or at the token. -/
abbrev seen (b : Fin 64) : Prop := b.val * 64 + 63 ≤ t

/-- Block `b` starts before or at the token. -/
abbrev cand (b : Fin 64) : Prop := b.val * 64 ≤ t

abbrev forced (b : Fin 64) : Prop := b.val = 0 ∨ b.val = t / 64 ∨ b.val + 1 = t / 64

/-- The probabilities of the compressed branch. -/
def pc (g : Fin 4) (b : Fin 64) : EReal :=
  if seen t b then sm (msk (seen t) fun b => dotp (A.q g) (A.kc b)) b else 0

def oc (g : Fin 4) (d : Fin 64) : EReal := ∑ b, pc A t g b * A.vc b d

/-- The score of a block. -/
def score (b : Fin 64) : EReal :=
  if cand t b then (if forced t b then forcedScore else ∑ g, pc A t g b) else ⊥

/-- The selected blocks. -/
def selb (b : Fin 64) : Prop := cand t b ∧ rk (score A t) b < 16

/-- The block of a key. -/
abbrev blk (k : Fin 4096) : Fin 64 := ⟨k.val / 64, by omega⟩

/-- The keys of the selected branch. -/
def ksel (k : Fin 4096) : Prop := k.val ≤ t ∧ selb A t (blk k)

/-- The keys of the window. -/
def kwin (k : Fin 4096) : Prop := k.val ≤ t ∧ t ≤ k.val + 512

instance (b : Fin 64) : Decidable (selb A t b) := by unfold selb; infer_instance
instance : DecidablePred (ksel A t) := fun k => by unfold ksel; infer_instance
instance : DecidablePred (kwin t) := fun k => by unfold kwin; infer_instance

def os (g : Fin 4) (d : Fin 64) : EReal :=
  ∑ k, sm (msk (ksel A t) fun k => dotp (A.q g) (A.ks k)) k * A.vs k d

def ow (g : Fin 4) (d : Fin 64) : EReal :=
  ∑ k, sm (msk (kwin t) fun k => dotp (A.q g) (A.kw k)) k * A.vw k d

/-- The layer's value. -/
def out (g : Fin 4) (d : Fin 64) : EReal :=
  A.ga 0 g * oc A t g d + A.ga 1 g * os A t g d + A.ga 2 g * ow A t g d

variable {A}

theorem pc_nonneg (h : A.Real) (g : Fin 4) (b : Fin 64) : 0 ≤ pc A t g b := by
  unfold pc
  split_ifs with hb
  · choose s hs using fun b => isReal_dotp (A.q g) (A.kc b) (h.q g) (h.kc b)
    simp only [hs]
    exact sm_msk_nonneg _ _ ⟨b, hb⟩ _
  · exact le_rfl

theorem score_nonneg (h : A.Real) (b : Fin 64) (hb : cand t b) : 0 ≤ score A t b := by
  unfold score
  rw [if_pos hb]
  split_ifs
  · rw [forcedScore_eq]; exact EReal.coe_nonneg.2 (by norm_num)
  · exact Finset.sum_nonneg fun g _ => pc_nonneg t h g b

theorem score_bot (b : Fin 64) (hb : ¬ cand t b) : score A t b = ⊥ := if_neg hb

/-- A score is above a negative threshold exactly where the block is a candidate. -/
theorem score_gt (h : A.Real) (b : Fin 64) (c : EReal) (hc : c < 0) : c < score A t b ↔ cand t b := by
  constructor
  · intro h'
    by_contra hb
    rw [score_bot t b hb] at h'
    exact absurd h' not_lt_bot
  · exact fun hb => hc.trans_le (score_nonneg t h b hb)

/-- No score is above a forced one unless forced: the first block has one of the first 16 ranks. -/
theorem score_le (h : A.Real) (b : Fin 64) : score A t b ≤ forcedScore := by
  unfold score
  split_ifs with hb hf
  · exact le_rfl
  · have hp : ∀ g, ∃ r : ℝ, 0 ≤ r ∧ r ≤ 1 ∧ pc A t g b = r := by
      intro g
      unfold pc
      split_ifs with hs
      · choose s hs' using fun b => isReal_dotp (A.q g) (A.kc b) (h.q g) (h.kc b)
        simp only [hs']
        refine ⟨_, ?_, ?_, sm_msk _ _ ⟨b, hs⟩ _⟩
        · exact div_nonneg (by rw [if_pos hs]; exact (Real.exp_pos _).le) (den_nonneg _ _)
        · have hd := den_pos (seen t) s ⟨b, hs⟩
          rw [div_le_one hd]
          unfold den
          exact Finset.single_le_sum (f := fun i => if seen t i then Real.exp (s i) else 0)
            (fun i _ => by split_ifs; exacts [(Real.exp_pos _).le, le_rfl]) (Finset.mem_univ b)
      · exact ⟨0, le_rfl, zero_le_one, rfl⟩
    choose r h0 h1 hr using hp
    simp only [hr]
    rw [coe_sum', forcedScore_eq]
    refine EReal.coe_le_coe_iff.2 ?_
    rw [Fin.sum_univ_four]
    linarith [h1 0, h1 1, h1 2, h1 3]
  · exact bot_le

theorem selb_zero (h : A.Real) : selb A t 0 := by
  refine ⟨by simp, ?_⟩
  have : rk (score A t) 0 = 0 := by
    classical
    unfold rk
    rw [Finset.card_eq_zero, Finset.filter_eq_empty_iff]
    rintro a - (hlt | ⟨_, hlt⟩)
    · have h0 : score A t 0 = forcedScore := by
        unfold score; rw [if_pos (show cand t 0 by simp [cand]), if_pos (show forced t 0 from Or.inl rfl)]
      rw [h0] at hlt
      exact absurd (score_le t h a) (not_le_of_gt hlt)
    · exact absurd hlt (Nat.not_lt_zero _)
  omega

theorem exists_ksel (h : A.Real) : ∃ k, ksel A t k := ⟨0, Nat.zero_le _, selb_zero t h⟩

theorem exists_kwin (ht : t < 4096) : ∃ k, kwin t k := ⟨⟨t, ht⟩, le_rfl, by simp⟩

end Tok

end Cert.Nsa
-- ==== Proof.Forms.lean ====
/-
  The three ways the branches are computed, each equal to the dense form: tile by tile with a running softmax,
  over a span that holds the window, and over the gathered keys of the blocks a sort puts first.
-/
module

public import proofs.«01_k».proof.Proof.Spec

@[expose] public section

noncomputable section

namespace Cert.Nsa

open Idealize.ShloMosaic

/-- Two masked softmaxes with the same sums give the same weighted values. -/
theorem sum_sm_congr {ι κ : Type} [Fintype ι] [Fintype κ] (P : ι → Prop) [DecidablePred P] (Q : κ → Prop) [DecidablePred Q]
    (s v : ι → ℝ) (s' v' : κ → ℝ) (hP : ∃ i, P i) (hQ : ∃ i, Q i) (hd : den P s = den Q s') (hn : num P s v = num Q s' v') :
    (∑ i, sm (msk P fun i => (s i : EReal)) i * (v i : EReal)) = ∑ i, sm (msk Q fun i => (s' i : EReal)) i * (v' i : EReal) := by
  rw [sum_sm_msk P s v hP, sum_sm_msk Q s' v' hQ, hd, hn]

/-- A sum over 4096 keys, tile by tile. -/
theorem sum_tiles (a b : ℕ) (f : Fin (a * b) → ℝ) :
    (∑ k, f k) = ∑ j : Fin a, ∑ c : Fin b, f (finProdFinEquiv (j, c)) := by
  rw [← finProdFinEquiv.sum_comp, Fintype.sum_prod_type]

/-- Key `c` of tile `j`. -/
def tkey (j : Fin 8) (c : Fin 512) : Fin 4096 := ⟨512 * j.val + c.val, by omega⟩

/-- Key `c` of block `b`. -/
def bkey (b c : Fin 64) : Fin 4096 := ⟨b.val * 64 + c.val, by omega⟩

theorem sum_tkey (f : Fin 4096 → ℝ) : (∑ k, f k) = ∑ j : Fin 8, ∑ c : Fin 512, f (tkey j c) := by
  rw [show (∑ k, f k) = ∑ k : Fin (8 * 512), f k from rfl, sum_tiles 8 512]
  refine Finset.sum_congr rfl fun j _ => Finset.sum_congr rfl fun c _ => congrArg f (Fin.ext ?_)
  simp [tkey, finProdFinEquiv]; ring

theorem sum_bkey (f : Fin 4096 → ℝ) : (∑ k, f k) = ∑ j : Fin 64, ∑ c : Fin 64, f (bkey j c) := by
  rw [show (∑ k, f k) = ∑ k : Fin (64 * 64), f k from rfl, sum_tiles 64 64]
  refine Finset.sum_congr rfl fun j _ => Finset.sum_congr rfl fun c _ => congrArg f (Fin.ext ?_)
  simp [bkey, finProdFinEquiv]; ring

theorem blk_bkey (b c : Fin 64) : Tok.blk (bkey b c) = b := Fin.ext (by simp [bkey]; omega)

/-- A sum over the first `n` of 8 tiles. -/
theorem sum_first (n : ℕ) (hn : n ≤ 8) (D : Fin 8 → ℝ) (h : ∀ j : Fin 8, n ≤ j.val → D j = 0) :
    (∑ j ∈ Finset.range n, if hj : j < 8 then D ⟨j, hj⟩ else 0) = ∑ j, D j := by
  rw [Finset.sum_fin_eq_sum_range]
  refine Finset.sum_subset (Finset.range_subset_range.2 hn) fun j hj hj' => ?_
  have h8 : j < 8 := Finset.mem_range.1 hj
  rw [dif_pos h8]
  exact h ⟨j, h8⟩ (by simpa using hj')

namespace Tok

variable {A : Tok} (t : ℕ)

/-- The running softmax over the first `n` tiles, which hold every key up to the token. -/
theorem flash (h : A.Real) (g : Fin 4) (d : Fin 64) (n : ℕ) (hn : n ≤ 8) (ht : t < 512 * n)
    (m l a : ℕ → EReal) (m0 : m 0 = ⊥) (l0 : l 0 = 0) (a0 : a 0 = 0)
    (ms : ∀ j : Fin 8, j.val < n → m (j.val + 1) = max (m j.val)
      (smax fun c : Fin 512 => msk (ksel A t) (fun k => dotp (A.q g) (A.ks k)) (tkey j c)))
    (ls : ∀ j : Fin 8, j.val < n → l (j.val + 1) = Ideal.exp (m j.val - m (j.val + 1)) * l j.val
      + ∑ c : Fin 512, Ideal.exp (msk (ksel A t) (fun k => dotp (A.q g) (A.ks k)) (tkey j c) - m (j.val + 1)))
    (as : ∀ j : Fin 8, j.val < n → a (j.val + 1) = Ideal.exp (m j.val - m (j.val + 1)) * a j.val
      + ∑ c : Fin 512, Ideal.exp (msk (ksel A t) (fun k => dotp (A.q g) (A.ks k)) (tkey j c) - m (j.val + 1))
          * A.vs (tkey j c) d) :
    Ideal.div (a n) (l n) = os A t g d := by
  choose s hs using fun k => isReal_dotp (A.q g) (A.ks k) (h.q g) (h.ks k)
  choose v hv using fun k => h.vs k d
  let DL : Fin 8 → ℝ := fun j => den (fun c => ksel A t (tkey j c)) fun c => s (tkey j c)
  let DA : Fin 8 → ℝ := fun j => num (fun c => ksel A t (tkey j c)) (fun c => s (tkey j c)) fun c => v (tkey j c)
  have inv : ∀ k, k ≤ n → Run (∑ j ∈ Finset.range k, if hj : j < 8 then DL ⟨j, hj⟩ else 0)
      (∑ j ∈ Finset.range k, if hj : j < 8 then DA ⟨j, hj⟩ else 0) (m k) (l k) (a k) := by
    intro k
    induction k with
    | zero => intro _; rw [m0, l0, a0]; simpa using Run.init
    | succ k ih =>
      intro hk
      have h8 : k < 8 := by omega
      rw [Finset.sum_range_succ, Finset.sum_range_succ, dif_pos h8, dif_pos h8]
      have e1 := ms ⟨k, h8⟩ hk
      have e2 := ls ⟨k, h8⟩ hk
      have e3 := as ⟨k, h8⟩ hk
      simp only [hs, hv] at e1 e2 e3
      rw [e2, e3]
      exact (ih (by omega)).step (fun c => ksel A t (tkey ⟨k, h8⟩ c)) (fun c => s (tkey ⟨k, h8⟩ c))
        (fun c => v (tkey ⟨k, h8⟩ c)) (m (k + 1)) e1
  have far : ∀ j : Fin 8, n ≤ j.val → ∀ c, ¬ ksel A t (tkey j c) := by
    intro j hj c hc
    have := hc.1
    simp only [tkey] at this
    omega
  have hL : (∑ j ∈ Finset.range n, if hj : j < 8 then DL ⟨j, hj⟩ else 0) = den (ksel A t) s := by
    rw [sum_first n hn DL fun j hj => Finset.sum_eq_zero fun c _ => if_neg (far j hj c)]
    rw [den, sum_tkey]; rfl
  have hA : (∑ j ∈ Finset.range n, if hj : j < 8 then DA ⟨j, hj⟩ else 0) = num (ksel A t) s v := by
    rw [sum_first n hn DA fun j hj => Finset.sum_eq_zero fun c _ => if_neg (far j hj c)]
    rw [num, sum_tkey]; rfl
  have := inv n le_rfl
  rw [hL, hA] at this
  rw [this.div (den_pos _ _ (exists_ksel t h))]
  unfold os
  simp only [hs, hv]
  rw [sum_sm_msk _ _ _ (exists_ksel t h)]

/-- The window over a span of 640 keys that holds it. -/
theorem window (h : A.Real) (g : Fin 4) (d : Fin 64) (ht : t < 4096) (a : ℕ) (ha : a + 640 ≤ 4096) (hlo : a ≤ t - 512)
    (hhi : t < a + 640) :
    (∑ c : Fin 640, sm (msk (fun c : Fin 640 => kwin t ⟨a + c.val, by omega⟩)
        fun c : Fin 640 => dotp (A.q g) (A.kw ⟨a + c.val, by omega⟩)) c * A.vw ⟨a + c.val, by omega⟩ d) = ow A t g d := by
  choose s hs using fun k => isReal_dotp (A.q g) (A.kw k) (h.q g) (h.kw k)
  choose v hv using fun k => h.vw k d
  unfold ow
  simp only [hs, hv]
  have key : ∀ f : Fin 4096 → ℝ, (∀ k, ¬ kwin t k → f k = 0) →
      (∑ c : Fin 640, f ⟨a + c.val, by omega⟩) = ∑ k, f k := by
    intro f hf
    have hinj : Function.Injective (fun c : Fin 640 => (⟨a + c.val, by omega⟩ : Fin 4096)) := fun c c' e => by
      have := congrArg Fin.val e; simp only at this; exact Fin.ext (by omega)
    rw [← Finset.sum_image (s := Finset.univ) (g := fun c : Fin 640 => (⟨a + c.val, by omega⟩ : Fin 4096)) (f := f)
      (fun c _ c' _ e => hinj e)]
    refine Finset.sum_subset (Finset.subset_univ _) fun k _ hk => hf k fun hw => hk ?_
    refine Finset.mem_image.2 ⟨⟨k.val - a, ?_⟩, Finset.mem_univ _, Fin.ext ?_⟩
    · have := hw.1; have := hw.2; omega
    · have := hw.1; have := hw.2; simp only; omega
  refine sum_sm_congr _ _ _ _ _ _ ?_ (exists_kwin t ht) ?_ ?_
  · exact ⟨⟨t - a, by omega⟩, by simp only; omega, by simp only; omega⟩
  · exact key (fun k => if kwin t k then Real.exp (s k) else 0) fun k hk => if_neg hk
  · exact key (fun k => if kwin t k then Real.exp (s k) * v k else 0) fun k hk => if_neg hk

open Classical in
/-- The block the sort puts at place `j`. -/
def top (A : Tok) (t : ℕ) (j : Fin 16) : Fin 64 :=
  sortedFrom (fun a b : Fin 64 => decide (score A t b < score A t a)) (j.castLE (by omega))

/-- The branch over the gathered keys of the first 16 blocks of the sort. -/
theorem gathered (h : A.Real) (g : Fin 4) (d : Fin 64) (c : EReal) (hc : c < 0) {ι : Type} [Fintype ι] (e : ι ≃ Fin 16 × Fin 64)
    (P : ι → Prop) [DecidablePred P] (s v : ι → EReal)
    (hP : ∀ i, P i ↔ c < score A t (top A t (e i).1) ∧ (bkey (top A t (e i).1) (e i).2).val ≤ t)
    (hs : ∀ i, s i = dotp (A.q g) (A.ks (bkey (top A t (e i).1) (e i).2)))
    (hv : ∀ i, v i = A.vs (bkey (top A t (e i).1) (e i).2) d) :
    (∑ i, sm (msk P s) i * v i) = os A t g d := by
  choose s' hs' using fun k => isReal_dotp (A.q g) (A.ks k) (h.q g) (h.ks k)
  choose v' hv' using fun k => h.vs k d
  have key : ∀ f : Fin 4096 → ℝ, (∑ i : ι, if P i then f (bkey (top A t (e i).1) (e i).2) else 0)
      = ∑ k, if ksel A t k then f k else 0 := by
    intro f
    have h1 : (∑ i : ι, if P i then f (bkey (top A t (e i).1) (e i).2) else 0)
        = ∑ p : Fin 16 × Fin 64, if cand t (top A t p.1) ∧ (bkey (top A t p.1) p.2).val ≤ t then f (bkey (top A t p.1) p.2) else 0 := by
      rw [← e.sum_comp]
      refine Finset.sum_congr rfl fun i _ => ?_
      have : P i ↔ cand t (top A t (e i).1) ∧ (bkey (top A t (e i).1) (e i).2).val ≤ t := by
        rw [hP, score_gt t h _ c hc]
      simp only [this]
    rw [h1, Fintype.sum_prod_type]
    rw [show (∑ j : Fin 16, ∑ b : Fin 64, if cand t (top A t j) ∧ (bkey (top A t j) b).val ≤ t then f (bkey (top A t j) b) else 0)
        = ∑ j : Fin 16, (fun B : Fin 64 => ∑ b : Fin 64, if cand t B ∧ (bkey B b).val ≤ t then f (bkey B b) else 0) (top A t j) from rfl]
    unfold top
    refine (sum_sortedFrom (score A t) (by omega : 16 ≤ 64)
      fun B : Fin 64 => ∑ b : Fin 64, if cand t B ∧ (bkey B b).val ≤ t then f (bkey B b) else 0).trans ?_
    rw [sum_bkey]
    refine Finset.sum_congr rfl fun B _ => ?_
    split_ifs with hr
    · refine Finset.sum_congr rfl fun b _ => ?_
      have : ksel A t (bkey B b) ↔ cand t B ∧ (bkey B b).val ≤ t := by
        unfold ksel selb; rw [blk_bkey]; tauto
      simp only [this]
    · symm
      refine Finset.sum_eq_zero fun b _ => if_neg fun hk => hr ?_
      have := hk.2.2
      rwa [blk_bkey] at this
  have e1 : s = fun i => ((s' (bkey (top A t (e i).1) (e i).2) : ℝ) : EReal) := funext fun i => by rw [hs, hs']
  have e2 : v = fun i => ((v' (bkey (top A t (e i).1) (e i).2) : ℝ) : EReal) := funext fun i => by rw [hv, hv']
  unfold os
  simp only [hs', hv', e1, e2]
  have hd := key fun k => Real.exp (s' k)
  refine sum_sm_congr P (ksel A t) _ _ s' v' ?_ (exists_ksel t h) hd (key fun k => Real.exp (s' k) * v' k)
  by_contra hne
  have h0 : den P (fun i => s' (bkey (top A t (e i).1) (e i).2)) = 0 :=
    Finset.sum_eq_zero fun i _ => if_neg fun hi => hne ⟨i, hi⟩
  have h1 := den_pos (ksel A t) s' (exists_ksel t h)
  rw [show den P (fun i => s' (bkey (top A t (e i).1) (e i).2)) = den (ksel A t) s' from hd] at h0
  exact h1.ne' h0

end Tok

end Cert.Nsa
-- ==== Proof.Sel.lean ====
/-
  The block selection of one query tile: the chain of comparisons that ranks the 64 blocks, and its reading.
-/
module

public import proofs.«01_k».proof.Proof.Gen.KernelIdeal.Skeleton
public import proofs.«01_k».proof.Proof.Forms
public import Idealize.ShloMosaic.Lib.Pointwise
public import Idealize.ShloMosaic.Lib.Pointwise.Sums

@[expose] public section

set_option maxRecDepth 16384

noncomputable section

namespace Cert.KernelIdeal.Nsa

open Idealize.ShloMosaic Cert.KernelIdeal.Gen

section
variable {F : FTy → Type} [FloatOps F] [Named F]

/-- The block selection of one query tile, from the token positions and the compressed probabilities. -/
@[irreducible] def selOf (v9 : IVec S128x1 32) (v34 : FVec F S512x64 .f32) : FVec F S128x64 .bf16 :=
  have v46 : IVec S128x64 32 := iota .tc S128x64 32 [1] iota_S128x64_d1_w32
  have v62 := k0_pay9 v9
  have v66 := k0_pay10 v9 v34
  have v80 := k0_pay11 v9 v34
  have v83 := k0_pay13 v9 v34
  have v85 := k0_pay14 v9 v34
  have v86 := k0_pay15
  have v132 := k0_pay16 v46 v66 v80 v83 v85 v86
  have v133 := k0_pay17 v66
  have v135 := k0_pay18 v66
  have v171 := k0_pay19 v46 v66 v132 v133 v135
  have v183 := k0_pay20 v46 v66
  have cst_45 : F .f32 := Scalar.ofBits .f32 0x3F800000#32
  have v223 := k0_pay21 v46 v66 v171 v183
  have v232 := k0_pay22 v46 v66
  have v275 := k0_pay23 v46 v66 v223 v232 cst_45
  have v278 := k0_pay25 v66
  have v280 := k0_pay26 v66
  have v281 := k0_pay27
  have v327 := k0_pay28 v46 v66 v275 v278 v280 v281
  have v328 := k0_pay29 v66
  have v330 := k0_pay30 v66
  have v366 := k0_pay31 v46 v66 v327 v328 v330
  have v378 := k0_pay32 v46 v66
  have cst_75 : F .f32 := Scalar.ofBits .f32 0x3F800000#32
  have v418 := k0_pay33 v46 v66 v366 v378
  have v427 := k0_pay34 v46 v66
  have v470 := k0_pay35 v46 v66 v418 v427 cst_75
  have v473 := k0_pay37 v66
  have v475 := k0_pay38 v66
  have v476 := k0_pay39
  have v522 := k0_pay40 v46 v66 v470 v473 v475 v476
  have v523 := k0_pay41 v66
  have v525 := k0_pay42 v66
  have v561 := k0_pay43 v46 v66 v522 v523 v525
  have v573 := k0_pay44 v46 v66
  have cst_105 : F .f32 := Scalar.ofBits .f32 0x3F800000#32
  have v613 := k0_pay45 v46 v66 v561 v573
  have v622 := k0_pay46 v46 v66
  have v665 := k0_pay47 v46 v66 v613 v622 cst_105
  have v668 := k0_pay49 v66
  have v670 := k0_pay50 v66
  have v671 := k0_pay51
  have v717 := k0_pay52 v46 v66 v665 v668 v670 v671
  have v718 := k0_pay53 v66
  have v720 := k0_pay54 v66
  have v756 := k0_pay55 v46 v66 v717 v718 v720
  have v768 := k0_pay56 v46 v66
  have cst_135 : F .f32 := Scalar.ofBits .f32 0x3F800000#32
  have v808 := k0_pay57 v46 v66 v756 v768
  have v817 := k0_pay58 v46 v66
  have v860 := k0_pay59 v46 v66 v808 v817 cst_135
  have v863 := k0_pay61 v66
  have v865 := k0_pay62 v66
  have v866 := k0_pay63
  have v906 := k0_pay64 v46 v62 v66 v860 v863 v865 v866
  v906

end

/-- One comparison of the chain: 1 where entry `j` comes before entry `b`. -/
def beat (x : Fin 64 → EReal) (b j : Fin 64) : EReal :=
  Scalar.select (IntOp.ori (Ideal.cmp .ogt (x j) (x b))
    (IntOp.andi (Ideal.cmp .oeq (x j) (x b)) (IntOp.cmpi .sgt (BitVec.ofNat 32 b.val) (BitVec.ofNat 32 j.val)))) (1 : EReal) 0

theorem beat_sum (x : Fin 64 → EReal) (b : Fin 64) : (∑ j, beat x b j) =
    ∑ j ∈ Finset.range 64, if h : j < 64 then beat x b ⟨j, h⟩ else 0 := by
  rw [Finset.sum_fin_eq_sum_range]

set_option maxHeartbeats 4000000 in
theorem selOf_apply (v9 : IVec S128x1 32) (v34 : FVec Ideal S512x64 .f32) (r : Fin 128) (b : Fin 64) :
    selOf v9 v34 (ix2 r b) = Scalar.select (IntOp.andi (k0_pay9 v9 (ix2 r b))
      (Ideal.cmp .olt (∑ j, beat (fun j => k0_pay10 v9 v34 (ix2 r j)) b j) (Ideal.ofBits .f32 0x41800000#32))) (1 : EReal) 0 := by
  rw [beat_sum]
  unfold selOf
  pointwise [k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]
  simp only [Finset.sum_range_succ, Finset.sum_range_zero, zero_add]
  rfl

end Cert.KernelIdeal.Nsa
-- ==== Proof.KRead.lean ====
/-
  The kernel's vector expressions of one query tile, read at an entry.
-/
module

public import proofs.«01_k».proof.Proof.Sel
public import Idealize.ShloMosaic.Lib.Pointwise
public import Idealize.ShloMosaic.Lib.Pointwise.Sums
public import Idealize.ShloMosaic.Lib.WordCmp

@[expose] public section

set_option maxRecDepth 16384

noncomputable section

namespace Cert.Nsa

open Idealize.ShloMosaic Cert.KernelIdeal Cert.KernelIdeal.Gen

/-- Row of token `r` of head `g`. -/
abbrev row (g : Fin 4) (r : Fin 128) : Fin 512 := ⟨g.val * 128 + r.val, by omega⟩

/-- The token of row `r` of the tile. -/
abbrev tpos (i : grid0.Coords) (r : Fin 128) : ℕ := (i 2).val * 128 + r.val

theorem tpos_lt (i : grid0.Coords) (r : Fin 128) : tpos i r < 4096 := by
  have h : (i 2).val < 32 := (i 2).isLt
  have := r.isLt
  simp only [tpos]; omega

/-- What token `r` of the tile sees. -/
def tok (x0 : Vec Ideal S128x256 .bf16) (x1 x2 : Vec Ideal S1x1x64x64 .bf16) (x3 x4 x5 x6 : Vec Ideal S1x1x4096x64 .bf16)
    (x7 : Vec Ideal S128x128 .f32) (r : Fin 128) : Tok where
  q g d := x0 (ix2 r ⟨g.val * 64 + d.val, by omega⟩)
  kc b d := x1 (ix4 0 0 b d)
  vc b d := x2 (ix4 0 0 b d)
  ks k d := x3 (ix4 0 0 k d)
  vs k d := x4 (ix4 0 0 k d)
  kw k d := x5 (ix4 0 0 k d)
  vw k d := x6 (ix4 0 0 k d)
  ga j g := x7 (ix2 r ⟨j.val * 4 + g.val, by omega⟩)

/-! ### Words -/

theorem addi_nat (a b : ℕ) : IntOp.addi (BitVec.ofNat 32 a) (BitVec.ofNat 32 b) = BitVec.ofNat 32 (a + b) := by
  simp [IntOp.addi, BitVec.ofNat_add]

theorem muli_nat (a b : ℕ) : IntOp.muli (BitVec.ofNat 32 a) (BitVec.ofNat 32 b) = BitVec.ofNat 32 (a * b) := by
  simp [IntOp.muli, BitVec.ofNat_mul]

theorem smuli_nat (a b : ℕ) : Scalar.muli (BitVec.ofNat 32 a) (BitVec.ofNat 32 b) = BitVec.ofNat 32 (a * b) := muli_nat a b

theorem ofBool_one_iff (p : Prop) [Decidable p] : BitVec.ofBool (decide p) = 1#1 ↔ p := by
  by_cases h : p <;> simp [h]

theorem cmpi_sle_nat {a b : ℕ} (ha : a < 2 ^ 31) (hb : b < 2 ^ 31) :
    IntOp.cmpi .sle (BitVec.ofNat 32 a) (BitVec.ofNat 32 b) = BitVec.ofBool (decide (a ≤ b)) := by
  by_cases h : a ≤ b
  · rw [(WordCmp.cmpi_sle_ofNat_eq_one_iff (w := 32) ha hb).2 h]; simp [h]
  · rw [(WordCmp.cmpi_sle_ofNat_eq_zero_iff (w := 32) ha hb).2 (by omega)]; simp [h]

theorem cmpi_sgt_nat {a b : ℕ} (ha : a < 2 ^ 31) (hb : b < 2 ^ 31) :
    IntOp.cmpi .sgt (BitVec.ofNat 32 a) (BitVec.ofNat 32 b) = BitVec.ofBool (decide (b < a)) := by
  by_cases h : b < a
  · rw [(WordCmp.cmpi_sgt_ofNat_eq_one_iff (w := 32) ha hb).2 h]; simp [h]
  · rw [(WordCmp.cmpi_sgt_ofNat_eq_zero_iff (w := 32) ha hb).2 (by omega)]; simp [h]

theorem cmpi_sge_nat {a b : ℕ} (ha : a < 2 ^ 31) (hb : b < 2 ^ 31) :
    IntOp.cmpi .sge (BitVec.ofNat 32 a) (BitVec.ofNat 32 b) = BitVec.ofBool (decide (b ≤ a)) := by
  by_cases h : b ≤ a
  · rw [(WordCmp.cmpi_sge_ofNat_eq_one_iff (w := 32) ha hb).2 h]; simp [h]
  · rw [(WordCmp.cmpi_sge_ofNat_eq_zero_iff (w := 32) ha hb).2 (by omega)]; simp [h]

theorem select_ofBool {α : Type} (p : Prop) [Decidable p] (x y : α) :
    Scalar.select (BitVec.ofBool (decide p)) x y = if p then x else y := by
  by_cases h : p <;> simp [h, Scalar.select]

theorem andi_ofBool (a b : Bool) : IntOp.andi (BitVec.ofBool a) (BitVec.ofBool b) = BitVec.ofBool (a && b) := by
  cases a <;> cases b <;> rfl

theorem ori_ofBool (a b : Bool) : IntOp.ori (BitVec.ofBool a) (BitVec.ofBool b) = BitVec.ofBool (a || b) := by
  cases a <;> cases b <;> rfl

theorem mask_bot : (Named.named κ "mask" 0xF149F2CA#32 : Ideal .f32) = ⊥ :=
  IdealRules.named_const.ideal_named_scalar _ _ _ _ rfl

theorem negInf_bot : Ideal.ofBits .f32 0xFF800000#32 = ⊥ := by
  simp [Ideal.ofBits, Ideal.ieee]

/-! ### The tile's rows -/

theorem pay2_apply (x0 : Vec Ideal S128x256 .bf16) (g : Fin 4) (r : Fin 128) (d : Fin 64) :
    k0_pay2 x0 (ix2 (row g r) d) = x0 (ix2 r ⟨g.val * 64 + d.val, by omega⟩) := by
  have hr := r.isLt
  fin_vals g with hk
  all_goals pointwise [k0_pay2]
  all_goals simp only [hk]
  · rw [dif_pos (by omega)]; exact congrArg x0 (congrArg₂ ix2 (Fin.ext (by simp)) (Fin.ext (by simp)))
  · rw [dif_neg (by omega), dif_pos (by omega)]; exact congrArg x0 (congrArg₂ ix2 (Fin.ext (by simp)) (Fin.ext (by simp)))
  · rw [dif_neg (by omega), dif_neg (by omega), dif_pos (by omega)]; exact congrArg x0 (congrArg₂ ix2 (Fin.ext (by simp; omega)) (Fin.ext (by simp)))
  · rw [dif_neg (by omega), dif_neg (by omega), dif_neg (by omega)]; exact congrArg x0 (congrArg₂ ix2 (Fin.ext (by simp; omega)) (Fin.ext (by simp)))

theorem pay3_apply (i : grid0.Coords) (r : Fin 128) : k0_pay3 i (ix2 r 0) = BitVec.ofNat 32 (tpos i r) := by
  pointwise [k0_pay3]
  rw [smuli_nat, addi_nat]

theorem pay4_apply (i : grid0.Coords) (g : Fin 4) (r : Fin 128) :
    k0_pay4 i (ix2 (row g r) 0) = BitVec.ofNat 32 (tpos i r) := by
  have hr := r.isLt
  fin_vals g with hk
  all_goals pointwise [k0_pay4]
  all_goals simp only [hk]
  · rw [dif_pos (by omega), ← pay3_apply i r]; exact congrArg (k0_pay3 i) (congrArg₂ ix2 (Fin.ext (by simp)) rfl)
  · rw [dif_neg (by omega), dif_pos (by omega), ← pay3_apply i r]; exact congrArg (k0_pay3 i) (congrArg₂ ix2 (Fin.ext (by simp)) rfl)
  · rw [dif_neg (by omega), dif_neg (by omega), dif_pos (by omega), ← pay3_apply i r]; exact congrArg (k0_pay3 i) (congrArg₂ ix2 (Fin.ext (by simp; omega)) rfl)
  · rw [dif_neg (by omega), dif_neg (by omega), dif_neg (by omega), ← pay3_apply i r]; exact congrArg (k0_pay3 i) (congrArg₂ ix2 (Fin.ext (by simp; omega)) rfl)

section
variable (i : grid0.Coords) (x0 : Vec Ideal S128x256 .bf16) (x1 x2 : Vec Ideal S1x1x64x64 .bf16)
  (x3 x4 x5 x6 : Vec Ideal S1x1x4096x64 .bf16) (x7 : Vec Ideal S128x128 .f32)

local notation "A" => tok x0 x1 x2 x3 x4 x5 x6 x7

theorem seen_word (r : Fin 128) (b : Fin 64) : IntOp.cmpi .sle (IntOp.addi (IntOp.muli (BitVec.ofNat 32 b.val) 64#32) 63#32)
    (BitVec.ofNat 32 (tpos i r)) = BitVec.ofBool (decide (Tok.seen (tpos i r) b)) := by
  have := tpos_lt i r
  have := b.isLt
  rw [muli_nat, addi_nat, cmpi_sle_nat (by omega) (by omega)]

/-- The compressed probabilities. -/
theorem pay5_apply (g : Fin 4) (r : Fin 128) (b : Fin 64) :
    k0_pay5 i x0 x1 (ix2 (row g r) b) = (A r).pc (tpos i r) g b := by
  pointwise [k0_pay5]
  have e4 : k0_pay4 i (ix2 (⟨g.val * 128 + r.val, by omega⟩ : Fin 512) 0) = BitVec.ofNat 32 (tpos i r) := pay4_apply i g r
  have e2 : ∀ d : Fin 64, k0_pay2 x0 (ix2 (⟨g.val * 128 + r.val, by omega⟩ : Fin 512) d) = (A r).q g d := fun d => pay2_apply x0 g r d
  simp only [e4, e2, seen_word, select_ofBool, mask_bot, negInf_bot]
  rfl

theorem pay8_apply (g : Fin 4) (r : Fin 128) (d : Fin 64) :
    k0_pay8 (k0_pay6 i x0 x1) (k0_pay7 x2) (constant S512x64 .f32 0x00000000#32) (ix2 (row g r) d) = (A r).oc (tpos i r) g d := by
  pointwise [k0_pay8, k0_pay6, k0_pay7]
  unfold Tok.oc
  refine Finset.sum_congr rfl fun b _ => ?_
  exact congrArg (· * _) (pay5_apply i x0 x1 x2 x3 x4 x5 x6 x7 g r b)

theorem cur_word (t : ℕ) (ht : t < 4096) : IntOp.shrui .vector (BitVec.ofNat 32 t) 6#32 = BitVec.ofNat 32 (t / 64) := by
  apply BitVec.eq_of_toNat_eq
  have e : IntOp.shrui .vector (BitVec.ofNat 32 t) 6#32 = BitVec.ofNat 32 t >>> 6 := by
    simp [IntOp.shrui]
  rw [e, BitVec.toNat_ushiftRight, BitVec.toNat_ofNat, BitVec.toNat_ofNat, Nat.shiftRight_eq_div_pow]
  omega

theorem cmpi_eq_nat (b c : ℕ) (hb : b < 2 ^ 31) (hc : c < 2 ^ 31) :
    IntOp.cmpi .eq (BitVec.ofNat 32 b) (BitVec.ofNat 32 c) = BitVec.ofBool (decide (b = c)) := by
  rw [WordCmp.cmpi_eq_eq]
  congr 1
  refine decide_eq_decide.2 ⟨fun h => ?_, fun h => by rw [h]⟩
  have := congrArg BitVec.toNat h
  rw [BitVec.toNat_ofNat, BitVec.toNat_ofNat] at this
  omega

theorem prev_word (b c : ℕ) (hb : b < 64) (hc : c < 64) :
    IntOp.cmpi .eq (BitVec.ofNat 32 b) (IntOp.subi (BitVec.ofNat 32 c) 1#32) = BitVec.ofBool (decide (b + 1 = c)) := by
  rw [WordCmp.cmpi_eq_eq]
  congr 1
  refine decide_eq_decide.2 ?_
  rw [show IntOp.subi (BitVec.ofNat 32 c) 1#32 = BitVec.ofNat 32 c - 1#32 from rfl, BitVec.toNat_inj.symm, BitVec.toNat_sub,
    BitVec.toNat_ofNat, BitVec.toNat_ofNat, BitVec.toNat_ofNat]
  omega

theorem pay9_apply (r : Fin 128) (b : Fin 64) :
    k0_pay9 (k0_pay3 i) (ix2 r b) = BitVec.ofBool (decide (Tok.cand (tpos i r) b)) := by
  pointwise [k0_pay9]
  have := tpos_lt i r
  have := b.isLt
  rw [pay3_apply, muli_nat, cmpi_sle_nat (by omega) (by omega)]

theorem pay10_apply (r : Fin 128) (b : Fin 64) :
    k0_pay10 (k0_pay3 i) (k0_pay5 i x0 x1) (ix2 r b) = (A r).score (tpos i r) b := by
  pointwise [k0_pay10]
  have ht := tpos_lt i r
  have hb := b.isLt
  have e : ∀ (g : Fin 4) (h : g.val * 128 + r.val < 512), k0_pay5 i x0 x1 (ix2 (⟨g.val * 128 + r.val, h⟩ : Fin 512) b) = (A r).pc (tpos i r) g b :=
    fun g _ => pay5_apply i x0 x1 x2 x3 x4 x5 x6 x7 g r b
  have e0 : k0_pay5 i x0 x1 (ix2 (⟨r.val, by omega⟩ : Fin 512) b) = (A r).pc (tpos i r) 0 b := by
    rw [← e 0 (by simp; omega)]; exact congrArg (k0_pay5 i x0 x1) (congrArg₂ ix2 (Fin.ext (by simp)) rfl)
  have e1 := e 1 (by simp; omega)
  have e2 := e 2 (by simp; omega)
  have e3 := e 3 (by simp; omega)
  rw [pay9_apply, pay3_apply, cur_word _ ht, prev_word _ _ hb (by omega), cmpi_eq_nat _ _ (by omega) (by omega),
    cmpi_eq_nat _ _ (by omega) (by omega), ori_ofBool, ori_ofBool, select_ofBool, e0]
  rw [show k0_pay5 i x0 x1 (ix2 (⟨128 + r.val, by omega⟩ : Fin 512) b) = (A r).pc (tpos i r) 1 b from e1,
    show k0_pay5 i x0 x1 (ix2 (⟨256 + r.val, by omega⟩ : Fin 512) b) = (A r).pc (tpos i r) 2 b from e2,
    show k0_pay5 i x0 x1 (ix2 (⟨384 + r.val, by omega⟩ : Fin 512) b) = (A r).pc (tpos i r) 3 b from e3, mask_bot]
  unfold Tok.score
  rw [Fin.sum_univ_four]
  congr 1
  by_cases hf : Tok.forced (tpos i r) b
  · rw [if_pos hf, show (decide (b.val = 0) || decide (b.val = tpos i r / 64) || decide (b.val + 1 = tpos i r / 64)) = true by
      simpa [Tok.forced, or_assoc] using hf]
    rfl
  · rw [if_neg hf, show (decide (b.val = 0) || decide (b.val = tpos i r / 64) || decide (b.val + 1 = tpos i r / 64)) = false by
      simpa [Tok.forced, and_assoc] using hf]
    rfl

theorem beat_eq (x : Fin 64 → EReal) (b j : Fin 64) : (Bef x j b → Nsa.beat x b j = 1) ∧ (¬ Bef x j b → Nsa.beat x b j = 0) := by
  have hb := b.isLt
  have hj := j.isLt
  classical
  have e : Nsa.beat x b j = if Bef x j b then 1 else 0 := by
    unfold Nsa.beat
    rw [cmpi_sgt_nat (by omega) (by omega)]
    by_cases h1 : x b < x j <;> by_cases h2 : x j = x b <;> by_cases h3 : j.val < b.val <;>
      first
        | (exfalso; exact h1.ne' h2)
        | simp [Bef, Ideal.cmp, h1, h2, h3, Scalar.select, IntOp.ori, IntOp.andi, Fin.lt_def]
  rw [e]
  exact ⟨fun h => if_pos h, fun h => if_neg h⟩

theorem sixteen : Ideal.ofBits .f32 0x41800000#32 = ((16 : ℝ) : EReal) := by
  simp [Ideal.ofBits, Ideal.ieee, -EReal.coe_mul]
  norm_num

theorem half : Ideal.ofBits .f32 0x3F000000#32 = ((1 / 2 : ℝ) : EReal) := by
  simp [Ideal.ofBits, Ideal.ieee, -EReal.coe_mul]
  norm_num

/-- The selection, as a 0/1 mask. -/
theorem sel_apply (r : Fin 128) (b : Fin 64) :
    Nsa.selOf (k0_pay3 i) (k0_pay5 i x0 x1) (ix2 r b) = if (A r).selb (tpos i r) b then 1 else 0 := by
  rw [Nsa.selOf_apply, pay9_apply]
  simp only [pay10_apply i x0 x1 x2 x3 x4 x5 x6 x7]
  rw [sum_bef ((A r).score (tpos i r)) b _ (fun a => beat_eq _ b a), sixteen]
  rw [show Ideal.cmp .olt (((rk ((A r).score (tpos i r)) b : ℝ) : EReal)) ((16 : ℝ) : EReal)
    = BitVec.ofBool (decide (rk ((A r).score (tpos i r)) b < 16)) by
      simp only [Ideal.cmp]; congr 1; refine decide_eq_decide.2 ?_; rw [EReal.coe_lt_coe_iff]; norm_cast]
  rw [andi_ofBool]
  by_cases h1 : Tok.cand (tpos i r) b <;> by_cases h2 : rk ((A r).score (tpos i r)) b < 16 <;>
    simp [Tok.selb, h1, h2, Scalar.select]

end

end Cert.Nsa
-- ==== Proof.KRun.lean ====
/-
  One grid step of the attention kernel, run: the block selection's long chain of comparisons is named first
  (`selOf`), so that what the step stores stays a short term, and the last read of the mask's old contents, which
  nothing uses, is dropped.
-/
module

public import proofs.«01_k».proof.Proof.Gen.KernelIdeal.Frame.Runs
public import proofs.«01_k».proof.Proof.Sel

@[expose] public section

-- membership in a rectangle of production extents (`View.cover_of_tiled`): the elaborator's structural look
-- recurses once per coordinate of the long axes
set_option maxRecDepth 16384

noncomputable section

namespace Cert.KernelIdeal.Nsa

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body with the selection named. -/
def body (i : grid0.Coords) (arg3 : Memref sig .tc .vmem S128x256 .bf16) (harg3 : arg3.IsWhole) (arg4 : Memref sig .tc .vmem S1x1x64x64 .bf16) (harg4 : arg4.IsWhole) (arg5 : Memref sig .tc .vmem S1x1x64x64 .bf16) (harg5 : arg5.IsWhole) (arg6 : Memref sig .tc .vmem S1x1x4096x64 .bf16) (harg6 : arg6.IsWhole) (arg7 : Memref sig .tc .vmem S1x1x4096x64 .bf16) (harg7 : arg7.IsWhole) (arg8 : Memref sig .tc .vmem S1x1x4096x64 .bf16) (harg8 : arg8.IsWhole) (arg9 : Memref sig .tc .vmem S1x1x4096x64 .bf16) (harg9 : arg9.IsWhole) (arg10 : Memref sig .tc .vmem S128x128 .f32) (harg10 : arg10.IsWhole) (arg11 : Memref sig .tc .vmem S128x256 .bf16) (harg11 : arg11.IsWhole) (arg12 : Memref sig .tc .vmem S8x128x512 .f32) (harg12 : arg12.IsWhole) :
    Prog (TpuEff nD τ sig (Elt F) Λ₀ .tc) PUnit := do
  let ⟨arg2, v5, v9, v10, v34, v35, v37, cst_13⟩ : Σ' (arg2 : BitVec 32) (v5 : FVec F S512x64 .bf16) (v9 : IVec S128x1 32) (v10 : IVec S512x1 32) (v34 : FVec F S512x64 .f32) (v35 : FVec F S512x64 .bf16) (v37 : FVec F S64x64 .bf16), FVec F S512x64 .f32 ← k0_part1 i arg3 harg3 arg4 harg4 arg5 harg5 arg6 harg6 arg7 harg7 arg8 harg8 arg9 harg9 arg10 harg10 arg11 harg11 arg12 harg12
  have v38 : FVec F S512x64 .f32 := k0_pay8 v35 v37 cst_13
  have v906 : FVec F S128x64 .bf16 := selOf v9 v34
  have v913 : IVec S64x512 1 := k0_pay65
  let ⟨v948, v949⟩ : Σ' (v948 : FVec F S128x512 .f32), Vec F S1x128x512 .f32 ← k0_part20 i arg3 harg3 arg4 harg4 arg5 harg5 arg6 harg6 arg7 harg7 arg8 harg8 arg9 harg9 arg10 harg10 arg11 harg11 arg12 harg12 v906 v913
  let v988 : IVec S64x512 1 ← k0_part21 i arg3 harg3 arg4 harg4 arg5 harg5 arg6 harg6 arg7 harg7 arg8 harg8 arg9 harg9 arg10 harg10 arg11 harg11 arg12 harg12 v906 v948 v949
  let ⟨v1023, v1024⟩ : Σ' (v1023 : FVec F S128x512 .f32), Vec F S1x128x512 .f32 ← k0_part22 i arg3 harg3 arg4 harg4 arg5 harg5 arg6 harg6 arg7 harg7 arg8 harg8 arg9 harg9 arg10 harg10 arg11 harg11 arg12 harg12 v906 v988
  let ⟨v1043, v1053, v1054, v1057, v1060, c512_i32_225⟩ : Σ' (v1043 : FVec F S512x64 .f32) (v1053 : FVec F S640x64 .bf16) (v1054 : FVec F S512x640 .f32) (v1057 : IVec S1x640 32) (v1060 : IVec S512x640 1), BitVec 32 ← k0_part23 i arg3 harg3 arg4 harg4 arg5 harg5 arg6 harg6 arg7 harg7 arg8 harg8 arg9 harg9 arg10 harg10 arg11 harg11 arg12 harg12 arg2 v5 v9 v10 v1023 (broadcast S1x128x512 (Scalar.ofBits .f32 0x00000000#32))
  let ⟨v1079, v1080, v1094, v1108, v1112, v1113, v1114⟩ : Σ' (v1079 : FVec F S512x64 .f32) (v1080 : Vec F S128x128 .f32) (v1094 : FVec F S128x64 .f32) (v1108 : FVec F S128x64 .f32) (v1112 : FVec F S128x64 .f32) (v1113 : FVec F S128x1 .f32), FVec F S128x64 .f32 ← k0_part24 i arg3 harg3 arg4 harg4 arg5 harg5 arg6 harg6 arg7 harg7 arg8 harg8 arg9 harg9 arg10 harg10 arg11 harg11 arg12 harg12 v10 v38 v1043 v1053 v1054 v1057 v1060 c512_i32_225
  let v1139 : Vec F S128x256 .bf16 ← Prog.lift (.load arg11 (Rect.unit (s := S128x256) ![0, 0] S128x256.size inb_S128x256_S128x256_0_0).toLoadRect (View.loadsAt_vmem h_S128x256))
  Prog.lift (.store arg11 (Rect.unit (s := S128x256) ![0, 0] S128x256.size inb_S128x256_S128x256_0_0) (k0_pay1 v38 v1043 v1079 v1080 v1094 v1108 v1112 v1113 v1114) Finset.univ (View.stores_vmem h_S128x256 (harg11.storeExact_slice rfl _ packedbf16_S128x256_S128x256_0_0) (fun _ => rfl)) (.inl rfl))
  pure ⟨⟩

/-- The printed body is the body with the selection named. -/
theorem kernel_eq_body (i : grid0.Coords) (arg3 : Memref sig .tc .vmem S128x256 .bf16) (harg3 : arg3.IsWhole) (arg4 : Memref sig .tc .vmem S1x1x64x64 .bf16) (harg4 : arg4.IsWhole) (arg5 : Memref sig .tc .vmem S1x1x64x64 .bf16) (harg5 : arg5.IsWhole) (arg6 : Memref sig .tc .vmem S1x1x4096x64 .bf16) (harg6 : arg6.IsWhole) (arg7 : Memref sig .tc .vmem S1x1x4096x64 .bf16) (harg7 : arg7.IsWhole) (arg8 : Memref sig .tc .vmem S1x1x4096x64 .bf16) (harg8 : arg8.IsWhole) (arg9 : Memref sig .tc .vmem S1x1x4096x64 .bf16) (harg9 : arg9.IsWhole) (arg10 : Memref sig .tc .vmem S128x128 .f32) (harg10 : arg10.IsWhole) (arg11 : Memref sig .tc .vmem S128x256 .bf16) (harg11 : arg11.IsWhole) (arg12 : Memref sig .tc .vmem S8x128x512 .f32) (harg12 : arg12.IsWhole) :
    cc0__nsa_prompt_kernel (F := F) i arg3 harg3 arg4 harg4 arg5 harg5 arg6 harg6 arg7 harg7 arg8 harg8 arg9 harg9 arg10 harg10 arg11 harg11 arg12 harg12 = body i arg3 harg3 arg4 harg4 arg5 harg5 arg6 harg6 arg7 harg7 arg8 harg8 arg9 harg9 arg10 harg10 arg11 harg11 arg12 harg12 := by
  rw [cc0__nsa_prompt_kernel_eq_skeleton]
  unfold body selOf
  rfl

set_option maxHeartbeats 2000000 in
/-- What one step leaves in the output's buffer, as pieces, with the proof that the step runs to it. -/
noncomputable def kernelRun0_A (c : Dev nD) (i : grid0.Coords) (arg3 : Memref sig .tc .vmem S128x256 .bf16) (harg3 : arg3.IsWhole) (arg4 : Memref sig .tc .vmem S1x1x64x64 .bf16) (harg4 : arg4.IsWhole) (arg5 : Memref sig .tc .vmem S1x1x64x64 .bf16) (harg5 : arg5.IsWhole) (arg6 : Memref sig .tc .vmem S1x1x4096x64 .bf16) (harg6 : arg6.IsWhole) (arg7 : Memref sig .tc .vmem S1x1x4096x64 .bf16) (harg7 : arg7.IsWhole) (arg8 : Memref sig .tc .vmem S1x1x4096x64 .bf16) (harg8 : arg8.IsWhole) (arg9 : Memref sig .tc .vmem S1x1x4096x64 .bf16) (harg9 : arg9.IsWhole) (arg10 : Memref sig .tc .vmem S128x128 .f32) (harg10 : arg10.IsWhole) (arg11 : Memref sig .tc .vmem S128x256 .bf16) (harg11 : arg11.IsWhole) (arg12 : Memref sig .tc .vmem S8x128x512 .f32) (harg12 : arg12.IsWhole)
    (x0 : Vec F S128x256 .bf16) (x1 : Vec F S1x1x64x64 .bf16) (x2 : Vec F S1x1x64x64 .bf16) (x3 : Vec F S1x1x4096x64 .bf16) (x4 : Vec F S1x1x4096x64 .bf16) (x5 : Vec F S1x1x4096x64 .bf16) (x6 : Vec F S1x1x4096x64 .bf16) (x7 : Vec F S128x128 .f32) :
    { L8 : List (View.Piece (Elt F) S128x256 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (∃ d, owns (c : Thread nD τ) arg12 fullShare d)) -∗ K ⟨⟩))
          ⊢ wp frame (wpE (defs₀ (F := F)) Variants.none c none) E (cc0__nsa_prompt_kernel i arg3 harg3 arg4 harg4 arg5 harg5 arg6 harg6 arg7 harg7 arg8 harg8 arg9 harg9 arg10 harg10 arg11 harg11 arg12 harg12) K } := by
  refine ⟨?_, fun E K => ?run⟩
  case run =>
    rw [kernel_eq_body]; unfold body
    simp only [k0_part1_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    iexists _, _; isplitr; swap; · iexact HS0
    ipureintro; rfl

end Cert.KernelIdeal.Nsa

end
-- ==== Proof.KFrame.lean ====
/-
  The attention kernel's whole launch: what each grid step leaves in the result's block, the proof data of the
  pipeline, and the run with the result's array named.
-/
module

public import proofs.«01_k».proof.Proof.KRun
public import Idealize.ShloMosaic.Lib.Claim
public import Idealize.ShloMosaic.Lib.Pipeline.Value

@[expose] public section

-- membership in a rectangle of production extents (`View.cover_of_tiled`): the elaborator's structural look
-- recurses once per coordinate of the long axes
set_option maxRecDepth 16384

noncomputable section

namespace Cert.KernelIdeal.Nsa

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The run's pieces for output 8 tile its block, so they cover it. -/
theorem cover0_A_8 (c : Dev nD) (i : grid0.Coords) (arg3 : Memref sig .tc .vmem S128x256 .bf16) (harg3 : arg3.IsWhole) (arg4 : Memref sig .tc .vmem S1x1x64x64 .bf16) (harg4 : arg4.IsWhole) (arg5 : Memref sig .tc .vmem S1x1x64x64 .bf16) (harg5 : arg5.IsWhole) (arg6 : Memref sig .tc .vmem S1x1x4096x64 .bf16) (harg6 : arg6.IsWhole) (arg7 : Memref sig .tc .vmem S1x1x4096x64 .bf16) (harg7 : arg7.IsWhole) (arg8 : Memref sig .tc .vmem S1x1x4096x64 .bf16) (harg8 : arg8.IsWhole) (arg9 : Memref sig .tc .vmem S1x1x4096x64 .bf16) (harg9 : arg9.IsWhole) (arg10 : Memref sig .tc .vmem S128x128 .f32) (harg10 : arg10.IsWhole) (arg11 : Memref sig .tc .vmem S128x256 .bf16) (harg11 : arg11.IsWhole) (arg12 : Memref sig .tc .vmem S8x128x512 .f32) (harg12 : arg12.IsWhole)
    (x0 : Vec F S128x256 .bf16) (x1 : Vec F S1x1x64x64 .bf16) (x2 : Vec F S1x1x64x64 .bf16) (x3 : Vec F S1x1x4096x64 .bf16) (x4 : Vec F S1x1x4096x64 .bf16) (x5 : Vec F S1x1x4096x64 .bf16) (x6 : Vec F S1x1x4096x64 .bf16) (x7 : Vec F S128x128 .f32) (y : S128x256.Idx) :
    ∃ pc ∈ (kernelRun0_A c i arg3 harg3 arg4 harg4 arg5 harg5 arg6 harg6 arg7 harg7 arg8 harg8 arg9 harg9 arg10 harg10 arg11 harg11 arg12 harg12 x0 x1 x2 x3 x4 x5 x6 x7).1, y ∈ pc.1.set :=
  View.cover_of_tiledL (kernelRun0_A c i arg3 harg3 arg4 harg4 arg5 harg5 arg6 harg6 arg7 harg7 arg8 harg8 arg9 harg9 arg10 harg10 arg11 harg11 arg12 harg12 x0 x1 x2 x3 x4 x5 x6 x7).1 S128x256.size (by sl_kernel_rfl) y

/-- What the run leaves in output 8's staging buffer: its pieces read back over junk. -/
def out0_A_8 (c : Dev nD) (i : grid0.Coords) (arg3 : Memref sig .tc .vmem S128x256 .bf16) (harg3 : arg3.IsWhole) (arg4 : Memref sig .tc .vmem S1x1x64x64 .bf16) (harg4 : arg4.IsWhole) (arg5 : Memref sig .tc .vmem S1x1x64x64 .bf16) (harg5 : arg5.IsWhole) (arg6 : Memref sig .tc .vmem S1x1x4096x64 .bf16) (harg6 : arg6.IsWhole) (arg7 : Memref sig .tc .vmem S1x1x4096x64 .bf16) (harg7 : arg7.IsWhole) (arg8 : Memref sig .tc .vmem S1x1x4096x64 .bf16) (harg8 : arg8.IsWhole) (arg9 : Memref sig .tc .vmem S1x1x4096x64 .bf16) (harg9 : arg9.IsWhole) (arg10 : Memref sig .tc .vmem S128x128 .f32) (harg10 : arg10.IsWhole) (arg11 : Memref sig .tc .vmem S128x256 .bf16) (harg11 : arg11.IsWhole) (arg12 : Memref sig .tc .vmem S8x128x512 .f32) (harg12 : arg12.IsWhole)
    (x0 : Vec F S128x256 .bf16) (x1 : Vec F S1x1x64x64 .bf16) (x2 : Vec F S1x1x64x64 .bf16) (x3 : Vec F S1x1x4096x64 .bf16) (x4 : Vec F S1x1x4096x64 .bf16) (x5 : Vec F S1x1x4096x64 .bf16) (x6 : Vec F S1x1x4096x64 .bf16) (x7 : Vec F S128x128 .f32) : Vec F S128x256 .bf16 :=
  VO0_8.read (Elt F) (VO0_8.writes (Elt F) VO0_8.junk (kernelRun0_A c i arg3 harg3 arg4 harg4 arg5 harg5 arg6 harg6 arg7 harg7 arg8 harg8 arg9 harg9 arg10 harg10 arg11 harg11 arg12 harg12 x0 x1 x2 x3 x4 x5 x6 x7).1)

/-! ## What the outputs hold after each point -/

/-- What the outputs' staging buffers hold after the body at point `t`: the run's contents at
    the point's memrefs and input blocks. -/
def outsAt0 (c : Dev nD) (t : Fin cfg0.N) : Vec F S128x256 .bf16 :=
  out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (iblk m c 6 t) (iblk m c 7 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  unfold outsAt0
  unfold out0_A_8
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  iintro ⟨H0, H1, H2, H3, H4, H5, H6, H7, ⟨%e8, H8⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact View.read_writes_of_cover _ _ _ _ _ (cover0_A_8 c _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame at any values: the arguments end unchanged and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

/-! ## Blockwise: what each point writes back, and the final array block by block -/

/-- WHAT POINT `t` WRITES BACK to output window 8's array: the run's contents for that window after the body (`outsAt0`), read through the window's block. -/
theorem flushed8 (c : Dev nD) (t : Fin cfg0.N) :
    (dats m 0 c).flushed 8 t = (cfg0.win 8).cut (grid0.coords t) (outsAt0 m c t) := by
  show (cfg0.win 8).cut (grid0.coords t) ((dats m 0 c).after 8 t) = _
  rw [after0_8]

/-- … so at a point where case A runs, what its write-back would write is that case's NAMED TERM for the window (`out0_A_8`: the pieces
    its run found, read back) at the point's memrefs and input blocks, and for an output the case reads back what the point before left (`outsAt0` at `t - 1`) — the kernel's one case, `outsAt0` by definition. -/
theorem flushed8_A (c : Dev nD) (t : Fin cfg0.N) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (iblk m c 6 t) (iblk m c 7 t)) := by
  simp only [flushed8, outsAt0]

/-- An index that no flushing point's block covers keeps output window 8's array contents at region entry. -/
theorem entry8 (c : Dev nD) (i : S8192x1024.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v25) = (dats m 0 c).arrAt 8 cfg0.N :=
  (h c).1 8

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 7 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 7).trans (((dats m 0 c).arrAt_in 7 rfl _).trans ((A_eq m c 7).trans (V_main_arg3 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v25) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post8 m r h c,
      kept_main_arg0 m r h c,
      kept_main_arg1 m r h c,
      kept_main_arg2 m r h c,
      kept_main_arg3 m r h c⟩)
    (run_main m ρ)

end Cert.KernelIdeal.Nsa

end
-- ==== Proof.KMask.lean ====
/-
  The key mask the kernel spreads out of the block selection: eight tiles of 512 keys, kept in a buffer of its own and
  read back tile by tile.
-/
module

public import proofs.«01_k».proof.Proof.KRead
public import proofs.«01_k».proof.Proof.KFrame
public import Idealize.ShloMosaic.Lib.Pipeline.ValueKit.Tiles

@[expose] public section

set_option maxRecDepth 16384

noncomputable section

namespace Cert.Nsa

open Idealize.ShloMosaic Cert.KernelIdeal Cert.KernelIdeal.Gen

/-- A sum that picks one entry. -/
theorem sum_pick (s : Fin 64 → EReal) (w : Fin 64 → BitVec 1) (b : Fin 64) (h : ∀ x, w x = BitVec.ofBool (decide (b.val = x.val))) :
    (∑ x, Scalar.select (w x) (s x) 0) = s b := by
  rw [Finset.sum_eq_single b]
  · rw [h, decide_eq_true rfl]; rfl
  · intro x _ hx
    rw [h, decide_eq_false fun e => hx (Fin.ext e.symm)]; rfl
  · exact fun hb => absurd (Finset.mem_univ b) hb

variable (s : FVec Ideal S128x64 .bf16) (r : Fin 128) (c : Fin 512)

theorem key_word (j : ℕ) (hj : j < 8) (x : Fin 64) :
    IntOp.cmpi .eq (IntOp.shrui .vector (IntOp.addi (BitVec.ofNat 32 c.val) (BitVec.ofNat 32 (512 * j))) 6#32) (BitVec.ofNat 32 x.val)
      = BitVec.ofBool (decide ((512 * j + c.val) / 64 = x.val)) := by
  have := c.isLt
  have := x.isLt
  rw [addi_nat, cur_word _ (by omega), cmpi_eq_nat _ _ (by omega) (by omega)]
  rw [Nat.add_comm]

theorem tile0 : k0_pay66 s k0_pay65 (ix3 0 r c) = s (ix2 r (Tok.blk (tkey 0 c))) := by
  pointwise [k0_pay66, k0_pay65]
  exact sum_pick (fun x => s (ix2 r x)) _ (Tok.blk (tkey 0 c)) fun x => key_word c 0 (by omega) x

theorem tile1 : k0_pay67 s (ix3 0 r c) = s (ix2 r (Tok.blk (tkey 1 c))) := by
  pointwise [k0_pay67]
  exact sum_pick (fun x => s (ix2 r x)) _ (Tok.blk (tkey 1 c)) fun x => key_word c 1 (by omega) x

theorem tile2 : k0_pay69 (k0_pay68 s) (ix3 0 r c) = s (ix2 r (Tok.blk (tkey 2 c))) := by
  pointwise [k0_pay69, k0_pay68]
  exact sum_pick (fun x => s (ix2 r x)) _ (Tok.blk (tkey 2 c)) fun x => key_word c 2 (by omega) x

theorem tile3 : k0_pay70 s (ix3 0 r c) = s (ix2 r (Tok.blk (tkey 3 c))) := by
  pointwise [k0_pay70]
  exact sum_pick (fun x => s (ix2 r x)) _ (Tok.blk (tkey 3 c)) fun x => key_word c 3 (by omega) x

theorem tile4 : k0_pay71 s (ix3 0 r c) = s (ix2 r (Tok.blk (tkey 4 c))) := by
  pointwise [k0_pay71]
  exact sum_pick (fun x => s (ix2 r x)) _ (Tok.blk (tkey 4 c)) fun x => key_word c 4 (by omega) x

theorem tile5 : k0_pay73 s k0_pay72 (ix3 0 r c) = s (ix2 r (Tok.blk (tkey 5 c))) := by
  pointwise [k0_pay73, k0_pay72]
  exact sum_pick (fun x => s (ix2 r x)) _ (Tok.blk (tkey 5 c)) fun x => key_word c 5 (by omega) x

theorem tile6 : k0_pay74 s (ix3 0 r c) = s (ix2 r (Tok.blk (tkey 6 c))) := by
  pointwise [k0_pay74]
  exact sum_pick (fun x => s (ix2 r x)) _ (Tok.blk (tkey 6 c)) fun x => key_word c 6 (by omega) x

theorem tile7 : k0_pay76 (k0_pay75 s) (ix3 0 r c) = s (ix2 r (Tok.blk (tkey 7 c))) := by
  pointwise [k0_pay76, k0_pay75]
  exact sum_pick (fun x => s (ix2 r x)) _ (Tok.blk (tkey 7 c)) fun x => key_word c 7 (by omega) x

/-- The stores of the eight tiles, last first. -/
def maskPieces : List (View.Piece (Elt Ideal) S8x128x512 .f32) :=
  [⟨Rect.unit ![7, 0, 0] S1x128x512.size inb_S8x128x512_S1x128x512_7_0_0, k0_pay76 (k0_pay75 s)⟩,
    ⟨Rect.unit ![6, 0, 0] S1x128x512.size inb_S8x128x512_S1x128x512_6_0_0, k0_pay74 s⟩,
    ⟨Rect.unit ![5, 0, 0] S1x128x512.size inb_S8x128x512_S1x128x512_5_0_0, k0_pay73 s k0_pay72⟩,
    ⟨Rect.unit ![4, 0, 0] S1x128x512.size inb_S8x128x512_S1x128x512_4_0_0, k0_pay71 s⟩,
    ⟨Rect.unit ![3, 0, 0] S1x128x512.size inb_S8x128x512_S1x128x512_3_0_0, k0_pay70 s⟩,
    ⟨Rect.unit ![2, 0, 0] S1x128x512.size inb_S8x128x512_S1x128x512_2_0_0, k0_pay69 (k0_pay68 s)⟩,
    ⟨Rect.unit ![1, 0, 0] S1x128x512.size inb_S8x128x512_S1x128x512_1_0_0, k0_pay67 s⟩,
    ⟨Rect.unit ![0, 0, 0] S1x128x512.size inb_S8x128x512_S1x128x512_0_0_0, k0_pay66 s k0_pay65⟩]

theorem tile_at (j : Fin 8) (j' : ℕ) (hj' : j' < 8) (w : Vec Ideal S1x128x512 .f32)
    (h : ∀ c, w (ix3 0 r c) = s (ix2 r (Tok.blk (tkey ⟨j', hj'⟩ c)))) :
    View.TileAt (ix3 j r c : S8x128x512.Idx) ![j', 0, 0] S1x128x512.size w (s (ix2 r (Tok.blk (tkey j c)))) := by
  intro x hx
  have h0 : j.val = j' + (x 0).val := hx 0
  have h1 : r.val = 0 + (x 1).val := hx 1
  have h2 : c.val = 0 + (x 2).val := hx 2
  have hx0 : (x 0).val < 1 := (x 0).isLt
  have ej : j = ⟨j', hj'⟩ := Fin.ext (by simp only; omega)
  have ex : x = ix3 0 r c := by
    funext a
    apply Fin.ext
    fin_cases a
    · show (x 0).val = 0; omega
    · show (x 1).val = r.val; omega
    · show (x 2).val = c.val; omega
  subst ej
  rw [ex, h c]

theorem mask_read (j : Fin 8) : View.canon (maskPieces s) (ix3 j r c) = s (ix2 r (Tok.blk (tkey j c))) := by
  refine View.canon_eq_of_allAt _ _ _ (View.cover_of_tiled_head _ _ _ (by rfl) _) ?_
  unfold maskPieces
  refine View.allAt_cons_unit _ _ _ _ _ (tile_at s r c j 7 (by omega) _ fun c => tile7 s r c) ?_
  refine View.allAt_cons_unit _ _ _ _ _ (tile_at s r c j 6 (by omega) _ fun c => tile6 s r c) ?_
  refine View.allAt_cons_unit _ _ _ _ _ (tile_at s r c j 5 (by omega) _ fun c => tile5 s r c) ?_
  refine View.allAt_cons_unit _ _ _ _ _ (tile_at s r c j 4 (by omega) _ fun c => tile4 s r c) ?_
  refine View.allAt_cons_unit _ _ _ _ _ (tile_at s r c j 3 (by omega) _ fun c => tile3 s r c) ?_
  refine View.allAt_cons_unit _ _ _ _ _ (tile_at s r c j 2 (by omega) _ fun c => tile2 s r c) ?_
  refine View.allAt_cons_unit _ _ _ _ _ (tile_at s r c j 1 (by omega) _ fun c => tile1 s r c) ?_
  refine View.allAt_cons_unit _ _ _ _ _ (tile_at s r c j 0 (by omega) _ fun c => tile0 s r c) ?_
  exact View.allAt_nil _ _

end Cert.Nsa
end
-- ==== Proof.KLoop.lean ====
/-
  The kernel's loop over the key tiles: how many trips it makes, what one trip computes, and its result, the selected
  branch.
-/
module

public import proofs.«01_k».proof.Proof.KMask
public import Idealize.ShloMosaic.Lib.Pointwise.Blocks

@[expose] public section

set_option maxRecDepth 16384

noncomputable section

namespace Cert.Nsa

open Idealize.ShloMosaic Idealize.ShloMosaic.TcCoe Idealize.ShloMosaic.Tactic Idealize.SL.Sem
open Cert.KernelIdeal Cert.KernelIdeal.Gen

/-- The number of trips for the tile of tokens `i`. -/
abbrev ntr (i : grid0.Coords) : ℕ := ((i 2).val * 128 + 127) / 512 + 1

theorem trips1 (i : grid0.Coords) : (k0_t1_loop i).trips = ntr i := by
  have h : ∀ a : Fin 32, Scf.trips (0#32)
    (Scalar.addi (0#32) (Scalar.muli (Scalar.divsi (Scalar.subi (Scalar.addi (Scalar.divsi (Scalar.subi (Scalar.addi
      (Scalar.muli (BitVec.ofNat 32 a.val) 128#32) 128#32) 1#32) 512#32) 1#32) 0#32) 1#32) 1#32)) 1#32 = (a.val * 128 + 127) / 512 + 1 := by
    decide +kernel
  exact h (i 2)

theorem trips2 (i : grid0.Coords) : (k0_t2_loop i).trips = 0 := by
  have h : ∀ a : Fin 32, Scf.trips
    (Scalar.addi (0#32) (Scalar.muli (Scalar.divsi (Scalar.subi (Scalar.addi (Scalar.divsi (Scalar.subi (Scalar.addi
      (Scalar.muli (BitVec.ofNat 32 a.val) 128#32) 128#32) 1#32) 512#32) 1#32) 0#32) 1#32) 1#32))
    (Scalar.addi (0#32) (Scalar.subi (Scalar.addi (Scalar.divsi (Scalar.subi (Scalar.addi
      (Scalar.muli (BitVec.ofNat 32 a.val) 128#32) 128#32) 1#32) 512#32) 1#32) 0#32))  1#32 = 0 := by
    decide +kernel
  exact h (i 2)

theorem ntr_le (i : grid0.Coords) : ntr i ≤ 8 := by
  have h : (i 2).val < 32 := (i 2).isLt
  simp only [ntr]; omega

theorem tpos_lt_ntr (i : grid0.Coords) (r : Fin 128) : tpos i r < 512 * ntr i := by
  have := r.isLt
  simp only [ntr, tpos]; omega

/-- Trip `k`'s tile of keys. -/
abbrev tl (i : grid0.Coords) (k : Fin (k0_t1_loop i).trips) : Fin 8 :=
  ⟨k.val, lt_of_lt_of_le k.isLt ((trips1 i).le.trans (ntr_le i))⟩

theorem iv_word (i : grid0.Coords) (k : Fin (k0_t1_loop i).trips) : Scf.iv 0#32 1#32 k.val = BitVec.ofNat 32 k.val := by
  simp [Scf.iv]

/-- The tile of keys (or values) one trip loads. -/
abbrev kT (i : grid0.Coords) (k : Fin (k0_t1_loop i).trips) (x : Vec Ideal S1x1x4096x64 .bf16) : Vec Ideal S1x1x512x64 .bf16 :=
  View.ld x (Rect.unit (s := S1x1x4096x64) (k0_off1 i k) S1x1x512x64.size (k0_off1_inb i k))

/-- The tile of the mask one trip loads. -/
abbrev mT (i : grid0.Coords) (k : Fin (k0_t1_loop i).trips) (x : Vec Ideal S8x128x512 .f32) : Vec Ideal S1x128x512 .f32 :=
  View.ld x (Rect.unit (s := S8x128x512) (k0_off2 i k) S1x128x512.size (k0_off2_inb i k))

theorem off1_eq (i : grid0.Coords) (k : Fin (k0_t1_loop i).trips) : k0_off1 i k = ![0, 0, 512 * k.val, 0] := by
  have hk := (tl i k).isLt
  simp only at hk
  unfold k0_off1
  simp only [iv_word, Scalar.indexCast]
  congr 3
  rw [show (512#32 : BitVec 32) = BitVec.ofNat 32 512 from rfl, smuli_nat, BitVec.toNat_ofNat]
  omega

theorem off2_eq (i : grid0.Coords) (k : Fin (k0_t1_loop i).trips) : k0_off2 i k = ![k.val, 0, 0] := by
  have hk := (tl i k).isLt
  simp only at hk
  unfold k0_off2
  simp only [iv_word, Scalar.indexCast]
  rw [BitVec.toNat_ofNat, Nat.mod_eq_of_lt (by omega)]

theorem kT_apply (i : grid0.Coords) (k : Fin (k0_t1_loop i).trips) (x : Vec Ideal S1x1x4096x64 .bf16) (c : Fin 512) (d : Fin 64) :
    kT i k x (ix4 0 0 c d) = x (ix4 0 0 (tkey (tl i k) c) d) := by
  show x _ = x _
  congr 1
  funext a
  apply Fin.ext
  have h := congrFun (off1_eq i k) a
  show k0_off1 i k a + 1 * _ = _
  rw [h]
  fin_cases a
  · rfl
  · rfl
  · show 512 * k.val + 1 * c.val = 512 * k.val + c.val; omega
  · show 0 + 1 * d.val = d.val; omega

theorem mT_apply (i : grid0.Coords) (k : Fin (k0_t1_loop i).trips) (x : Vec Ideal S8x128x512 .f32) (r : Fin 128) (c : Fin 512) :
    mT i k x (ix3 0 r c) = x (ix3 (tl i k) r c) := by
  show x _ = x _
  congr 1
  funext a
  apply Fin.ext
  have h := congrFun (off2_eq i k) a
  show k0_off2 i k a + 1 * _ = _
  rw [h]
  fin_cases a
  · rfl
  · show 0 + 1 * r.val = r.val; omega
  · show 0 + 1 * c.val = c.val; omega

/-- One trip: the running maximum, sum and weighted values. -/
theorem trip_eq (c : Dev nD) (i : grid0.Coords) (arg3 : Memref sig .tc .vmem S128x256 .bf16) (harg3 : arg3.IsWhole) (arg4 : Memref sig .tc .vmem S1x1x64x64 .bf16) (harg4 : arg4.IsWhole) (arg5 : Memref sig .tc .vmem S1x1x64x64 .bf16) (harg5 : arg5.IsWhole) (arg6 : Memref sig .tc .vmem S1x1x4096x64 .bf16) (harg6 : arg6.IsWhole) (arg7 : Memref sig .tc .vmem S1x1x4096x64 .bf16) (harg7 : arg7.IsWhole) (arg8 : Memref sig .tc .vmem S1x1x4096x64 .bf16) (harg8 : arg8.IsWhole) (arg9 : Memref sig .tc .vmem S1x1x4096x64 .bf16) (harg9 : arg9.IsWhole) (arg10 : Memref sig .tc .vmem S128x128 .f32) (harg10 : arg10.IsWhole) (arg11 : Memref sig .tc .vmem S128x256 .bf16) (harg11 : arg11.IsWhole) (arg12 : Memref sig .tc .vmem S8x128x512 .f32) (harg12 : arg12.IsWhole)  (arg2 : BitVec 32) (v5 : FVec Ideal S512x64 .bf16) (v9 : IVec S128x1 32) (v10 : IVec S512x1 32) (v1023 : FVec Ideal S128x512 .f32) (v1024 : Vec Ideal S1x128x512 .f32)
    (x3 x4 : Vec Ideal S1x1x4096x64 .bf16) (X : BufTy.Contents (Elt Ideal) arg12.view.ty) (k : Fin (k0_t1_loop i).trips)
    (acc : FVec Ideal S512x1 .f32 × FVec Ideal S512x1 .f32 × FVec Ideal S512x64 .f32) :
    tripR_k0_t1 Variants.none c none i arg3 harg3 arg4 harg4 arg5 harg5 arg6 harg6 arg7 harg7 arg8 harg8 arg9 harg9 arg10 harg10 arg11 harg11 arg12 harg12 arg2 v5 v9 v10 v1023 v1024 (harg6.unread x3) (harg7.unread x4) X k acc
      = (k0_pay81 i v5 v9 k acc.1 (kT i k x3) (mT i k (arg12.view.read (Elt Ideal) X)),
         k0_pay84 i v5 v9 k acc.1 acc.2.1 (kT i k x3) (mT i k (arg12.view.read (Elt Ideal) X)),
         k0_pay85 i v5 v9 k acc.1 acc.2.2 (kT i k x3) (kT i k x4) (mT i k (arg12.view.read (Elt Ideal) X))) := by
  unfold tripR_k0_t1 trip_k0_t1
  dsimp only
  sl_unfold_words
  simp only [View.readAt_eq_ld, harg6.read_unread, harg7.read_unread]
  rfl

section
variable (i : grid0.Coords) (x0 : Vec Ideal S128x256 .bf16) (x1 x2 : Vec Ideal S1x1x64x64 .bf16) (x3 x4 x5 x6 : Vec Ideal S1x1x4096x64 .bf16)
  (x7 : Vec Ideal S128x128 .f32)

local notation "A" => tok x0 x1 x2 x3 x4 x5 x6 x7

/-- The mask kept in the buffer. -/
abbrev maskOf : Vec Ideal S8x128x512 .f32 := View.canon (maskPieces (Nsa.selOf (k0_pay3 i) (k0_pay5 i x0 x1)))

/-- The masked scores of one tile, from the trip's index as a word. -/
def scoresAt (arg13 : BitVec 32) (v5 : FVec Ideal S512x64 .bf16) (v9 : IVec S128x1 32) (v1143 : Vec Ideal S1x1x512x64 .bf16)
    (v1156 : Vec Ideal S1x128x512 .f32) : FVec Ideal S512x512 .f32 :=
  let v1140 : BitVec 32 := Scalar.muli arg13 512#32
  let v1141 : BitVec 32 := v1140
  have v1144 : FVec Ideal S512x64 .bf16 := shapeCast S512x64 v1143 shapeCasts_S1x1x512x64_S512x64
  have cst_241 : FVec Ideal S512x512 .f32 := constant S512x512 .f32 0x00000000#32
  have v1148 : FVec Ideal S512x512 .f32 := matmul dot_S512x64_S512x64_S512x512_1_1_0_0_n_n none v5 v1144 cst_241
  have v1149 : IVec S1x512 32 := iota .tc S1x512 32 [1] iota_S1x512_d1_w32
  have v1150 : IVec S1x512 32 := broadcast S1x512 v1141
  have v1151 : IVec S1x512 32 := addi v1150 v1149
  have v1152 : IVec S128x512 32 := broadcastTo S128x512 v1151 broadcasts_S1x512_S128x512
  have v1153 : IVec S128x512 32 := broadcastTo S128x512 v9 broadcasts_S128x1_S128x512
  have v1154 : IVec S128x512 1 := cmpi .sle v1152 v1153
  have v1157 : FVec Ideal S128x512 .f32 := shapeCast S128x512 v1156 shapeCasts_S1x128x512_S128x512
  have cst_244 : Ideal .f32 := Scalar.ofBits .f32 0x00000000#32
  have v1158 : FVec Ideal S128x512 .f32 := broadcast S128x512 cst_244
  have v1159 : FVec Ideal S128x512 .f32 := select v1154 v1157 v1158
  have v1160 : FVec Ideal S512x512 .f32 := concatenate S512x512 0 [⟨S128x512, v1159⟩, ⟨S128x512, v1159⟩, ⟨S128x512, v1159⟩, ⟨S128x512, v1159⟩] concatenates_S128x512_S128x512_S128x512_S128x512_S512x512_d0
  have cst_245 : Ideal .f32 := Scalar.ofBits .f32 0x3F000000#32
  have v1161 : FVec Ideal S512x512 .f32 := broadcast S512x512 cst_245
  have v1162 : IVec S512x512 1 := cmpf .ogt v1160 v1161
  have cst_246 : Ideal .f32 := Named.named κ "mask" 0xF149F2CA#32
  have v1163 : FVec Ideal S512x512 .f32 := broadcast S512x512 cst_246
  have v1164 : FVec Ideal S512x512 .f32 := select v1162 v1148 v1163
  v1164

set_option maxHeartbeats 2000000 in
theorem scoresAt_apply (kk : ℕ) (v5 : FVec Ideal S512x64 .bf16) (v9 : IVec S128x1 32) (K : Vec Ideal S1x1x512x64 .bf16)
    (M : Vec Ideal S1x128x512 .f32) (g : Fin 4) (r : Fin 128) (c : Fin 512) :
    scoresAt (BitVec.ofNat 32 kk) v5 v9 K M (ix2 (row g r) c)
      = if Ideal.ofBits .f32 0x3F000000#32 < Scalar.select (IntOp.cmpi .sle (IntOp.addi (BitVec.ofNat 32 (kk * 512)) (BitVec.ofNat 32 c.val)) (v9 (ix2 r 0)))
          (M (ix3 0 r c)) 0 then ∑ d : Fin 64, v5 (ix2 (row g r) d) * K (ix4 0 0 c d) else ⊥ := by
  have hr := r.isLt
  have e0 : ∀ h, (⟨0 * 128 + r.val, h⟩ : Fin 128) = r := fun h => Fin.ext (by simp only; omega)
  have e1 : ∀ h, (⟨1 * 128 + r.val - 128, h⟩ : Fin 128) = r := fun h => Fin.ext (by simp only; omega)
  have e2 : ∀ h, (⟨2 * 128 + r.val - 128 - 128, h⟩ : Fin 128) = r := fun h => Fin.ext (by simp only; omega)
  have e3 : ∀ h, (⟨3 * 128 + r.val - 128 - 128 - 128, h⟩ : Fin 128) = r := fun h => Fin.ext (by simp only; omega)
  fin_vals g with hk
  all_goals pointwise [scoresAt]
  all_goals simp only [hk, mask_bot]
  all_goals rw [show (512#32 : BitVec 32) = BitVec.ofNat 32 512 from rfl, smuli_nat]
  · rw [dif_pos (by omega)]; simp only [e0]
  · rw [dif_neg (by omega), dif_pos (by omega)]; simp only [e1]
  · rw [dif_neg (by omega), dif_neg (by omega), dif_pos (by omega)]; simp only [e2]
  · rw [dif_neg (by omega), dif_neg (by omega), dif_neg (by omega)]; simp only [e3]

theorem pay80_gen (v5 : FVec Ideal S512x64 .bf16) (v9 : IVec S128x1 32) (k : Fin (k0_t1_loop i).trips) (K : Vec Ideal S1x1x512x64 .bf16)
    (M : Vec Ideal S1x128x512 .f32) : k0_pay80 i v5 v9 k K M = scoresAt (BitVec.ofNat 32 k.val) v5 v9 K M := by
  rw [← iv_word i k]; rfl

theorem half_lt (p q : Prop) [Decidable p] [Decidable q] :
    (Ideal.ofBits .f32 0x3F000000#32 < if p then (if q then (1 : EReal) else 0) else 0) ↔ p ∧ q := by
  rw [half]
  by_cases hp : p <;> by_cases hq : q <;> simp [hp, hq]
  all_goals norm_cast
  all_goals norm_num

theorem pay80_apply (k : Fin (k0_t1_loop i).trips) (g : Fin 4) (r : Fin 128) (c : Fin 512) :
    k0_pay80 i (k0_pay2 x0) (k0_pay3 i) k (kT i k x3) (mT i k (maskOf i x0 x1)) (ix2 (row g r) c)
      = msk (Tok.ksel (A r) (tpos i r)) (fun k => dotp ((A r).q g) ((A r).ks k)) (tkey (tl i k) c) := by
  have hm : mT i k (maskOf i x0 x1) (ix3 0 r c) = if (A r).selb (tpos i r) (Tok.blk (tkey (tl i k) c)) then 1 else 0 := by
    rw [mT_apply]
    unfold maskOf
    rw [mask_read]
    exact sel_apply i x0 x1 x2 x3 x4 x5 x6 x7 r _
  have hk8 := (tl i k).isLt
  simp only at hk8
  have hc := c.isLt
  have ht := tpos_lt i r
  have e2 : ∀ d : Fin 64, k0_pay2 x0 (ix2 (row g r) d) = (A r).q g d := fun d => pay2_apply x0 g r d
  rw [pay80_gen, scoresAt_apply, hm, pay3_apply, addi_nat, cmpi_sle_nat (by omega) (by omega), select_ofBool]
  have hw : (k.val * 512 + c.val ≤ tpos i r) ↔ (tkey (tl i k) c).val ≤ tpos i r := by
    simp only [tkey]; omega
  unfold msk Tok.ksel dotp
  have e3 : ∀ d : Fin 64, kT i k x3 (ix4 0 0 c d) = (A r).ks (tkey (tl i k) c) d := fun d => kT_apply i k x3 c d
  simp only [half_lt, hw, e2, e3]

section
variable (v5 : FVec Ideal S512x64 .bf16) (v9 : IVec S128x1 32) (k : Fin (k0_t1_loop i).trips) (m l : FVec Ideal S512x1 .f32)
  (a : FVec Ideal S512x64 .f32) (K V : Vec Ideal S1x1x512x64 .bf16) (M : Vec Ideal S1x128x512 .f32) (R : Fin 512) (d : Fin 64)

theorem pay81_apply : k0_pay81 i v5 v9 k m K M (ix2 R 0) = max (m (ix2 R 0)) (smax fun c : Fin 512 => k0_pay80 i v5 v9 k K M (ix2 R c)) := by
  pointwise [k0_pay81]
  try rw [negInf_bot]
  rfl

theorem pay84_apply : k0_pay84 i v5 v9 k m l K M (ix2 R 0)
    = Ideal.exp (m (ix2 R 0) - k0_pay81 i v5 v9 k m K M (ix2 R 0)) * l (ix2 R 0)
      + ∑ c : Fin 512, Ideal.exp (k0_pay80 i v5 v9 k K M (ix2 R c) - k0_pay81 i v5 v9 k m K M (ix2 R 0)) := by
  pointwise [k0_pay84, k0_pay82, k0_pay83]

theorem pay85_apply : k0_pay85 i v5 v9 k m a K V M (ix2 R d)
    = Ideal.exp (m (ix2 R 0) - k0_pay81 i v5 v9 k m K M (ix2 R 0)) * a (ix2 R d)
      + ∑ c : Fin 512, Ideal.exp (k0_pay80 i v5 v9 k K M (ix2 R c) - k0_pay81 i v5 v9 k m K M (ix2 R 0)) * V (ix4 0 0 c d) := by
  pointwise [k0_pay85, k0_pay82, k0_pay83]

end

theorem pay92_apply (l : FVec Ideal S512x1 .f32) (a : FVec Ideal S512x64 .f32) (R : Fin 512) (d : Fin 64) :
    k0_pay92 l a (ix2 R d) = Ideal.div (a (ix2 R d)) (l (ix2 R 0)) := by
  pointwise [k0_pay92]

theorem pay77_apply (R : Fin 512) : (k0_pay77 (F := Ideal)) (ix2 R 0) = ⊥ := by
  pointwise [k0_pay77]
  exact mask_bot
theorem pay78_apply (R : Fin 512) : (k0_pay78 (F := Ideal)) (ix2 R 0) = 0 := by
  pointwise [k0_pay78]
theorem pay79_apply (R : Fin 512) (d : Fin 64) : (k0_pay79 (F := Ideal)) (ix2 R d) = 0 := by
  pointwise [k0_pay79]

end

end Cert.Nsa

end
-- ==== Proof.KOut.lean ====
/-
  What one grid step of the attention kernel leaves in the result's block: the gated sum of the three branches, token
  by token.
-/
module

public import proofs.«01_k».proof.Proof.KLoop

@[expose] public section

set_option maxRecDepth 16384

noncomputable section

namespace Cert.Nsa

open Idealize.ShloMosaic Idealize.ShloMosaic.TcCoe Idealize.ShloMosaic.Tactic Idealize.SL.Sem
open Cert.KernelIdeal Cert.KernelIdeal.Gen

section
variable (c : Dev nD) (i : grid0.Coords) (arg3 : Memref sig .tc .vmem S128x256 .bf16) (harg3 : arg3.IsWhole) (arg4 : Memref sig .tc .vmem S1x1x64x64 .bf16) (harg4 : arg4.IsWhole) (arg5 : Memref sig .tc .vmem S1x1x64x64 .bf16) (harg5 : arg5.IsWhole) (arg6 : Memref sig .tc .vmem S1x1x4096x64 .bf16) (harg6 : arg6.IsWhole) (arg7 : Memref sig .tc .vmem S1x1x4096x64 .bf16) (harg7 : arg7.IsWhole) (arg8 : Memref sig .tc .vmem S1x1x4096x64 .bf16) (harg8 : arg8.IsWhole) (arg9 : Memref sig .tc .vmem S1x1x4096x64 .bf16) (harg9 : arg9.IsWhole) (arg10 : Memref sig .tc .vmem S128x128 .f32) (harg10 : arg10.IsWhole) (arg11 : Memref sig .tc .vmem S128x256 .bf16) (harg11 : arg11.IsWhole) (arg12 : Memref sig .tc .vmem S8x128x512 .f32) (harg12 : arg12.IsWhole)
    (x0 : Vec Ideal S128x256 .bf16) (x1 x2 : Vec Ideal S1x1x64x64 .bf16) (x3 x4 x5 x6 : Vec Ideal S1x1x4096x64 .bf16)
    (x7 : Vec Ideal S128x128 .f32)

/-- The selection of the tile of tokens. -/
abbrev selT : FVec Ideal S128x64 .bf16 := Nsa.selOf (k0_pay3 i) (k0_pay5 i x0 x1)

/-- The running softmax before trip `n`. -/
def L1 (n : ℕ) : FVec Ideal S512x1 .f32 × FVec Ideal S512x1 .f32 × FVec Ideal S512x64 .f32 :=
  st_k0_t1 Variants.none c none i arg3 harg3 arg4 harg4 arg5 harg5 arg6 harg6 arg7 harg7 arg8 harg8 arg9 harg9 arg10 harg10 arg11 harg11 arg12 harg12 (BitVec.ofNat 32 (i 2).val) (k0_pay2 x0) (k0_pay3 i) (k0_pay4 i)
    (k0_pay75 (selT i x0 x1)) (broadcast S1x128x512 (Scalar.ofBits (F := Ideal) .f32 0#32)) (harg6.unread x3) (harg7.unread x4)
    (arg12.view.writes (Elt Ideal) arg12.view.junk (maskPieces (selT i x0 x1))) (k0_pay77, k0_pay78, k0_pay79) n

/-- The loop over what is left, which makes no trip. -/
def L2 (n n' : ℕ) : FVec Ideal S512x1 .f32 × FVec Ideal S512x1 .f32 × FVec Ideal S512x64 .f32 :=
  st_k0_t2 Variants.none c none i arg3 harg3 arg4 harg4 arg5 harg5 arg6 harg6 arg7 harg7 arg8 harg8 arg9 harg9 arg10 harg10 arg11 harg11 arg12 harg12 (BitVec.ofNat 32 (i 2).val) (k0_pay2 x0) (k0_pay3 i) (k0_pay4 i)
    (k0_pay75 (selT i x0 x1)) (broadcast S1x128x512 (Scalar.ofBits (F := Ideal) .f32 0#32)) (harg6.unread x3) (harg7.unread x4)
    (arg12.view.writes (Elt Ideal) arg12.view.junk (maskPieces (selT i x0 x1)))
    ((L1 c i arg3 harg3 arg4 harg4 arg5 harg5 arg6 harg6 arg7 harg7 arg8 harg8 arg9 harg9 arg10 harg10 arg11 harg11 arg12 harg12 x0 x1 x3 x4 n).1, (L1 c i arg3 harg3 arg4 harg4 arg5 harg5 arg6 harg6 arg7 harg7 arg8 harg8 arg9 harg9 arg10 harg10 arg11 harg11 arg12 harg12 x0 x1 x3 x4 n).2.1,
      (L1 c i arg3 harg3 arg4 harg4 arg5 harg5 arg6 harg6 arg7 harg7 arg8 harg8 arg9 harg9 arg10 harg10 arg11 harg11 arg12 harg12 x0 x1 x3 x4 n).2.2) n'

/-- The keys (or values) of the window. -/
abbrev wT (x : Vec Ideal S1x1x4096x64 .bf16) : Vec Ideal S1x1x640x64 .bf16 :=
  View.ld x (Rect.unit (s := S1x1x4096x64) (k0_off5 i) S1x1x640x64.size (k0_off5_inb i))

/-- The compressed branch, all rows. -/
abbrev ocT : FVec Ideal S512x64 .f32 := k0_pay8 (k0_pay6 i x0 x1) (k0_pay7 x2) (constant S512x64 .f32 0x00000000#32)

/-- The window's branch, all rows. -/
abbrev owT : FVec Ideal S512x64 .f32 :=
  k0_pay97 (k0_pay4 i) (k0_pay93 (wT i x6)) (k0_pay94 (k0_pay2 x0) (wT i x5)) (k0_pay95 (BitVec.ofNat 32 (i 2).val))
    (k0_pay96 (BitVec.ofNat 32 (i 2).val) (k0_pay4 i)) 512#32

/-- The block stored, from the selected branch. -/
abbrev outT (o : FVec Ideal S512x64 .f32) : FVec Ideal S128x256 .bf16 :=
  k0_pay1 (ocT i x0 x1 x2) o (owT i x0 x5 x6) x7
    (k0_pay98 (k0_pay4 i) (ocT i x0 x1 x2) o (k0_pay93 (wT i x6)) (k0_pay94 (k0_pay2 x0) (wT i x5)) (k0_pay95 (BitVec.ofNat 32 (i 2).val))
      (k0_pay96 (BitVec.ofNat 32 (i 2).val) (k0_pay4 i)) 512#32 x7)
    (k0_pay99 (k0_pay4 i) (ocT i x0 x1 x2) o (k0_pay93 (wT i x6)) (k0_pay94 (k0_pay2 x0) (wT i x5)) (k0_pay95 (BitVec.ofNat 32 (i 2).val))
      (k0_pay96 (BitVec.ofNat 32 (i 2).val) (k0_pay4 i)) 512#32 x7)
    (k0_pay100 (ocT i x0 x1 x2) x7) (k0_pay101 x7) (k0_pay102 o)

theorem out_eq (n n' : ℕ) (h1 : Scf.trips (0#32)
      (Scalar.addi (0#32) (Scalar.muli (Scalar.divsi (Scalar.subi (Scalar.addi (Scalar.divsi (Scalar.subi (Scalar.addi
        (Scalar.muli (BitVec.ofNat 32 (i 2).val) 128#32) 128#32) 1#32) 512#32) 1#32) 0#32) 1#32) 1#32)) 1#32 = n)
    (h2 : Scf.trips
      (Scalar.addi (0#32) (Scalar.muli (Scalar.divsi (Scalar.subi (Scalar.addi (Scalar.divsi (Scalar.subi (Scalar.addi
        (Scalar.muli (BitVec.ofNat 32 (i 2).val) 128#32) 128#32) 1#32) 512#32) 1#32) 0#32) 1#32) 1#32))
      (Scalar.addi (0#32) (Scalar.subi (Scalar.addi (Scalar.divsi (Scalar.subi (Scalar.addi
        (Scalar.muli (BitVec.ofNat 32 (i 2).val) 128#32) 128#32) 1#32) 512#32) 1#32) 0#32)) 1#32 = n') : Nsa.out0_A_8 c i arg3 harg3 arg4 harg4 arg5 harg5 arg6 harg6 arg7 harg7 arg8 harg8 arg9 harg9 arg10 harg10 arg11 harg11 arg12 harg12 x0 x1 x2 x3 x4 x5 x6 x7
    = outT i x0 x1 x2 x5 x6 x7 (k0_pay92 (L2 c i arg3 harg3 arg4 harg4 arg5 harg5 arg6 harg6 arg7 harg7 arg8 harg8 arg9 harg9 arg10 harg10 arg11 harg11 arg12 harg12 x0 x1 x3 x4 n n').2.1 (L2 c i arg3 harg3 arg4 harg4 arg5 harg5 arg6 harg6 arg7 harg7 arg8 harg8 arg9 harg9 arg10 harg10 arg11 harg11 arg12 harg12 x0 x1 x3 x4 n n').2.2) := by
  unfold Nsa.out0_A_8
  rw [View.read_writes_eq_canon _ _ _ (Nsa.cover0_A_8 c i arg3 harg3 arg4 harg4 arg5 harg5 arg6 harg6 arg7 harg7 arg8 harg8 arg9 harg9 arg10 harg10 arg11 harg11 arg12 harg12 x0 x1 x2 x3 x4 x5 x6 x7)]
  unfold Nsa.kernelRun0_A
  dsimp only
  rw [View.canon_cons_unit_lit inb_S128x256_S128x256_0_0 _ _ (by decide)]
  sl_unfold_words
  simp only [View.readAt_eq_ld, harg3.read_unread, harg4.read_unread, harg5.read_unread, harg6.read_unread, harg7.read_unread, harg8.read_unread, harg9.read_unread, harg10.read_unread]
  rw [View.ld_unit_lit inb_S128x256_S128x256_0_0 x0 (by decide), View.ld_unit_lit inb_S1x1x64x64_S1x1x64x64_0_0_0_0 x1 (by decide),
    View.ld_unit_lit inb_S1x1x64x64_S1x1x64x64_0_0_0_0 x2 (by decide), View.ld_unit_lit inb_S128x128_S128x128_0_0 x7 (by decide)]
  rw [h1, h2]
  clear h1 h2
  have hw : ∀ x : Vec Ideal S1x1x4096x64 .bf16, View.ld x (Rect.unit (s := S1x1x4096x64)
      ![0, 0, (Scalar.indexCast (Scalar.maxsi (Scalar.subi (Scalar.muli (BitVec.ofNat 32 (i 2).val) 128#32) 512#32) 0#32)).toNat, 0]
      ![1, 1, 640, 64] (k0_off5_inb i)) = wT i x := fun _ => rfl
  rw [hw, hw]
  refine congrArg (fun z : FVec Ideal S512x1 .f32 × FVec Ideal S512x1 .f32 × FVec Ideal S512x64 .f32 =>
    outT i x0 x1 x2 x5 x6 x7 (k0_pay92 z.2.1 z.2.2)) ?_
  unfold L2
  congr 1

theorem L2_eq (n : ℕ) : L2 c i arg3 harg3 arg4 harg4 arg5 harg5 arg6 harg6 arg7 harg7 arg8 harg8 arg9 harg9 arg10 harg10 arg11 harg11 arg12 harg12 x0 x1 x3 x4 n 0 = L1 c i arg3 harg3 arg4 harg4 arg5 harg5 arg6 harg6 arg7 harg7 arg8 harg8 arg9 harg9 arg10 harg10 arg11 harg11 arg12 harg12 x0 x1 x3 x4 n := by
  unfold L2
  rw [st_k0_t2_zero]

theorem L1_zero : L1 c i arg3 harg3 arg4 harg4 arg5 harg5 arg6 harg6 arg7 harg7 arg8 harg8 arg9 harg9 arg10 harg10 arg11 harg11 arg12 harg12 x0 x1 x3 x4 0 = (k0_pay77, k0_pay78, k0_pay79) := by
  unfold L1
  rw [st_k0_t1_zero]

theorem L1_succ (k : Fin (k0_t1_loop i).trips) : L1 c i arg3 harg3 arg4 harg4 arg5 harg5 arg6 harg6 arg7 harg7 arg8 harg8 arg9 harg9 arg10 harg10 arg11 harg11 arg12 harg12 x0 x1 x3 x4 (k.val + 1)
      = (k0_pay81 i (k0_pay2 x0) (k0_pay3 i) k (L1 c i arg3 harg3 arg4 harg4 arg5 harg5 arg6 harg6 arg7 harg7 arg8 harg8 arg9 harg9 arg10 harg10 arg11 harg11 arg12 harg12 x0 x1 x3 x4 k.val).1 (kT i k x3) (mT i k (maskOf i x0 x1)),
         k0_pay84 i (k0_pay2 x0) (k0_pay3 i) k (L1 c i arg3 harg3 arg4 harg4 arg5 harg5 arg6 harg6 arg7 harg7 arg8 harg8 arg9 harg9 arg10 harg10 arg11 harg11 arg12 harg12 x0 x1 x3 x4 k.val).1 (L1 c i arg3 harg3 arg4 harg4 arg5 harg5 arg6 harg6 arg7 harg7 arg8 harg8 arg9 harg9 arg10 harg10 arg11 harg11 arg12 harg12 x0 x1 x3 x4 k.val).2.1
           (kT i k x3) (mT i k (maskOf i x0 x1)),
         k0_pay85 i (k0_pay2 x0) (k0_pay3 i) k (L1 c i arg3 harg3 arg4 harg4 arg5 harg5 arg6 harg6 arg7 harg7 arg8 harg8 arg9 harg9 arg10 harg10 arg11 harg11 arg12 harg12 x0 x1 x3 x4 k.val).1 (L1 c i arg3 harg3 arg4 harg4 arg5 harg5 arg6 harg6 arg7 harg7 arg8 harg8 arg9 harg9 arg10 harg10 arg11 harg11 arg12 harg12 x0 x1 x3 x4 k.val).2.2
           (kT i k x3) (kT i k x4) (mT i k (maskOf i x0 x1))) := by
  unfold L1
  rw [st_k0_t1_succ, trip_eq, View.read_writes_junk_eq_canon]

local notation "A" => tok x0 x1 x2 x3 x4 x5 x6 x7

/-- The selected branch. -/
theorem sel_branch (hA : ∀ r, (A r).Real) (g : Fin 4) (r : Fin 128) (d : Fin 64) :
    k0_pay92 (L2 c i arg3 harg3 arg4 harg4 arg5 harg5 arg6 harg6 arg7 harg7 arg8 harg8 arg9 harg9 arg10 harg10 arg11 harg11 arg12 harg12 x0 x1 x3 x4 (ntr i) 0).2.1 (L2 c i arg3 harg3 arg4 harg4 arg5 harg5 arg6 harg6 arg7 harg7 arg8 harg8 arg9 harg9 arg10 harg10 arg11 harg11 arg12 harg12 x0 x1 x3 x4 (ntr i) 0).2.2 (ix2 (row g r) d)
      = (A r).os (tpos i r) g d := by
  rw [L2_eq, pay92_apply]
  have ht : (k0_t1_loop i).trips = ntr i := trips1 i
  refine Tok.flash (tpos i r) (hA r) g d (ntr i) (ntr_le i) (tpos_lt_ntr i r)
    (fun n => (L1 c i arg3 harg3 arg4 harg4 arg5 harg5 arg6 harg6 arg7 harg7 arg8 harg8 arg9 harg9 arg10 harg10 arg11 harg11 arg12 harg12 x0 x1 x3 x4 n).1 (ix2 (row g r) 0)) (fun n => (L1 c i arg3 harg3 arg4 harg4 arg5 harg5 arg6 harg6 arg7 harg7 arg8 harg8 arg9 harg9 arg10 harg10 arg11 harg11 arg12 harg12 x0 x1 x3 x4 n).2.1 (ix2 (row g r) 0))
    (fun n => (L1 c i arg3 harg3 arg4 harg4 arg5 harg5 arg6 harg6 arg7 harg7 arg8 harg8 arg9 harg9 arg10 harg10 arg11 harg11 arg12 harg12 x0 x1 x3 x4 n).2.2 (ix2 (row g r) d)) ?_ ?_ ?_ ?_ ?_ ?_
  · simp only [L1_zero, pay77_apply]
  · simp only [L1_zero, pay78_apply]
  · simp only [L1_zero, pay79_apply]
  all_goals
    intro j hj
    have e := L1_succ c i arg3 harg3 arg4 harg4 arg5 harg5 arg6 harg6 arg7 harg7 arg8 harg8 arg9 harg9 arg10 harg10 arg11 harg11 arg12 harg12 x0 x1 x3 x4 ⟨j.val, ht ▸ hj⟩
    have p80 := fun c => pay80_apply i x0 x1 x2 x3 x4 x5 x6 x7 ⟨j.val, ht ▸ hj⟩ g r c
    dsimp only at e p80 ⊢
    simp only [e]
  · rw [pay81_apply]
    simp only [p80]
  · rw [pay84_apply]
    simp only [p80]
  · rw [pay85_apply]
    have hv : ∀ c, kT i ⟨j.val, ht ▸ hj⟩ x4 (ix4 0 0 c d) = (A r).vs (tkey j c) d := fun c => kT_apply i ⟨j.val, ht ▸ hj⟩ x4 c d
    simp only [p80, hv]

end

end Cert.Nsa

end
-- ==== Proof.KBlock.lean ====
/-
  One block of the attention kernel's result: the gated sum of the three branches, token by token.
-/
module

public import proofs.«01_k».proof.Proof.KOut

@[expose] public section

set_option maxRecDepth 16384

noncomputable section

namespace Cert.Nsa

open Idealize.ShloMosaic Idealize.ShloMosaic.TcCoe Idealize.ShloMosaic.Tactic Idealize.SL.Sem
open Cert.KernelIdeal Cert.KernelIdeal.Gen

/-- The first key of the window's span. -/
abbrev wst (i : grid0.Coords) : ℕ := (i 2).val * 128 - 512

theorem wst_le (i : grid0.Coords) : wst i + 640 ≤ 4096 := by
  have h : (i 2).val < 32 := (i 2).isLt
  simp only [wst]; omega

theorem start_word : ∀ a : Fin 32, Scalar.maxsi (Scalar.subi (Scalar.muli (BitVec.ofNat 32 a.val) 128#32) 512#32) 0#32
    = BitVec.ofNat 32 (a.val * 128 - 512) := by decide +kernel

theorem off5_eq (i : grid0.Coords) : k0_off5 i = ![0, 0, wst i, 0] := by
  have h := wst_le i
  unfold k0_off5
  dsimp only
  rw [start_word (i 2)]
  simp only [Scalar.indexCast]
  rw [BitVec.toNat_ofNat, Nat.mod_eq_of_lt (by simp only [wst] at h; omega)]

theorem wT_apply (i : grid0.Coords) (x : Vec Ideal S1x1x4096x64 .bf16) (c : Fin 640) (d : Fin 64) :
    wT i x (ix4 0 0 c d) = x (ix4 0 0 ⟨wst i + c.val, by have := wst_le i; omega⟩ d) := by
  show x _ = x _
  congr 1
  funext a
  apply Fin.ext
  have h := congrFun (off5_eq i) a
  show k0_off5 i a + 1 * _ = _
  rw [h]
  fin_cases a
  · rfl
  · rfl
  · show wst i + 1 * c.val = wst i + c.val; omega
  · show 0 + 1 * d.val = d.val; omega

theorem late_word (a t : ℕ) (ha : a < 2 ^ 30) (ht : t < 2 ^ 30) :
    IntOp.cmpi .sge (BitVec.ofNat 32 a) (IntOp.subi (BitVec.ofNat 32 t) 512#32) = BitVec.ofBool (decide (t ≤ a + 512)) := by
  have e : IntOp.subi (BitVec.ofNat 32 t) 512#32 = BitVec.ofNat 32 t - 512#32 := rfl
  have e1 : (BitVec.ofNat 32 a).toInt = (a : ℤ) := by
    rw [BitVec.toInt_eq_toNat_cond, BitVec.toNat_ofNat, Nat.mod_eq_of_lt (by omega), if_pos (by omega)]
  have e2 : (BitVec.ofNat 32 t - 512#32).toInt = (t : ℤ) - 512 := by
    rw [BitVec.toInt_eq_toNat_cond, BitVec.toNat_sub, BitVec.toNat_ofNat, BitVec.toNat_ofNat]
    split_ifs <;> omega
  rw [e]
  simp only [IntOp.cmpi, BitVec.sle, e1, e2]
  congr 1
  refine decide_eq_decide.2 ⟨fun h => ?_, fun h => ?_⟩ <;> omega

set_option maxHeartbeats 2000000 in
theorem pay97_apply (v10 : IVec S512x1 32) (K : FVec Ideal S640x64 .bf16) (S : FVec Ideal S512x640 .f32) (W : IVec S1x640 32)
    (B : IVec S512x640 1) (w : BitVec 32) (R : Fin 512) (d : Fin 64) :
    k0_pay97 v10 K S W B w (ix2 R d) = ∑ c : Fin 640, sm (fun c : Fin 640 => Scalar.select (IntOp.andi (B (ix2 R c))
      (IntOp.cmpi .sge (W (ix2 0 c)) (IntOp.subi (v10 (ix2 R 0)) w))) (S (ix2 R c)) (⊥ : EReal)) c * K (ix2 c d) := by
  pointwise [k0_pay97]
  simp only [mask_bot, negInf_bot]
  rfl

theorem pay93_apply (x : Vec Ideal S1x1x640x64 .bf16) (c : Fin 640) (d : Fin 64) : k0_pay93 x (ix2 c d) = x (ix4 0 0 c d) := by
  pointwise [k0_pay93]

theorem pay94_apply (v5 : FVec Ideal S512x64 .bf16) (x : Vec Ideal S1x1x640x64 .bf16) (R : Fin 512) (c : Fin 640) :
    k0_pay94 v5 x (ix2 R c) = ∑ d : Fin 64, v5 (ix2 R d) * x (ix4 0 0 c d) := by
  pointwise [k0_pay94]

theorem pay95_apply (i : grid0.Coords) (c : Fin 640) : k0_pay95 (BitVec.ofNat 32 (i 2).val) (ix2 0 c) = BitVec.ofNat 32 (wst i + c.val) := by
  pointwise [k0_pay95]
  rw [start_word (i 2), addi_nat]

theorem pay96_apply (i : grid0.Coords) (g : Fin 4) (r : Fin 128) (c : Fin 640) :
    k0_pay96 (BitVec.ofNat 32 (i 2).val) (k0_pay4 i) (ix2 (row g r) c) = BitVec.ofBool (decide (wst i + c.val ≤ tpos i r)) := by
  have h := wst_le i
  have hc := c.isLt
  have ht := tpos_lt i r
  pointwise [k0_pay96]
  rw [show k0_pay4 i (ix2 (⟨g.val * 128 + r.val, by omega⟩ : Fin 512) 0) = BitVec.ofNat 32 (tpos i r) from pay4_apply i g r,
    pay95_apply, cmpi_sle_nat (by omega) (by omega)]

section
variable (c : Dev nD) (i : grid0.Coords) (arg3 : Memref sig .tc .vmem S128x256 .bf16) (harg3 : arg3.IsWhole) (arg4 : Memref sig .tc .vmem S1x1x64x64 .bf16) (harg4 : arg4.IsWhole) (arg5 : Memref sig .tc .vmem S1x1x64x64 .bf16) (harg5 : arg5.IsWhole) (arg6 : Memref sig .tc .vmem S1x1x4096x64 .bf16) (harg6 : arg6.IsWhole) (arg7 : Memref sig .tc .vmem S1x1x4096x64 .bf16) (harg7 : arg7.IsWhole) (arg8 : Memref sig .tc .vmem S1x1x4096x64 .bf16) (harg8 : arg8.IsWhole) (arg9 : Memref sig .tc .vmem S1x1x4096x64 .bf16) (harg9 : arg9.IsWhole) (arg10 : Memref sig .tc .vmem S128x128 .f32) (harg10 : arg10.IsWhole) (arg11 : Memref sig .tc .vmem S128x256 .bf16) (harg11 : arg11.IsWhole) (arg12 : Memref sig .tc .vmem S8x128x512 .f32) (harg12 : arg12.IsWhole)
    (x0 : Vec Ideal S128x256 .bf16) (x1 x2 : Vec Ideal S1x1x64x64 .bf16) (x3 x4 x5 x6 : Vec Ideal S1x1x4096x64 .bf16)
    (x7 : Vec Ideal S128x128 .f32)

local notation "A" => tok x0 x1 x2 x3 x4 x5 x6 x7

/-- The window's branch. -/
theorem win_branch (hA : ∀ r, (A r).Real) (g : Fin 4) (r : Fin 128) (d : Fin 64) :
    owT i x0 x5 x6 (ix2 (row g r) d) = (A r).ow (tpos i r) g d := by
  have ht := tpos_lt i r
  have hr := r.isLt
  have hw := wst_le i
  rw [← Tok.window (tpos i r) (hA r) g d ht (wst i) hw (by simp only [wst, tpos]; omega) (by simp only [wst, tpos]; omega)]
  unfold owT
  rw [pay97_apply]
  refine Finset.sum_congr rfl fun c _ => ?_
  rw [pay93_apply, wT_apply]
  congr 2
  funext c
  have hc := c.isLt
  rw [pay96_apply, pay95_apply, pay4_apply, late_word _ _ (by omega) (by omega), andi_ofBool, pay94_apply]
  unfold msk Tok.kwin dotp
  have e3 : ∀ d, wT i x5 (ix4 0 0 c d) = (A r).kw ⟨wst i + c.val, by omega⟩ d := fun d => wT_apply i x5 c d
  have e2 : ∀ d : Fin 64, k0_pay2 x0 (ix2 (row g r) d) = (A r).q g d := fun d => pay2_apply x0 g r d
  simp only [e2, e3]
  by_cases h1 : wst i + c.val ≤ tpos i r <;> by_cases h2 : tpos i r ≤ wst i + c.val + 512 <;> simp [h1, h2, Scalar.select]

end

set_option maxHeartbeats 2000000 in
theorem outT_apply (i : grid0.Coords) (x0 : Vec Ideal S128x256 .bf16) (x1 x2 : Vec Ideal S1x1x64x64 .bf16) (x5 x6 : Vec Ideal S1x1x4096x64 .bf16)
    (x7 : Vec Ideal S128x128 .f32) (o : FVec Ideal S512x64 .f32) (g : Fin 4) (r : Fin 128) (d : Fin 64) :
    outT i x0 x1 x2 x5 x6 x7 o (ix2 r ⟨g.val * 64 + d.val, by omega⟩)
      = x7 (ix2 r ⟨0 * 4 + g.val, by omega⟩) * ocT i x0 x1 x2 (ix2 (row g r) d)
        + x7 (ix2 r ⟨1 * 4 + g.val, by omega⟩) * o (ix2 (row g r) d)
        + x7 (ix2 r ⟨2 * 4 + g.val, by omega⟩) * owT i x0 x5 x6 (ix2 (row g r) d) := by
  unfold outT
  rw [show owT i x0 x5 x6 = k0_pay97 (k0_pay4 i) (k0_pay93 (wT i x6)) (k0_pay94 (k0_pay2 x0) (wT i x5)) (k0_pay95 (BitVec.ofNat 32 (i 2).val))
    (k0_pay96 (BitVec.ofNat 32 (i 2).val) (k0_pay4 i)) 512#32 from rfl]
  generalize ocT i x0 x1 x2 = oc
  generalize hv10 : k0_pay4 i = v10
  generalize k0_pay93 (wT i x6) = w1
  generalize k0_pay94 (k0_pay2 x0) (wT i x5) = w2
  generalize k0_pay95 (BitVec.ofNat 32 (i 2).val) = w3
  generalize k0_pay96 (BitVec.ofNat 32 (i 2).val) v10 = w4
  have key : ∀ ow : FVec Ideal S512x64 .f32, k0_pay97 v10 w1 w2 w3 w4 512#32 = ow →
      k0_pay1 oc o ow x7 (k0_pay98 v10 oc o w1 w2 w3 w4 512#32 x7) (k0_pay99 v10 oc o w1 w2 w3 w4 512#32 x7) (k0_pay100 oc x7) (k0_pay101 x7) (k0_pay102 o)
        (ix2 r ⟨g.val * 64 + d.val, by omega⟩)
      = x7 (ix2 r ⟨0 * 4 + g.val, by omega⟩) * oc (ix2 (row g r) d)
        + x7 (ix2 r ⟨1 * 4 + g.val, by omega⟩) * o (ix2 (row g r) d)
        + x7 (ix2 r ⟨2 * 4 + g.val, by omega⟩) * ow (ix2 (row g r) d) := by
    intro ow how
    unfold k0_pay98 k0_pay99
    rw [how]
    have hd := d.isLt
    have hr := r.isLt
    fin_vals g with hk
    all_goals pointwise [k0_pay1, k0_pay100, k0_pay101, k0_pay102]
    all_goals simp only [hk]
    · rw [dif_pos (by omega)]
      refine congrArg₂ (· + ·) (congrArg₂ (· + ·) (congrArg₂ (· * ·) ?_ ?_) (congrArg₂ (· * ·) ?_ ?_)) (congrArg₂ (· * ·) ?_ ?_)
      all_goals refine congrArg _ (congrArg₂ ix2 (Fin.ext ?_) (Fin.ext ?_))
      all_goals first | rfl | (simp only [hk]; done) | (simp only [hk]; omega)
    · rw [dif_neg (by omega), dif_pos (by omega)]
      refine congrArg₂ (· + ·) (congrArg₂ (· + ·) (congrArg₂ (· * ·) ?_ ?_) (congrArg₂ (· * ·) ?_ ?_)) (congrArg₂ (· * ·) ?_ ?_)
      all_goals refine congrArg _ (congrArg₂ ix2 (Fin.ext ?_) (Fin.ext ?_))
      all_goals first | rfl | (simp only [hk]; done) | (simp only [hk]; omega)
    · rw [dif_neg (by omega), dif_neg (by omega), dif_pos (by omega)]
      refine congrArg₂ (· + ·) (congrArg₂ (· + ·) (congrArg₂ (· * ·) ?_ ?_) (congrArg₂ (· * ·) ?_ ?_)) (congrArg₂ (· * ·) ?_ ?_)
      all_goals refine congrArg _ (congrArg₂ ix2 (Fin.ext ?_) (Fin.ext ?_))
      all_goals first | rfl | (simp only [hk]; done) | (simp only [hk]; omega)
    · rw [dif_neg (by omega), dif_neg (by omega), dif_neg (by omega)]
      refine congrArg₂ (· + ·) (congrArg₂ (· + ·) (congrArg₂ (· * ·) ?_ ?_) (congrArg₂ (· * ·) ?_ ?_)) (congrArg₂ (· * ·) ?_ ?_)
      all_goals refine congrArg _ (congrArg₂ ix2 (Fin.ext ?_) (Fin.ext ?_))
      all_goals first | rfl | (simp only [hk]; done) | (simp only [hk]; omega)
  exact key _ rfl

section
variable (c : Dev nD) (i : grid0.Coords) (arg3 : Memref sig .tc .vmem S128x256 .bf16) (harg3 : arg3.IsWhole) (arg4 : Memref sig .tc .vmem S1x1x64x64 .bf16) (harg4 : arg4.IsWhole) (arg5 : Memref sig .tc .vmem S1x1x64x64 .bf16) (harg5 : arg5.IsWhole) (arg6 : Memref sig .tc .vmem S1x1x4096x64 .bf16) (harg6 : arg6.IsWhole) (arg7 : Memref sig .tc .vmem S1x1x4096x64 .bf16) (harg7 : arg7.IsWhole) (arg8 : Memref sig .tc .vmem S1x1x4096x64 .bf16) (harg8 : arg8.IsWhole) (arg9 : Memref sig .tc .vmem S1x1x4096x64 .bf16) (harg9 : arg9.IsWhole) (arg10 : Memref sig .tc .vmem S128x128 .f32) (harg10 : arg10.IsWhole) (arg11 : Memref sig .tc .vmem S128x256 .bf16) (harg11 : arg11.IsWhole) (arg12 : Memref sig .tc .vmem S8x128x512 .f32) (harg12 : arg12.IsWhole)
    (x0 : Vec Ideal S128x256 .bf16) (x1 x2 : Vec Ideal S1x1x64x64 .bf16) (x3 x4 x5 x6 : Vec Ideal S1x1x4096x64 .bf16)
    (x7 : Vec Ideal S128x128 .f32)

local notation "A" => tok x0 x1 x2 x3 x4 x5 x6 x7

/-- The block is the layer's value at each of its tokens. -/
theorem block_out (hA : ∀ r, (A r).Real) (g : Fin 4) (r : Fin 128) (d : Fin 64) :
    Nsa.out0_A_8 c i arg3 harg3 arg4 harg4 arg5 harg5 arg6 harg6 arg7 harg7 arg8 harg8 arg9 harg9 arg10 harg10 arg11 harg11 arg12 harg12 x0 x1 x2 x3 x4 x5 x6 x7 (ix2 r ⟨g.val * 64 + d.val, by omega⟩)
      = (A r).out (tpos i r) g d := by
  rw [out_eq c i arg3 harg3 arg4 harg4 arg5 harg5 arg6 harg6 arg7 harg7 arg8 harg8 arg9 harg9 arg10 harg10 arg11 harg11 arg12 harg12 x0 x1 x2 x3 x4 x5 x6 x7 (ntr i) 0 (trips1 i) (trips2 i), outT_apply, win_branch i x0 x1 x2 x3 x4 x5 x6 x7 hA,
    sel_branch c i arg3 harg3 arg4 harg4 arg5 harg5 arg6 harg6 arg7 harg7 arg8 harg8 arg9 harg9 arg10 harg10 arg11 harg11 arg12 harg12 x0 x1 x2 x3 x4 x5 x6 x7 hA]
  rw [show ocT i x0 x1 x2 (ix2 (row g r) d) = (A r).oc (tpos i r) g d from pay8_apply i x0 x1 x2 x3 x4 x5 x6 x7 g r d]
  rfl

end

end Cert.Nsa

end
-- ==== Proof.Args.lean ====
/-
  The layer's value in the argument arrays: what each token of each head group sees, and the array of results.
-/
module

public import proofs.«01_k».proof.Proof.Spec
public import Idealize.ShloMosaic.Lib.Pointwise

@[expose] public section

noncomputable section

namespace Cert.Nsa

open Idealize.ShloMosaic

section
variable (q : FVec Ideal ⟨2, ![9216, 1024]⟩ .bf16) (cp : FVec Ideal ⟨2, ![128, 512]⟩ .f32) (z : FVec Ideal ⟨2, ![9216, 1536]⟩ .f32)
  (ng : FVec Ideal ⟨2, ![9216, 512]⟩ .f32)

/-- What token `t` of sequence `b` sees in head group `h`. -/
def tokA (b : Fin 2) (h : Fin 4) (t : Fin 4096) : Tok where
  q g d := q (ix2 ⟨b.val * 4096 + t.val, by omega⟩ ⟨h.val * 256 + (g.val * 64 + d.val), by omega⟩)
  kc j d := cp (ix2 ⟨b.val * 64 + j.val, by omega⟩ ⟨h.val * 64 + d.val, by omega⟩)
  vc j d := cp (ix2 ⟨b.val * 64 + j.val, by omega⟩ ⟨256 + (h.val * 64 + d.val), by omega⟩)
  ks k d := z (ix2 ⟨b.val * 4096 + k.val, by omega⟩ ⟨512 + (h.val * 64 + d.val), by omega⟩)
  vs k d := z (ix2 ⟨b.val * 4096 + k.val, by omega⟩ ⟨768 + (h.val * 64 + d.val), by omega⟩)
  kw k d := z (ix2 ⟨b.val * 4096 + k.val, by omega⟩ ⟨1024 + (h.val * 64 + d.val), by omega⟩)
  vw k d := z (ix2 ⟨b.val * 4096 + k.val, by omega⟩ ⟨1280 + (h.val * 64 + d.val), by omega⟩)
  ga j g := ng (ix2 ⟨b.val * 4096 + t.val, by omega⟩ ⟨h.val * 128 + (j.val * 4 + g.val), by omega⟩)

theorem tokA_real (hq : ∀ i, IsReal (q i)) (hc : ∀ i, IsReal (cp i)) (hz : ∀ i, IsReal (z i)) (b : Fin 2) (h : Fin 4) (t : Fin 4096) :
    (tokA q cp z ng b h t).Real :=
  ⟨fun _ _ => hq _, fun _ _ => hc _, fun _ _ => hc _, fun _ _ => hz _, fun _ _ => hz _, fun _ _ => hz _, fun _ _ => hz _⟩

/-- The result at token `t` of sequence `b`, head `g` of group `h`, lane `d`. -/
def outE (b : Fin 2) (h : Fin 4) (t : Fin 4096) (g : Fin 4) (d : Fin 64) : EReal := (tokA q cp z ng b h t).out t.val g d

/-- The array of results. -/
def outA : FVec Ideal ⟨2, ![8192, 1024]⟩ .bf16 := fun j =>
  outE q cp z ng ⟨(j 0).val / 4096, by have : (j 0).val < 8192 := (j 0).isLt; omega⟩ ⟨(j 1).val / 256, by have : (j 1).val < 1024 := (j 1).isLt; omega⟩
    ⟨(j 0).val % 4096, by omega⟩ ⟨(j 1).val % 256 / 64, by omega⟩ ⟨(j 1).val % 64, by omega⟩

theorem outA_of (j : (⟨2, ![8192, 1024]⟩ : Shape).Idx) (b : Fin 2) (h : Fin 4) (t : Fin 4096) (g : Fin 4) (d : Fin 64)
    (h0 : (j 0).val = b.val * 4096 + t.val) (h1 : (j 1).val = h.val * 256 + (g.val * 64 + d.val)) :
    outA q cp z ng j = outE q cp z ng b h t g d := by
  unfold outA
  congr 1
  · exact Fin.ext (by simp only; omega)
  · exact Fin.ext (by simp only; omega)
  · exact Fin.ext (by simp only; omega)
  · exact Fin.ext (by simp only; omega)
  · exact Fin.ext (by simp only; omega)

end

end Cert.Nsa

end
-- ==== Proof.KHost.lean ====
/-
  The arrays the kernel's region finds: the host operations only lay the arguments out.
-/
module

public import proofs.«01_k».proof.Proof.KBlock
public import proofs.«01_k».proof.Proof.Args
public import Idealize.ShloMosaic.Lib.Pipeline.ValueKit

@[expose] public section

set_option maxRecDepth 16384

noncomputable section

namespace Cert.Nsa

open Idealize.ShloMosaic Idealize.ShloMosaic.TcCoe Idealize.ShloMosaic.Tactic Idealize.SL.Sem
open Cert.KernelIdeal Cert.KernelIdeal.Gen

variable (m : (ℓ : Loc nD τ sig) → Buf (Elt Ideal) ℓ) (c : Dev nD)

theorem host_v3 (b : Fin 2) (h : Fin 4) (j d : Fin 64) : (V m c main_v3 : FVec Ideal S2x4x64x64 .bf16) (ix4 b h j d)
    = (m ((c : Thread nD τ).loc main_arg1) : FVec Ideal S128x512 .f32) (ix2 ⟨b.val * 64 + j.val, by omega⟩ ⟨h.val * 64 + d.val, by omega⟩) := by
  entry_read
  pointwise

theorem host_v7 (b : Fin 2) (h : Fin 4) (j d : Fin 64) : (V m c main_v7 : FVec Ideal S2x4x64x64 .bf16) (ix4 b h j d)
    = (m ((c : Thread nD τ).loc main_arg1) : FVec Ideal S128x512 .f32) (ix2 ⟨b.val * 64 + j.val, by omega⟩ ⟨256 + (h.val * 64 + d.val), by omega⟩) := by
  entry_read
  pointwise

theorem host_v12 (b : Fin 2) (h : Fin 4) (k : Fin 4096) (d : Fin 64) : (V m c main_v12 : FVec Ideal S2x4x4096x64 .bf16) (ix4 b h k d)
    = (m ((c : Thread nD τ).loc main_arg2) : FVec Ideal S9216x1536 .f32) (ix2 ⟨b.val * 4096 + k.val, by omega⟩ ⟨512 + (h.val * 64 + d.val), by omega⟩) := by
  entry_read
  pointwise

theorem host_v16 (b : Fin 2) (h : Fin 4) (k : Fin 4096) (d : Fin 64) : (V m c main_v16 : FVec Ideal S2x4x4096x64 .bf16) (ix4 b h k d)
    = (m ((c : Thread nD τ).loc main_arg2) : FVec Ideal S9216x1536 .f32) (ix2 ⟨b.val * 4096 + k.val, by omega⟩ ⟨768 + (h.val * 64 + d.val), by omega⟩) := by
  entry_read
  pointwise

theorem host_v20 (b : Fin 2) (h : Fin 4) (k : Fin 4096) (d : Fin 64) : (V m c main_v20 : FVec Ideal S2x4x4096x64 .bf16) (ix4 b h k d)
    = (m ((c : Thread nD τ).loc main_arg2) : FVec Ideal S9216x1536 .f32) (ix2 ⟨b.val * 4096 + k.val, by omega⟩ ⟨1024 + (h.val * 64 + d.val), by omega⟩) := by
  entry_read
  pointwise

theorem host_v24 (b : Fin 2) (h : Fin 4) (k : Fin 4096) (d : Fin 64) : (V m c main_v24 : FVec Ideal S2x4x4096x64 .bf16) (ix4 b h k d)
    = (m ((c : Thread nD τ).loc main_arg2) : FVec Ideal S9216x1536 .f32) (ix2 ⟨b.val * 4096 + k.val, by omega⟩ ⟨1280 + (h.val * 64 + d.val), by omega⟩) := by
  entry_read
  pointwise

/-- The sequence and the head group of a point. -/
abbrev pb (t : Fin cfg0.N) : Fin 2 := grid0.coords t 0
abbrev ph (t : Fin cfg0.N) : Fin 4 := grid0.coords t 1

set_option maxRecDepth 100000 in
theorem idx8 : ∀ t : Fin cfg0.N, win0_8.index t = ![(grid0.coords t 0).val * 32 + (grid0.coords t 2).val, (grid0.coords t 1).val] := by decide +kernel
set_option maxRecDepth 100000 in
theorem idx0 : ∀ t : Fin cfg0.N, win0_0.index t = ![(grid0.coords t 0).val * 32 + (grid0.coords t 2).val, (grid0.coords t 1).val] := by decide +kernel
set_option maxRecDepth 100000 in
theorem idx7 : ∀ t : Fin cfg0.N, win0_7.index t = ![(grid0.coords t 0).val * 32 + (grid0.coords t 2).val, (grid0.coords t 1).val] := by decide +kernel
set_option maxRecDepth 100000 in
theorem idx1 : ∀ t : Fin cfg0.N, win0_1.index t = ![(grid0.coords t 0).val, (grid0.coords t 1).val, 0, 0] := by decide +kernel
set_option maxRecDepth 100000 in
theorem idx2 : ∀ t : Fin cfg0.N, win0_2.index t = ![(grid0.coords t 0).val, (grid0.coords t 1).val, 0, 0] := by decide +kernel
set_option maxRecDepth 100000 in
theorem idx3 : ∀ t : Fin cfg0.N, win0_3.index t = ![(grid0.coords t 0).val, (grid0.coords t 1).val, 0, 0] := by decide +kernel
set_option maxRecDepth 100000 in
theorem idx4 : ∀ t : Fin cfg0.N, win0_4.index t = ![(grid0.coords t 0).val, (grid0.coords t 1).val, 0, 0] := by decide +kernel
set_option maxRecDepth 100000 in
theorem idx5 : ∀ t : Fin cfg0.N, win0_5.index t = ![(grid0.coords t 0).val, (grid0.coords t 1).val, 0, 0] := by decide +kernel
set_option maxRecDepth 100000 in
theorem idx6 : ∀ t : Fin cfg0.N, win0_6.index t = ![(grid0.coords t 0).val, (grid0.coords t 1).val, 0, 0] := by decide +kernel

/-- The token a row of the point's tile holds. -/
abbrev ptok (t : Fin cfg0.N) (r : Fin 128) : Fin 4096 := ⟨tpos (grid0.coords t) r, tpos_lt _ r⟩

theorem blk0 (t : Fin cfg0.N) (r : Fin 128) (e : Fin 256) : (iblk m c 0 t : FVec Ideal S128x256 .bf16) (ix2 r e)
    = (m ((c : Thread nD τ).loc main_arg0) : FVec Ideal S9216x1024 .bf16)
      (ix2 ⟨(pb t).val * 4096 + (ptok t r).val, by have := (pb t).isLt; have := (ptok t r).isLt; omega⟩ ⟨(ph t).val * 256 + e.val, by have := (ph t).isLt; omega⟩) := by
  blk_ext [iblk, V_main_arg0, idx0 t]
  show ((pb t).val * 32 + (grid0.coords t 2).val) * 128 + r.val = (pb t).val * 4096 + ((grid0.coords t 2).val * 128 + r.val)
  omega

theorem blk7 (t : Fin cfg0.N) (r : Fin 128) (e : Fin 128) : (iblk m c 7 t : FVec Ideal S128x128 .f32) (ix2 r e)
    = (m ((c : Thread nD τ).loc main_arg3) : FVec Ideal S9216x512 .f32)
      (ix2 ⟨(pb t).val * 4096 + (ptok t r).val, by have := (pb t).isLt; have := (ptok t r).isLt; omega⟩ ⟨(ph t).val * 128 + e.val, by have := (ph t).isLt; omega⟩) := by
  blk_ext [iblk, V_main_arg3, idx7 t]
  show ((pb t).val * 32 + (grid0.coords t 2).val) * 128 + r.val = (pb t).val * 4096 + ((grid0.coords t 2).val * 128 + r.val)
  omega

theorem blk1 (t : Fin cfg0.N) (j d : Fin 64) : (iblk m c 1 t : FVec Ideal S1x1x64x64 .bf16) (ix4 0 0 j d)
    = (V m c main_v3 : FVec Ideal S2x4x64x64 .bf16) (ix4 (pb t) (ph t) j d) := by
  blk_ext [iblk, idx1 t]
  all_goals rfl

theorem blk2 (t : Fin cfg0.N) (j d : Fin 64) : (iblk m c 2 t : FVec Ideal S1x1x64x64 .bf16) (ix4 0 0 j d)
    = (V m c main_v7 : FVec Ideal S2x4x64x64 .bf16) (ix4 (pb t) (ph t) j d) := by
  blk_ext [iblk, idx2 t]
  all_goals rfl

theorem blk3 (t : Fin cfg0.N) (j : Fin 4096) (d : Fin 64) : (iblk m c 3 t : FVec Ideal S1x1x4096x64 .bf16) (ix4 0 0 j d)
    = (V m c main_v12 : FVec Ideal S2x4x4096x64 .bf16) (ix4 (pb t) (ph t) j d) := by
  blk_ext [iblk, idx3 t]
  all_goals rfl

theorem blk4 (t : Fin cfg0.N) (j : Fin 4096) (d : Fin 64) : (iblk m c 4 t : FVec Ideal S1x1x4096x64 .bf16) (ix4 0 0 j d)
    = (V m c main_v16 : FVec Ideal S2x4x4096x64 .bf16) (ix4 (pb t) (ph t) j d) := by
  blk_ext [iblk, idx4 t]
  all_goals rfl

theorem blk5 (t : Fin cfg0.N) (j : Fin 4096) (d : Fin 64) : (iblk m c 5 t : FVec Ideal S1x1x4096x64 .bf16) (ix4 0 0 j d)
    = (V m c main_v20 : FVec Ideal S2x4x4096x64 .bf16) (ix4 (pb t) (ph t) j d) := by
  blk_ext [iblk, idx5 t]
  all_goals rfl

theorem blk6 (t : Fin cfg0.N) (j : Fin 4096) (d : Fin 64) : (iblk m c 6 t : FVec Ideal S1x1x4096x64 .bf16) (ix4 0 0 j d)
    = (V m c main_v24 : FVec Ideal S2x4x4096x64 .bf16) (ix4 (pb t) (ph t) j d) := by
  blk_ext [iblk, idx6 t]
  all_goals rfl

end Cert.Nsa

end
-- ==== Proof.KValue.lean ====
/-
  The kernel's array of results.
-/
module

public import proofs.«01_k».proof.Proof.KHost
public import Idealize.ShloMosaic.Lib.Pipeline.ValueKit

@[expose] public section

set_option maxRecDepth 16384

noncomputable section

open Cert.KernelIdeal.Nsa (dats outsAt0 after0_8 out0_A_8 run_blocks)

namespace Cert.Nsa

open Idealize.ShloMosaic Idealize.ShloMosaic.TcCoe Idealize.ShloMosaic.Tactic Idealize.SL.Sem
open Cert.KernelIdeal Cert.KernelIdeal.Gen

variable (m : (ℓ : Loc nD τ sig) → Buf (Elt Ideal) ℓ) (c : Dev nD)

/-- The array of results of the arguments in memory. -/
abbrev G : FVec Ideal S8192x1024 .bf16 :=
  outA (m ((c : Thread nD τ).loc main_arg0)) (m ((c : Thread nD τ).loc main_arg1)) (m ((c : Thread nD τ).loc main_arg2)) (m ((c : Thread nD τ).loc main_arg3))

abbrev TA : Fin 2 → Fin 4 → Fin 4096 → Tok :=
  tokA (m ((c : Thread nD τ).loc main_arg0)) (m ((c : Thread nD τ).loc main_arg1)) (m ((c : Thread nD τ).loc main_arg2)) (m ((c : Thread nD τ).loc main_arg3))

/-- What a row of a point's blocks holds is what its token sees. -/
theorem tok_eq (t : Fin cfg0.N) (r : Fin 128) :
    tok (iblk m c 0 t) (iblk m c 1 t) (iblk m c 2 t) (iblk m c 3 t) (iblk m c 4 t) (iblk m c 5 t) (iblk m c 6 t) (iblk m c 7 t) r
      = TA m c (pb t) (ph t) (ptok t r) := by
  unfold tok TA tokA
  congr 1
  · funext g d; exact blk0 m c t r _
  · funext j d; exact (blk1 m c t j d).trans (host_v3 m c _ _ j d)
  · funext j d; exact (blk2 m c t j d).trans (host_v7 m c _ _ j d)
  · funext k d; exact (blk3 m c t k d).trans (host_v12 m c _ _ k d)
  · funext k d; exact (blk4 m c t k d).trans (host_v16 m c _ _ k d)
  · funext k d; exact (blk5 m c t k d).trans (host_v20 m c _ _ k d)
  · funext k d; exact (blk6 m c t k d).trans (host_v24 m c _ _ k d)
  · funext j g; exact blk7 m c t r _

set_option maxRecDepth 100000 in
theorem arr_eq (hq : ∀ i, IsReal ((m ((c : Thread nD τ).loc main_arg0) : FVec Ideal S9216x1024 .bf16) i))
    (hc : ∀ i, IsReal ((m ((c : Thread nD τ).loc main_arg1) : FVec Ideal S128x512 .f32) i))
    (hz : ∀ i, IsReal ((m ((c : Thread nD τ).loc main_arg2) : FVec Ideal S9216x1536 .f32) i)) :
    (dats m 0 c).arrAt 8 cfg0.N = G m c := by
  refine (dats m 0 c).arrAt_eq_of_covers 8 _ (by decide +kernel) fun t hf y => ?_
  blk_simp
  rw [after0_8]
  unfold outsAt0
  have h0 : (y 0).val < 128 := (y 0).isLt
  have h1 : (y 1).val < 256 := (y 1).isLt
  obtain ⟨g, hg⟩ : ∃ g : Fin 4, g.val = (y 1).val / 64 := ⟨⟨(y 1).val / 64, by omega⟩, rfl⟩
  obtain ⟨d, hd⟩ : ∃ d : Fin 64, d.val = (y 1).val % 64 := ⟨⟨(y 1).val % 64, by omega⟩, rfl⟩
  have e : y = ix2 (⟨(y 0).val, h0⟩ : Fin 128) (⟨g.val * 64 + d.val, by omega⟩ : Fin 256) := by
    funext a; apply Fin.ext; fin_cases a
    · rfl
    · show (y 1).val = g.val * 64 + d.val; omega
  rw [e, block_out]
  · rw [tok_eq]
    refine (outA_of _ _ _ _ _ (pb t) (ph t) (ptok t ⟨(y 0).val, h0⟩) g d ?_ ?_).symm
    · blk_simp [idx8 t]
      show ((pb t).val * 32 + (grid0.coords t 2).val) * 128 + (y 0).val = (pb t).val * 4096 + ((grid0.coords t 2).val * 128 + (y 0).val)
      omega
    · blk_simp [idx8 t]
  · intro r
    rw [tok_eq]
    exact tokA_real _ _ _ _ hq hc hz _ _ _

end Cert.Nsa

end
-- ==== Proof.RRead.lean ====
/-
  The reference read entry by entry: masks, layouts, softmaxes.
-/
module

public import proofs.«01_k».proof.Proof.Args
public import proofs.«01_k».proof.Proof.Forms
public import proofs.«01_k».proof.Proof.KRead
public import proofs.«01_k».proof.Proof.KBlock
public import Idealize.ShloMosaic.Lib.Routing.Words
public import proofs.«01_k».proof.Proof.Gen.ReferenceIdeal.Read
public import Idealize.ShloMosaic.Lib.Pointwise.Sums

@[expose] public section

noncomputable section

namespace Cert.ReferenceIdeal.Nsa

open Idealize.ShloMosaic Cert.ReferenceIdeal.Gen Cert.ReferenceIdeal.Read Cert.Nsa

variable (q : FVec Ideal ⟨2, ![9216, 1024]⟩ .bf16) (cp : FVec Ideal ⟨2, ![128, 512]⟩ .f32) (z : FVec Ideal ⟨2, ![9216, 1536]⟩ .f32)
  (ng : FVec Ideal ⟨2, ![9216, 512]⟩ .f32)

/-! ### Words -/

theorem late_word (a t : ℕ) (ha : a < 2 ^ 30) (ht : t < 2 ^ 30) :
    IntOp.cmpi .sge (BitVec.ofNat 32 a) (IntOp.subi (BitVec.ofNat 32 t) 512#32) = BitVec.ofBool (decide (t ≤ a + 512)) :=
  Cert.Nsa.late_word a t ha ht

theorem v39_at (t : Fin 4096) (j : Fin 64) :
    val_main_v39 (F := Ideal) (ix2 t j) = BitVec.ofBool (decide (Tok.seen t.val j)) := by
  have := j.isLt
  have := t.isLt
  have e : IntOp.subi (BitVec.ofNat 32 (j.val * 64 + 64)) 1#32 = BitVec.ofNat 32 (j.val * 64 + 63) := by
    unfold IntOp.subi
    rw [show j.val * 64 + 64 = (j.val * 64 + 63) + 1 from rfl, BitVec.ofNat_add]
    exact BitVec.add_sub_cancel _ _
  pointwise [val_main_v39, val_main_v38, val_main_v37, val_main_v36, val_main_v35, val_main_v34, val_main_v33, val_main_v32, val_main_v31, val_main_v30, val_main_v29, val_main_v28, val_main_v15, val_main_c, val_main_c_0, val_main_c_1]
  rw [muli_nat, addi_nat, e, cmpi_sle_nat (by omega) (by omega)]

theorem v57_at (t : Fin 4096) : val_main_v57 (F := Ideal) (ix2 t 0) = BitVec.ofNat 32 (t.val / 64) := by
  have ht := t.isLt
  pointwise [val_main_v57, val_main_call2_v0, val_main_call2_v1, val_main_call2_v2, val_main_call2_v3, val_main_call2_v4, val_main_call2_v5, val_main_call2_v6, val_main_call2_v7, val_main_call2_v8, val_main_call2_v9, val_main_call2_v10, val_main_call2_v11, val_main_call2_v12, val_main_call2_v13, val_main_call2_c, val_main_call2_c_0, val_main_c_6, val_main_v29, val_main_v15]
  have e : id (constantI S_ 32 64#32) ix0 = 64#32 := rfl
  rw [e, Routing.remsi_word _ (show t.val < 2 ^ 31 by omega) (by norm_num) (by norm_num),
    Routing.divsi_word _ (show t.val < 2 ^ 31 by omega) (by norm_num) (by norm_num)]
  have z : IntOp.andi (IntOp.cmpi CmpIPredicate.ne
          (if BitVec.ofNat 32 t.val = 0 then (0 : BitVec 32) else if (BitVec.ofNat 32 t.val).msb = true then -1 else 1)
          (if (64#32 : BitVec 32) = 0 then (0 : BitVec 32) else if BitVec.msb (64#32) = true then -1 else 1))
        (IntOp.cmpi CmpIPredicate.ne (BitVec.ofNat 32 (t.val % 64)) 0#32) = 0#1 := by
    by_cases h0 : t.val = 0
    · rw [h0]; decide
    · have h1 : BitVec.ofNat 32 t.val ≠ 0 := fun h => h0 (by
        have := congrArg BitVec.toNat h
        simp only [BitVec.toNat_ofNat, BitVec.ofNat_eq_ofNat] at this
        omega)
      have h2 : (BitVec.ofNat 32 t.val).msb = false := by
        rw [BitVec.msb_eq_false_iff_two_mul_lt, BitVec.toNat_ofNat]; omega
      rw [if_neg h1, h2]
      have h3 : IntOp.cmpi CmpIPredicate.ne (if false = true then (-1 : BitVec 32) else 1)
          (if (64#32 : BitVec 32) = 0 then (0 : BitVec 32) else if BitVec.msb (64#32) = true then -1 else 1) = 0#1 := by decide
      rw [h3]
      generalize IntOp.cmpi CmpIPredicate.ne (BitVec.ofNat 32 (t.val % 64)) 0#32 = b
      revert b; decide
  rw [z]
  rfl

theorem v73_at (t : Fin 4096) (j : Fin 64) :
    val_main_v73 (F := Ideal) (ix2 t j) = BitVec.ofBool (decide (Tok.forced t.val j)) := by
  have := j.isLt
  have := t.isLt
  pointwise [val_main_v73, val_main_v72, val_main_v71, val_main_v70, val_main_v69, val_main_v68, val_main_v67, val_main_v66, val_main_v65, val_main_v64, val_main_v63, val_main_v62, val_main_v61, val_main_v60, val_main_v59, val_main_v58, val_main_v28, val_main_c_7, val_main_c_8]
  rw [v57_at, prev_word _ _ (by omega) (by omega), cmpi_eq_nat _ 0 (by omega) (by omega),
    cmpi_eq_nat _ (t.val / 64) (by omega) (by omega), ori_ofBool, ori_ofBool]
  congr 1
  simp only [Tok.forced, Bool.decide_or, Bool.or_assoc]

theorem v79_at (t : Fin 4096) (j : Fin 64) :
    val_main_v79 (F := Ideal) (ix2 t j) = BitVec.ofBool (decide (Tok.cand t.val j)) := by
  have := j.isLt
  have := t.isLt
  pointwise [val_main_v79, val_main_v78, val_main_v77, val_main_v76, val_main_v75, val_main_v74, val_main_v29, val_main_v15, val_main_v28, val_main_c_9]
  rw [muli_nat, cmpi_sle_nat (by omega) (by omega)]

theorem v145_at (t k : Fin 4096) :
    val_main_v145 (F := Ideal) (ix2 t k) = BitVec.ofBool (decide (Tok.kwin t.val k)) := by
  have := k.isLt
  have := t.isLt
  pointwise [val_main_v145, val_main_v144, val_main_v143, val_main_v142, val_main_v141, val_main_v140, val_main_v139, val_main_v138, val_main_v137, val_main_v136, val_main_v135, val_main_v134, val_main_v133, val_main_v132, val_main_c_23, val_main_c_24, val_main_v29, val_main_v15]
  rw [late_word _ _ (by omega) (by omega), cmpi_sle_nat (by omega) (by omega), show (0#32 : BitVec 32) = BitVec.ofNat 32 0 from rfl,
    cmpi_sge_nat (by omega) (by omega), andi_ofBool, andi_ofBool]
  congr 1
  simp [Tok.kwin]

/-! ### Layouts -/

theorem v2_at (b : Fin 2) (t : Fin 4096) (h g : Fin 4) (d : Fin 64) :
    val_main_v2 (F := Ideal) q (ix5 b t h g d) = (tokA q cp z ng b h t).q g d := by
  pointwise [val_main_v2, val_main_v1, val_main_v0]
  exact congrArg q (congrArg (ix2 _) (Fin.ext (Nat.add_assoc _ _ _)))

theorem v17_at (b : Fin 2) (h : Fin 4) (t : Fin 4096) (j d : Fin 64) :
    val_main_v17 (F := Ideal) cp (ix4 b j h d) = (tokA q cp z ng b h t).kc j d := by
  pointwise [val_main_v17, val_main_v16, val_main_v3]
  rfl

theorem v19_at (b : Fin 2) (h : Fin 4) (t : Fin 4096) (j d : Fin 64) :
    val_main_v19 (F := Ideal) cp (ix4 b j h d) = (tokA q cp z ng b h t).vc j d := by
  pointwise [val_main_v19, val_main_v18, val_main_v3]
  refine congrArg cp (congrArg (ix2 _) (Fin.ext ?_))
  simp only
  omega

theorem v21_at (b : Fin 2) (h : Fin 4) (t : Fin 4096) (j c d : Fin 64) :
    val_main_v21 (F := Ideal) z (ix5 b h j c d) = (tokA q cp z ng b h t).ks (bkey j c) d := by
  pointwise [val_main_v21, val_main_v20, val_main_v14, val_main_v13, val_main_v5, val_main_v4]
  refine congrArg z (congrArg₂ ix2 (Fin.ext ?_) (Fin.ext ?_)) <;> simp only [bkey] <;> omega

theorem v23_at (b : Fin 2) (h : Fin 4) (t : Fin 4096) (j c d : Fin 64) :
    val_main_v23 (F := Ideal) z (ix5 b h j c d) = (tokA q cp z ng b h t).vs (bkey j c) d := by
  pointwise [val_main_v23, val_main_v22, val_main_v14, val_main_v13, val_main_v5, val_main_v4]
  refine congrArg z (congrArg₂ ix2 (Fin.ext ?_) (Fin.ext ?_)) <;> simp only [bkey] <;> omega

theorem v25_at (b : Fin 2) (h : Fin 4) (t k : Fin 4096) (d : Fin 64) :
    val_main_v25 (F := Ideal) z (ix4 b k h d) = (tokA q cp z ng b h t).kw k d := by
  pointwise [val_main_v25, val_main_v24, val_main_v7, val_main_v6]
  refine congrArg z (congrArg₂ ix2 (Fin.ext ?_) (Fin.ext ?_)) <;> simp only <;> omega

theorem v27_at (b : Fin 2) (h : Fin 4) (t k : Fin 4096) (d : Fin 64) :
    val_main_v27 (F := Ideal) z (ix4 b k h d) = (tokA q cp z ng b h t).vw k d := by
  pointwise [val_main_v27, val_main_v26, val_main_v7, val_main_v6]
  refine congrArg z (congrArg₂ ix2 (Fin.ext ?_) (Fin.ext ?_)) <;> simp only <;> omega

/-! ### The three softmaxes -/

theorem fold_bot {n : ℕ} (c : EReal) (hc : c = ⊥) (x y : Fin n → EReal) (h : ∀ j, y j = x j) :
    Finset.univ.fold max c y = smax x := by
  subst hc
  rw [funext h]
  rfl

theorem max_bot' (a b m : Ideal .f32) (ha : a = (⊥ : EReal)) (hb : b = m) : FloatOps.maximumf a b = m := by
  subst ha hb
  exact max_eq_right (bot_le (a := (b : EReal)))

theorem soft1_at (b : Fin 2) (h g : Fin 4) (t : Fin 4096) (x : Fin 64 → EReal)
    (hx : ∀ j, val_main_v42 (F := Ideal) q cp (ix5 b h g t j) = x j) (j : Fin 64) :
    val_main_v53 (F := Ideal) q cp (ix5 b h g t j) = sm x j := by
  have hm : val_main_v43 (F := Ideal) q cp (ix4 b h g t) = smax x := by
    pointwise [val_main_v43]
    exact fold_bot _ ((val_main_cst_2_apply _).trans negInf_bot) _ _ hx
  have hc : val_main_v44 (F := Ideal) (ix4 b h g t) = (⊥ : EReal) := by
    rw [val_main_v44_apply, val_main_cst_3_apply]; exact negInf_bot
  have hm2 : val_main_v45 (F := Ideal) q cp (ix4 b h g t) = smax x := by
    rw [val_main_v45_apply]
    exact max_bot' _ _ _ hc hm
  have hb : ∀ j, val_main_v47 (F := Ideal) q cp (ix5 b h g t j) = smax x := fun j => by
    pointwise [val_main_v47, val_main_v46]
    exact hm2
  have he : ∀ j, val_main_v49 (F := Ideal) q cp (ix5 b h g t j) = ew x j := fun j => by
    rw [val_main_v49_apply, val_main_v48_apply, hx, hb]
    rfl
  have hz : ∀ i, val_main_cst_4 (F := Ideal) i = (0 : EReal) := fun i => (val_main_cst_4_apply i).trans Ideal.ofBits_zero_f32
  have hs : val_main_v50 (F := Ideal) q cp (ix4 b h g t) = ∑ j, ew x j := by
    pointwise [val_main_v50]
    rw [hz, zero_add]
    exact Finset.sum_congr rfl fun j _ => he j
  pointwise [val_main_v53, val_main_v52, val_main_v51]
  rw [he, hs]
  rfl

theorem soft2_at (b : Fin 2) (h g : Fin 4) (t : Fin 4096) (x : Fin 1024 → EReal)
    (hx : ∀ j, val_main_v118 (F := Ideal) q cp z (ix5 b h g t j) = x j) (j : Fin 1024) :
    val_main_v129 (F := Ideal) q cp z (ix5 b h g t j) = sm x j := by
  have hm : val_main_v119 (F := Ideal) q cp z (ix4 b h g t) = smax x := by
    pointwise [val_main_v119]
    exact fold_bot _ ((val_main_cst_20_apply _).trans negInf_bot) _ _ hx
  have hc : val_main_v120 (F := Ideal) (ix4 b h g t) = (⊥ : EReal) := by
    rw [val_main_v120_apply, val_main_cst_21_apply]; exact negInf_bot
  have hm2 : val_main_v121 (F := Ideal) q cp z (ix4 b h g t) = smax x := by
    rw [val_main_v121_apply]
    exact max_bot' _ _ _ hc hm
  have hb : ∀ j, val_main_v123 (F := Ideal) q cp z (ix5 b h g t j) = smax x := fun j => by
    pointwise [val_main_v123, val_main_v122]
    exact hm2
  have he : ∀ j, val_main_v125 (F := Ideal) q cp z (ix5 b h g t j) = ew x j := fun j => by
    rw [val_main_v125_apply, val_main_v124_apply, hx, hb]
    rfl
  have hz : ∀ i, val_main_cst_22 (F := Ideal) i = (0 : EReal) := fun i => (val_main_cst_22_apply i).trans Ideal.ofBits_zero_f32
  have hs : val_main_v126 (F := Ideal) q cp z (ix4 b h g t) = ∑ j, ew x j := by
    pointwise [val_main_v126]
    rw [hz, zero_add]
    exact Finset.sum_congr rfl fun j _ => he j
  pointwise [val_main_v129, val_main_v128, val_main_v127]
  rw [he, hs]
  rfl

theorem soft3_at (b : Fin 2) (h g : Fin 4) (t : Fin 4096) (x : Fin 4096 → EReal)
    (hx : ∀ j, val_main_v148 (F := Ideal) q z (ix5 b h g t j) = x j) (j : Fin 4096) :
    val_main_v159 (F := Ideal) q z (ix5 b h g t j) = sm x j := by
  have hm : val_main_v149 (F := Ideal) q z (ix4 b h g t) = smax x := by
    pointwise [val_main_v149]
    exact fold_bot _ ((val_main_cst_26_apply _).trans negInf_bot) _ _ hx
  have hc : val_main_v150 (F := Ideal) (ix4 b h g t) = (⊥ : EReal) := by
    rw [val_main_v150_apply, val_main_cst_27_apply]; exact negInf_bot
  have hm2 : val_main_v151 (F := Ideal) q z (ix4 b h g t) = smax x := by
    rw [val_main_v151_apply]
    exact max_bot' _ _ _ hc hm
  have hb : ∀ j, val_main_v153 (F := Ideal) q z (ix5 b h g t j) = smax x := fun j => by
    pointwise [val_main_v153, val_main_v152]
    exact hm2
  have he : ∀ j, val_main_v155 (F := Ideal) q z (ix5 b h g t j) = ew x j := fun j => by
    rw [val_main_v155_apply, val_main_v154_apply, hx, hb]
    rfl
  have hz : ∀ i, val_main_cst_28 (F := Ideal) i = (0 : EReal) := fun i => (val_main_cst_28_apply i).trans Ideal.ofBits_zero_f32
  have hs : val_main_v156 (F := Ideal) q z (ix4 b h g t) = ∑ j, ew x j := by
    pointwise [val_main_v156]
    rw [hz, zero_add]
    exact Finset.sum_congr rfl fun j _ => he j
  pointwise [val_main_v159, val_main_v158, val_main_v157]
  rw [he, hs]
  rfl

end Cert.ReferenceIdeal.Nsa
-- ==== Proof.RCmp.lean ====
/-
  The reference read entry by entry: the compressed branch, the scores, the window.
-/
module

public import proofs.«01_k».proof.Proof.Args
public import proofs.«01_k».proof.Proof.Forms
public import proofs.«01_k».proof.Proof.KRead
public import proofs.«01_k».proof.Proof.RRead
public import proofs.«01_k».proof.Proof.Gen.ReferenceIdeal.Read
public import Idealize.ShloMosaic.Lib.Pointwise.Sums

@[expose] public section

noncomputable section

namespace Cert.ReferenceIdeal.Nsa

open Idealize.ShloMosaic Cert.ReferenceIdeal.Gen Cert.ReferenceIdeal.Read Cert.Nsa

variable (q : FVec Ideal ⟨2, ![9216, 1024]⟩ .bf16) (cp : FVec Ideal ⟨2, ![128, 512]⟩ .f32) (z : FVec Ideal ⟨2, ![9216, 1536]⟩ .f32)
  (ng : FVec Ideal ⟨2, ![9216, 512]⟩ .f32)

/-! ### The constants the masks put in -/

theorem call0_at (i : S_.Idx) : val_main_call0_v0 (F := Ideal) i = (⊥ : EReal) := by
  rw [val_main_call0_v0_apply, val_main_cst_apply]
  exact negInf_bot

theorem call1_at (i : S_.Idx) : val_main_call1_v0 (F := Ideal) i = (0 : EReal) := by
  rw [val_main_call1_v0_apply, val_main_cst_5_apply]
  exact Ideal.ofBits_zero_f32

theorem call3_at (i : S_.Idx) : val_main_call3_v0 (F := Ideal) i = forcedScore := by
  rw [val_main_call3_v0_apply, val_main_cst_11_apply]
  exact rfl

theorem call4_at (i : S_.Idx) : val_main_call4_v0 (F := Ideal) i = (⊥ : EReal) := by
  rw [val_main_call4_v0_apply, val_main_cst_12_apply]
  exact negInf_bot

theorem call5_at (i : S_.Idx) : val_main_call5_v0 (F := Ideal) i = (⊥ : EReal) := by
  rw [val_main_call5_v0_apply, val_main_cst_19_apply]
  exact negInf_bot

theorem call6_at (i : S_.Idx) : val_main_call6_v0 (F := Ideal) i = (⊥ : EReal) := by
  rw [val_main_call6_v0_apply, val_main_cst_25_apply]
  exact negInf_bot

/-! ### The compressed branch and the scores -/

theorem v42_at (b : Fin 2) (h g : Fin 4) (t : Fin 4096) (j : Fin 64) :
    val_main_v42 (F := Ideal) q cp (ix5 b h g t j)
      = msk (Tok.seen t.val) (fun j => dotp ((tokA q cp z ng b h t).q g) ((tokA q cp z ng b h t).kc j)) j := by
  have e : val_main_v41 (F := Ideal) q cp (ix5 b h g t j) = dotp ((tokA q cp z ng b h t).q g) ((tokA q cp z ng b h t).kc j) := by
    pointwise [val_main_v41, val_main_v40]
    refine Finset.sum_congr rfl fun d _ => ?_
    rw [v17_at q cp z ng b h t, v2_at q cp z ng]
    exact mul_comm _ _
  pointwise [val_main_v42, val_main_call0_v1, val_main_call0_v2]
  rw [v39_at, select_ofBool, e, call0_at]
  rfl

theorem v54_at (b : Fin 2) (h g : Fin 4) (t : Fin 4096) (j : Fin 64) :
    val_main_v54 (F := Ideal) q cp (ix5 b h g t j) = (tokA q cp z ng b h t).pc t.val g j := by
  pointwise [val_main_v54, val_main_call1_v1, val_main_call1_v2]
  rw [v39_at, select_ofBool, soft1_at q cp b h g t _ (v42_at q cp z ng b h g t),
    call1_at]
  rfl

theorem v56_at (b : Fin 2) (t : Fin 4096) (h g : Fin 4) (d : Fin 64) :
    val_main_v56 (F := Ideal) q cp (ix5 b t h g d) = (tokA q cp z ng b h t).oc t.val g d := by
  pointwise [val_main_v56, val_main_v55]
  refine Finset.sum_congr rfl fun j _ => ?_
  rw [v19_at q cp z ng b h t, v54_at q cp z ng]
  exact mul_comm _ _

theorem v82_at (b : Fin 2) (h : Fin 4) (t : Fin 4096) (j : Fin 64) :
    val_main_v82 (F := Ideal) q cp (ix4 b h t j) = (tokA q cp z ng b h t).score t.val j := by
  have e : val_main_v80 (F := Ideal) q cp (ix4 b h t j) = ∑ g, (tokA q cp z ng b h t).pc t.val g j := by
    pointwise [val_main_v80]
    rw [(val_main_cst_10_apply _).trans Ideal.ofBits_zero_f32, zero_add]
    exact Finset.sum_congr rfl fun g _ => v54_at q cp z ng b h g t j
  pointwise [val_main_v82, val_main_call4_v1, val_main_call4_v2, val_main_v81, val_main_call3_v1, val_main_call3_v2]
  rw [v79_at, v73_at, select_ofBool, select_ofBool, e, call4_at, call3_at]
  rfl

/-! ### The window -/

theorem v148_at (b : Fin 2) (h g : Fin 4) (t k : Fin 4096) :
    val_main_v148 (F := Ideal) q z (ix5 b h g t k)
      = msk (Tok.kwin t.val) (fun k => dotp ((tokA q cp z ng b h t).q g) ((tokA q cp z ng b h t).kw k)) k := by
  have e : val_main_v147 (F := Ideal) q z (ix5 b h g t k) = dotp ((tokA q cp z ng b h t).q g) ((tokA q cp z ng b h t).kw k) := by
    pointwise [val_main_v147, val_main_v146]
    refine Finset.sum_congr rfl fun d _ => ?_
    rw [v25_at q cp z ng b h t, v2_at q cp z ng]
    exact mul_comm _ _
  pointwise [val_main_v148, val_main_call6_v1, val_main_call6_v2]
  rw [v145_at, select_ofBool, e, call6_at]
  rfl

theorem v161_at (b : Fin 2) (t : Fin 4096) (h g : Fin 4) (d : Fin 64) :
    val_main_v161 (F := Ideal) q z (ix5 b t h g d) = (tokA q cp z ng b h t).ow t.val g d := by
  pointwise [val_main_v161, val_main_v160]
  refine Finset.sum_congr rfl fun k _ => ?_
  rw [v27_at q cp z ng b h t, soft3_at q z b h g t _ (v148_at q cp z ng b h g t)]
  exact mul_comm _ _

end Cert.ReferenceIdeal.Nsa
-- ==== Proof.RSel.lean ====
/-
  The reference read entry by entry: the selected blocks and their branch.
-/
module

public import proofs.«01_k».proof.Proof.Args
public import proofs.«01_k».proof.Proof.Forms
public import proofs.«01_k».proof.Proof.KRead
public import proofs.«01_k».proof.Proof.RCmp
public import proofs.«01_k».proof.Proof.Gen.ReferenceIdeal.Read
public import Idealize.ShloMosaic.Lib.Pointwise.Sums

@[expose] public section

noncomputable section

namespace Cert.ReferenceIdeal.Nsa

open Idealize.ShloMosaic Cert.ReferenceIdeal.Gen Cert.ReferenceIdeal.Read Cert.Nsa

variable (q : FVec Ideal ⟨2, ![9216, 1024]⟩ .bf16) (cp : FVec Ideal ⟨2, ![128, 512]⟩ .f32) (z : FVec Ideal ⟨2, ![9216, 1536]⟩ .f32)
  (ng : FVec Ideal ⟨2, ![9216, 512]⟩ .f32)

theorem nonneg_word (n : ℕ) (hn : n < 2 ^ 31) : IntOp.cmpi .slt (BitVec.ofNat 32 n) 0#32 = 0#1 :=
  (WordCmp.cmpi_slt_ofNat_eq_zero_iff (w := 32) hn (by norm_num)).2 (Nat.not_lt_zero _)

/-! ### The selection -/

/-- The two gathers read a block of the table at the start index, clamped. -/
theorem gather_at (x : Vec Ideal S2x4x64x64x64 .f32) (idx : IVec S2x4x4096x16x1 32) (b : Fin 2) (h : Fin 4) (t : Fin 4096) (k : Fin 16)
    (c d : Fin 64) (n : Fin 64) (hn : idx (ix5 b h t k 0) = BitVec.ofNat 32 n.val) :
    Host.gather gather_S2x4x64x64x64_S2x4x4096x16x1_S2x4x4096x16x64x64_45_2_01_01_2_4_1116464 x idx (ix6 b h t k c d) = x (ix5 b h n c d) := by
  unfold Host.gather
  refine congrArg x (funext fun a => Fin.ext ?_)
  have hN : (BitVec.ofNat 32 n.val).toInt.toNat = n.val := by
    have := n.isLt
    rw [BitVec.toInt_eq_toNat_of_lt (by rw [BitVec.toNat_ofNat]; omega), BitVec.toNat_ofNat]; omega
  match a with
  | ⟨0, _⟩ => exact Nat.zero_add _
  | ⟨1, _⟩ => exact Nat.zero_add _
  | ⟨2, _⟩ =>
    have hi : gather_S2x4x64x64x64_S2x4x4096x16x1_S2x4x4096x16x64x64_45_2_01_01_2_4_1116464.siIdx (ix6 b h t k c d) ⟨0, by decide⟩ = ix5 b h t k 0 := by
      funext a
      match a with
      | ⟨0, _⟩ => rfl
      | ⟨1, _⟩ => rfl
      | ⟨2, _⟩ => rfl
      | ⟨3, _⟩ => rfl
      | ⟨4, _⟩ => rfl
    show min (idx (gather_S2x4x64x64x64_S2x4x4096x16x1_S2x4x4096x16x64x64_45_2_01_01_2_4_1116464.siIdx (ix6 b h t k c d) ⟨0, _⟩)).toInt.toNat (64 - 1) + 0 + 0 = n.val
    rw [hi, hn, hN]
    have := n.isLt
    omega
  | ⟨3, _⟩ => exact Nat.zero_add _
  | ⟨4, _⟩ => exact Nat.zero_add _

section Top
variable (b : Fin 2) (h : Fin 4) (t : Fin 4096) (k : Fin 16)

theorem along_at (hd : 3 < S2x4x4096x64.rank) (j : Fin 64) (l : Fin 64) :
    Shape.Idx.along (s := S2x4x4096x64) (ix4 b h t j) ⟨3, hd⟩ l = ix4 b h t l := by
  funext a
  match a with
  | ⟨0, _⟩ => rfl
  | ⟨1, _⟩ => rfl
  | ⟨2, _⟩ => rfl
  | ⟨3, _⟩ => rfl

/-- Place `k` of the first 16 of the sorted row. -/
abbrev place {α : Type} (cmp : α → α → BitVec 1) (x : S2x4x4096x64.Idx → α) : Fin 64 :=
  sortedFrom (fun l l' : Fin 64 => cmp (x (ix4 b h t l)) (x (ix4 b h t l')) == 1#1) (k.castLE (by omega))

theorem slice_at (sl : S2x4x4096x64.Slices (fun _ => 0) S2x4x4096x16) :
    (fun a : Fin S2x4x4096x64.rank => (⟨0 + ((ix4 b h t k : S2x4x4096x16.Idx) (a.cast sl.1.symm)).val,
      Nat.lt_of_lt_of_le (Nat.add_lt_add_left ((ix4 b h t k : S2x4x4096x16.Idx) _).isLt _) (sl.2 a)⟩ : Fin (S2x4x4096x64.size a)))
      = (ix4 b h t (k.castLE (by omega)) : S2x4x4096x64.Idx) := by
  funext a
  match a with
  | ⟨0, _⟩ => exact Fin.ext (Nat.zero_add _)
  | ⟨1, _⟩ => exact Fin.ext (Nat.zero_add _)
  | ⟨2, _⟩ => exact Fin.ext (Nat.zero_add _)
  | ⟨3, _⟩ => exact Fin.ext (Nat.zero_add _)

theorem perm_at (h3 : 3 < S2x4x4096x64.rank) {α : Type} (cmp : α → α → BitVec 1) (x : S2x4x4096x64.Idx → α) :
    sortedFrom (fun l l' : Fin 64 => cmp (x (Shape.Idx.along (s := S2x4x4096x64) (ix4 b h t (k.castLE (by omega))) ⟨3, h3⟩ l))
      (x (Shape.Idx.along (s := S2x4x4096x64) (ix4 b h t (k.castLE (by omega))) ⟨3, h3⟩ l')) == 1#1) (k.castLE (by omega))
      = place b h t k cmp x := by
  refine congrArg (fun f => sortedFrom f (k.castLE (by omega))) (funext fun l => funext fun l' => ?_)
  exact congrArg (· == 1#1) (congrArg₂ cmp (congrArg x (along_at b h t _ _ l)) (congrArg x (along_at b h t _ _ l')))

theorem topK_values {α : Type} (cmp : α → α → BitVec 1) (x : S2x4x4096x64.Idx → α) (sl : S2x4x4096x64.Slices (fun _ => 0) S2x4x4096x16) :
    (Host.topK S2x4x4096x16 3 cmp x sl).1 (ix4 b h t k) = x (ix4 b h t (place b h t k cmp x)) := by
  unfold Host.topK Host.sort2
  dsimp only
  rw [dif_pos (show 3 < S2x4x4096x64.rank by decide)]
  unfold extractStridedSlice
  rw [slice_at b h t k sl]
  exact congrArg x ((along_at b h t _ _ _).trans (congrArg (ix4 b h t) (perm_at b h t k (by decide) cmp x)))

theorem topK_indices {α : Type} (cmp : α → α → BitVec 1) (x : S2x4x4096x64.Idx → α) (sl : S2x4x4096x64.Slices (fun _ => 0) S2x4x4096x16) :
    (Host.topK S2x4x4096x16 3 cmp x sl).2 (ix4 b h t k) = BitVec.ofNat 32 (place b h t k cmp x).val := by
  unfold Host.topK Host.sort2
  dsimp only
  rw [dif_pos (show 3 < S2x4x4096x64.rank by decide)]
  unfold extractStridedSlice
  rw [slice_at b h t k sl]
  dsimp only
  rw [dif_pos (show 3 < 4 by decide)]
  exact (congrArg (iotaInDim S2x4x4096x64 32 ⟨3, by decide⟩)
    ((along_at b h t _ _ _).trans (congrArg (ix4 b h t) (perm_at b h t k (by decide) cmp x)))).trans rfl

theorem gt_word (a b : Ideal .f32) : (FloatOps.cmpfTotal (F := Ideal) .gt a b == 1#1) = decide ((b : EReal) < (a : EReal)) := by
  show (BitVec.ofBool (decide ((b : EReal) < (a : EReal))) == 1#1) = _
  generalize decide ((b : EReal) < (a : EReal)) = c
  revert c; decide

theorem place_at : place b h t k (FloatOps.cmpfTotal (F := Ideal) (φ := .f32) .gt) (val_main_v82 (F := Ideal) q cp)
    = (tokA q cp z ng b h t).top t.val k := by
  unfold place Tok.top
  congr 1
  funext l l'
  rw [gt_word, v82_at q cp z ng, v82_at q cp z ng]

theorem values_at : val_main_values (F := Ideal) q cp (ix4 b h t k)
    = (tokA q cp z ng b h t).score t.val ((tokA q cp z ng b h t).top t.val k) := by
  refine (topK_values b h t k _ (val_main_v82 (F := Ideal) q cp) sliceFits_S2x4x4096x64_S2x4x4096x16).trans ?_
  rw [v82_at q cp z ng, place_at q cp z ng]

theorem indices_at : val_main_indices (F := Ideal) q cp (ix4 b h t k)
    = BitVec.ofNat 32 ((tokA q cp z ng b h t).top t.val k).val := by
  refine (topK_indices b h t k _ (val_main_v82 (F := Ideal) q cp) sliceFits_S2x4x4096x64_S2x4x4096x16).trans ?_
  rw [place_at q cp z ng]

end Top

/-- The wrapped index. -/
theorem v88_at (b : Fin 2) (h : Fin 4) (t : Fin 4096) (k : Fin 16) : val_main_v88 (F := Ideal) q cp (ix5 b h t k 0)
    = BitVec.ofNat 32 ((tokA q cp z ng b h t).top t.val k).val := by
  pointwise [val_main_v88, val_main_v87, val_main_v86, val_main_v85, val_main_v84, val_main_v83, val_main_c_13, val_main_c_14]
  rw [indices_at q cp z ng, nonneg_word _ (by omega)]
  rfl

theorem v95_at (b : Fin 2) (h : Fin 4) (t : Fin 4096) (k : Fin 16) : val_main_v95 (F := Ideal) q cp (ix5 b h t k 0)
    = BitVec.ofNat 32 ((tokA q cp z ng b h t).top t.val k).val := by
  pointwise [val_main_v95, val_main_v94, val_main_v93, val_main_v92, val_main_v91, val_main_v90, val_main_c_15, val_main_c_16]
  rw [indices_at q cp z ng, nonneg_word _ (by omega)]
  rfl

theorem v89_at (b : Fin 2) (h : Fin 4) (t : Fin 4096) (k : Fin 16) (c d : Fin 64) :
    val_main_v89 (F := Ideal) q cp z (ix6 b h t k c d)
      = (tokA q cp z ng b h t).ks (bkey ((tokA q cp z ng b h t).top t.val k) c) d :=
  (gather_at _ _ b h t k c d _ (v88_at q cp z ng b h t k)).trans (v21_at q cp z ng b h t _ c d)

theorem v96_at (b : Fin 2) (h : Fin 4) (t : Fin 4096) (k : Fin 16) (c d : Fin 64) :
    val_main_v96 (F := Ideal) q cp z (ix6 b h t k c d)
      = (tokA q cp z ng b h t).vs (bkey ((tokA q cp z ng b h t).top t.val k) c) d :=
  (gather_at _ _ b h t k c d _ (v95_at q cp z ng b h t k)).trans (v23_at q cp z ng b h t _ c d)

/-- The threshold of the selection. -/
def thr : EReal := Ideal.ofBits .f32 0xF0C9F2CA#32

theorem thr_neg : thr < 0 := by
  have e : thr = ((-(13234890 * 2 ^ 75 : ℝ) : ℝ) : EReal) := by
    unfold thr
    simp [Ideal.ofBits, Ideal.ieee, -EReal.coe_mul]
  rw [e]
  exact EReal.coe_neg'.2 (by norm_num)

theorem ogt_word (a b : Ideal .f32) : FloatOps.cmpf (F := Ideal) .ogt a b = BitVec.ofBool (decide ((b : EReal) < (a : EReal))) := rfl

/-- A gathered key is used. -/
abbrev used (b : Fin 2) (h : Fin 4) (t : Fin 4096) (k : Fin 16) (c : Fin 64) : Prop :=
  thr < (tokA q cp z ng b h t).score t.val ((tokA q cp z ng b h t).top t.val k) ∧
    (bkey ((tokA q cp z ng b h t).top t.val k) c).val ≤ t.val

theorem v107_at (b : Fin 2) (h : Fin 4) (t : Fin 4096) (k : Fin 16) : val_main_v107 (F := Ideal) q cp (ix5 b h t k 0)
    = BitVec.ofBool (decide (thr < (tokA q cp z ng b h t).score t.val ((tokA q cp z ng b h t).top t.val k))) := by
  have hv : val_main_v107 (F := Ideal) q cp (ix5 b h t k 0) = val_main_v106 (F := Ideal) q cp (ix4 b h t k) := by
    pointwise [val_main_v107]
  rw [hv, val_main_v106_apply, values_at q cp z ng, val_main_v105_apply, val_main_cst_18_apply]
  exact ogt_word _ _

theorem v111_at (b : Fin 2) (h : Fin 4) (t : Fin 4096) (k : Fin 16) (c : Fin 64) : val_main_v111 (F := Ideal) q cp (ix5 b h t k c)
    = BitVec.ofBool (decide ((bkey ((tokA q cp z ng b h t).top t.val k) c).val ≤ t.val)) := by
  have := c.isLt
  have := t.isLt
  pointwise [val_main_v111, val_main_v110, val_main_v109, val_main_v108, val_main_v104, val_main_v103, val_main_v102, val_main_v101, val_main_v100, val_main_v99, val_main_v98, val_main_v97, val_main_c_17, val_main_v15]
  rw [indices_at q cp z ng]
  generalize (tokA q cp z ng b h t).top t.val k = n
  have := n.isLt
  rw [muli_nat, addi_nat, cmpi_sle_nat (by omega) (by omega)]
  rfl

theorem v113_at (b : Fin 2) (h : Fin 4) (t : Fin 4096) (k : Fin 16) (c : Fin 64) :
    val_main_v113 (F := Ideal) q cp (ix5 b h t k c) = BitVec.ofBool (decide (used q cp z ng b h t k c)) := by
  have e : val_main_v112 (F := Ideal) q cp (ix5 b h t k c) = val_main_v107 (F := Ideal) q cp (ix5 b h t k 0) := by
    pointwise [val_main_v112]
  rw [val_main_v113_apply, v111_at q cp z ng, e, v107_at q cp z ng, andi_ofBool]
  exact congrArg BitVec.ofBool (Bool.decide_and _ _).symm

/-- Place `i` of the gathered keys, as a block of the sort and a key of the block. -/
def eqv : Fin 1024 ≃ Fin 16 × Fin 64 where
  toFun i := (⟨i.val / 64, by omega⟩, ⟨i.val % 64, by omega⟩)
  invFun p := ⟨p.1.val * 64 + p.2.val, by omega⟩
  left_inv i := Fin.ext (by simp only; omega)
  right_inv p := Prod.ext (Fin.ext (by simp only; omega)) (Fin.ext (by simp only; omega))

theorem v118_at (b : Fin 2) (h g : Fin 4) (t : Fin 4096) (i : Fin 1024) :
    val_main_v118 (F := Ideal) q cp z (ix5 b h g t i)
      = msk (fun i => used q cp z ng b h t (eqv i).1 (eqv i).2) (fun i => dotp ((tokA q cp z ng b h t).q g)
          ((tokA q cp z ng b h t).ks (bkey ((tokA q cp z ng b h t).top t.val (eqv i).1) (eqv i).2))) i := by
  have e : ∀ k c, val_main_v115 (F := Ideal) q cp z (ix6 b h g t k c) = dotp ((tokA q cp z ng b h t).q g)
          ((tokA q cp z ng b h t).ks (bkey ((tokA q cp z ng b h t).top t.val k) c)) := fun k c => by
    pointwise [val_main_v115, val_main_v114]
    refine Finset.sum_congr rfl fun d _ => ?_
    rw [v89_at q cp z ng b h t, v2_at q cp z ng]
    exact mul_comm _ _
  have e' : ∀ k c, val_main_v117 (F := Ideal) q cp z (ix6 b h g t k c) = if used q cp z ng b h t k c then dotp ((tokA q cp z ng b h t).q g)
          ((tokA q cp z ng b h t).ks (bkey ((tokA q cp z ng b h t).top t.val k) c)) else ⊥ := fun k c => by
    pointwise [val_main_v117, val_main_call5_v1, val_main_call5_v2, val_main_v116]
    rw [v113_at q cp z ng, select_ofBool, e, call5_at]
  pointwise [val_main_v118]
  exact e' (eqv i).1 (eqv i).2

theorem v131_at (hq : ∀ i, IsReal (q i)) (hc : ∀ i, IsReal (cp i)) (hz : ∀ i, IsReal (z i)) (b : Fin 2) (t : Fin 4096) (h g : Fin 4) (d : Fin 64) :
    val_main_v131 (F := Ideal) q cp z (ix5 b t h g d) = (tokA q cp z ng b h t).os t.val g d := by
  rw [← Tok.gathered t.val (tokA_real q cp z ng hq hc hz b h t) g d thr thr_neg eqv (fun i => used q cp z ng b h t (eqv i).1 (eqv i).2) _ _
    (fun i => Iff.rfl) (fun i => rfl) (fun i => rfl), ← eqv.symm.sum_comp, Fintype.sum_prod_type, Finset.sum_comm]
  pointwise [val_main_v131]
  refine Finset.sum_congr rfl fun c _ => Finset.sum_congr rfl fun k _ => ?_
  have e : val_main_v130 (F := Ideal) q cp z (ix6 b h g t k c) = val_main_v129 (F := Ideal) q cp z (ix5 b h g t (eqv.symm (k, c))) := by
    pointwise [val_main_v130]
    rfl
  rw [v96_at q cp z ng, e, soft2_at q cp z b h g t _ (v118_at q cp z ng b h g t)]
  have e2 := eqv.apply_symm_apply (k, c)
  rw [e2]

end Cert.ReferenceIdeal.Nsa
-- ==== Proof.ROut.lean ====
/-
  The reference read entry by entry: the result.
-/
module

public import proofs.«01_k».proof.Proof.Args
public import proofs.«01_k».proof.Proof.Forms
public import proofs.«01_k».proof.Proof.KRead
public import proofs.«01_k».proof.Proof.RSel
public import proofs.«01_k».proof.Proof.Gen.ReferenceIdeal.Read
public import Idealize.ShloMosaic.Lib.Pointwise.Sums

@[expose] public section

noncomputable section

namespace Cert.ReferenceIdeal.Nsa

open Idealize.ShloMosaic Cert.ReferenceIdeal.Gen Cert.ReferenceIdeal.Read Cert.Nsa

variable (q : FVec Ideal ⟨2, ![9216, 1024]⟩ .bf16) (cp : FVec Ideal ⟨2, ![128, 512]⟩ .f32) (z : FVec Ideal ⟨2, ![9216, 1536]⟩ .f32)
  (ng : FVec Ideal ⟨2, ![9216, 512]⟩ .f32)

/-! ### The result -/

theorem v172_at (hq : ∀ i, IsReal (q i)) (hc : ∀ i, IsReal (cp i)) (hz : ∀ i, IsReal (z i)) (b : Fin 2) (t : Fin 4096) (h g : Fin 4) (d : Fin 64) :
    val_main_v172 (F := Ideal) q cp z ng (ix5 b t h g d) = outE q cp z ng b h t g d := by
  pointwise [val_main_v172, val_main_v171, val_main_v170, val_main_v169, val_main_v168, val_main_v167, val_main_v166, val_main_v165, val_main_v164, val_main_v163, val_main_v162, val_main_v12, val_main_v11, val_main_v10, val_main_v9, val_main_v8]
  rw [v56_at q cp z ng, v131_at q cp z ng hq hc hz, v161_at q cp z ng]
  unfold outE Tok.out
  refine congrArg₂ (· + ·) (congrArg₂ (· + ·) (congrArg₂ (· * ·) ?_ rfl) (congrArg₂ (· * ·) ?_ rfl)) (congrArg₂ (· * ·) ?_ rfl)
  · refine congrArg ng (congrArg (ix2 _) (Fin.ext ?_))
    show h.val * 128 + g.val = h.val * 128 + (0 * 4 + g.val)
    omega
  · rfl
  · rfl

theorem res_eq (hq : ∀ i, IsReal (q i)) (hc : ∀ i, IsReal (cp i)) (hz : ∀ i, IsReal (z i)) :
    val_main_v175 (F := Ideal) q cp z ng = outA q cp z ng := by
  funext i
  idx_vars i
  have h0 := i0.isLt
  have h1 := i1.isLt
  pointwise [val_main_v175, val_main_v174, val_main_v173]
  rw [v172_at q cp z ng hq hc hz]
  refine (outA_of q cp z ng _ _ _ _ _ _ ?_ ?_).symm
  · show i0.val = _
    simp only
    omega
  · show i1.val = _
    simp only
    omega

end Cert.ReferenceIdeal.Nsa
-- ==== Proof.Pre.lean ====
/-
  What the precondition says: every query, key and value is a real number.
-/
module

public import proofs.«01_k».proof.Defs
public import proofs.«01_k».proof.Proof.KRead
public import proofs.«01_k».proof.Proof.Spec

@[expose] public section

noncomputable section

namespace Cert.Nsa

open Idealize.ShloMosaic

theorem posInf_top : Ideal.ofBits .f32 0x7F800000#32 = (⊤ : EReal) := by
  simp [Ideal.ofBits, Ideal.ieee]

theorem isReal_of (x : EReal) (h1 : ⊥ < x) (h2 : x < ⊤) : IsReal x :=
  ⟨x.toReal, (EReal.coe_toReal h2.ne h1.ne').symm⟩

theorem gt_word' (a b : Ideal .f32) : FloatOps.cmpf (F := Ideal) .ogt a b = BitVec.ofBool (decide ((b : EReal) < (a : EReal))) := rfl

theorem lt_word' (a b : Ideal .f32) : FloatOps.cmpf (F := Ideal) .olt a b = BitVec.ofBool (decide ((a : EReal) < (b : EReal))) := rfl

theorem isReal_word (x a b : Ideal .f32) (ha : a = (⊥ : EReal)) (hb : b = (⊤ : EReal))
    (h : IntOp.andi (FloatOps.cmpf (F := Ideal) .ogt x a) (FloatOps.cmpf (F := Ideal) .olt x b) = 1#1) : IsReal x := by
  rw [gt_word', lt_word', andi_ofBool] at h
  have h' : (decide ((a : EReal) < (x : EReal)) && decide ((x : EReal) < (b : EReal))) = true := by
    generalize (decide ((a : EReal) < (x : EReal)) && decide ((x : EReal) < (b : EReal))) = c at h
    revert h; revert c; decide
  simp only [Bool.and_eq_true, decide_eq_true_eq] at h'
  exact isReal_of x (ha ▸ h'.1) (hb ▸ h'.2)

theorem pre_facts : Cert.Pre_real_inputs.Facts where
  bitsLt_bf16_f32 := by decide
  bcast_S_S9216x1024 := by decide
  bcast_S_S128x512 := by decide
  bcast_S_S9216x1536 := by decide

/-- The precondition, entry by entry. -/
theorem pre_real [Cert.Pre_real_inputs.Facts] (q : FVec Ideal ⟨2, ![9216, 1024]⟩ .bf16) (cp : FVec Ideal ⟨2, ![128, 512]⟩ .f32)
    (z : FVec Ideal ⟨2, ![9216, 1536]⟩ .f32) (ng : FVec Ideal ⟨2, ![9216, 512]⟩ .f32)
    (h : (Cert.Pre_real_inputs.fn (F := Ideal) q cp z ng).1 = (fun _ => 1#1)
      ∧ (Cert.Pre_real_inputs.fn (F := Ideal) q cp z ng).2.1 = (fun _ => 1#1)
      ∧ (Cert.Pre_real_inputs.fn (F := Ideal) q cp z ng).2.2 = (fun _ => 1#1)) :
    (∀ i, IsReal (q i)) ∧ (∀ i, IsReal (cp i)) ∧ (∀ i, IsReal (z i)) :=
  ⟨fun i => isReal_word (q i) (Ideal.ofBits .f32 0xFF800000#32) (Ideal.ofBits .f32 0x7F800000#32) negInf_bot posInf_top (congrFun h.1 i),
    fun i => isReal_word (cp i) (Ideal.ofBits .f32 0xFF800000#32) (Ideal.ofBits .f32 0x7F800000#32) negInf_bot posInf_top (congrFun h.2.1 i),
    fun i => isReal_word (z i) (Ideal.ofBits .f32 0xFF800000#32) (Ideal.ofBits .f32 0x7F800000#32) negInf_bot posInf_top (congrFun h.2.2 i)⟩

end Cert.Nsa

end
-- ==== Proof.MSpec.lean ====
/-
  The squared-ReLU network of the layer, written entry by entry: the norm of a row, the hidden units, the residual sum.
-/
module

public import Idealize.ShloMosaic.Lib.Pointwise
public import Mathlib.Algebra.BigOperators.Intervals

@[expose] public section

noncomputable section

namespace Cert.Mlp

open Idealize.ShloMosaic

/-- The reciprocal root of a row's mean square, with the printed length and offset. -/
def rinv (x : Fin 2048 → EReal) : EReal :=
  Ideal.rsqrt (Ideal.div (∑ k, x k * x k) (Ideal.ofBits .f32 0x45000000#32) + Ideal.ofBits .f32 0x358637BD#32)

/-- A row scaled by it and by a weight per lane. -/
def nrm (x g : Fin 2048 → EReal) (k : Fin 2048) : EReal := x k * rinv x * g k

section
variable (x : Fin 2048 → EReal) (g : Fin 2048 → EReal) (wu : Fin 2048 → Fin 8192 → EReal) (wd : Fin 8192 → Fin 2048 → EReal)

/-- Hidden unit `f` of a row before the square. -/
def up (f : Fin 8192) : EReal := max (∑ k, nrm x g k * wu k f) 0

/-- What hidden unit `f` adds to lane `j`. -/
def term (j : Fin 2048) (f : Fin 8192) : EReal := up x g wu f * up x g wu f * wd f j

/-- The same, of a hidden unit by its number. -/
def termN (j : Fin 2048) (f : ℕ) : EReal := if h : f < 8192 then term x g wu wd j ⟨f, h⟩ else 0

/-- What the hidden units of the first `n` tiles of 512 add to lane `j`. -/
def part (n : ℕ) (j : Fin 2048) : EReal := ∑ s ∈ Finset.range n, ∑ q : Fin 512, termN x g wu wd j (512 * s + q.val)

theorem part_succ (n : ℕ) (j : Fin 2048) :
    part x g wu wd (n + 1) j = part x g wu wd n j + ∑ q : Fin 512, termN x g wu wd j (512 * n + q.val) := by
  unfold part
  rw [Finset.sum_range_succ]

/-- All 16 tiles are all hidden units. -/
theorem part_all (j : Fin 2048) : part x g wu wd 16 j = ∑ f, term x g wu wd j f := by
  have h : ∀ n, part x g wu wd n j = ∑ f ∈ Finset.range (512 * n), termN x g wu wd j f := by
    intro n
    induction n with
    | zero => rfl
    | succ n ih =>
      rw [part_succ, ih, Nat.mul_succ, Finset.sum_range_add, ← Fin.sum_univ_eq_sum_range (fun q => termN x g wu wd j (512 * n + q))]
  rw [h, ← Fin.sum_univ_eq_sum_range (fun f => termN x g wu wd j f)]
  refine Finset.sum_congr rfl fun f _ => ?_
  unfold termN
  rw [dif_pos f.isLt]

/-- The residual sum. -/
def res (j : Fin 2048) : EReal := x j + ∑ f, term x g wu wd j f

end

end Cert.Mlp

end
-- ==== Proof.M2Step.lean ====
/-
  The network's launch with the final norm: what one point leaves in its two carried buffers and in the output block,
  and what the result array holds.
-/
module

public import proofs.«01_k».proof.Proof.MSpec
public import proofs.«01_k».proof.Proof.Gen.Kernel2Ideal.Value
public import Idealize.ShloMosaic.Lib.Pipeline.ValueKit
public import Idealize.ShloMosaic.Lib.Pointwise.Sums

@[expose] public section

set_option maxRecDepth 16384

noncomputable section

namespace Cert.Kernel2Ideal.Mlp

open Idealize.ShloMosaic Idealize.ShloMosaic.TcCoe Idealize.ShloMosaic.Tactic Idealize.SL.Sem
open Cert.Kernel2Ideal Cert.Kernel2Ideal.Gen Cert.Kernel2Ideal.Value Cert.Mlp

variable (m : (ℓ : Loc nD τ sig) → Buf (Elt Ideal) ℓ) (c : Dev nD)

/-- The first point of a row block: the normed rows, and the first tile's sum over zero. -/
theorem first (t : Fin cfg0.N) (h0 : t.val % 16 = 0) (h1 : ¬t.val % 16 = 15) :
    (outsAt0 m c t.val t.isLt).2 = (k0_pay1 (iblk m c 0 t) (iblk m c 1 t),
      k0_pay3 (k0_pay1 (iblk m c 0 t) (iblk m c 1 t)) (iblk m c 2 t) (k0_pay2 (F := Ideal)) (iblk m c 3 t)) := by
  rw [outsAt0_A m c t h0 h1]
  frame_out

/-- A point within: the normed rows stay, the tile's sum is added. -/
theorem mid (t : Fin cfg0.N) (h0 : ¬t.val % 16 = 0) (h1 : ¬t.val % 16 = 15) (a : Vec Ideal S512x2048 .bf16) (b : Vec Ideal S512x2048 .f32)
    (hp : (outsAt0 m c (t.val - 1) (Nat.lt_of_le_of_lt (Nat.sub_le _ _) t.isLt)).2 = (a, b)) :
    (outsAt0 m c t.val t.isLt).2 = (a, k0_pay3 a (iblk m c 2 t) b (iblk m c 3 t)) := by
  rw [outsAt0_B m c t h0 h1, hp]
  frame_out
  refine Prod.ext rfl ?_
  show k0_pay3 _ _ _ _ = k0_pay3 _ _ _ _
  rw [show View.read (Elt Ideal) (View.whole cc0_scratch0) _ = a from (Memref.isWhole_whole cc0_scratch0).read_unread a,
    show View.read (Elt Ideal) (View.whole cc0_scratch1) _ = b from (Memref.isWhole_whole cc0_scratch1).read_unread b]

/-- The last point leaves in the carried buffers what a point within would. -/
theorem lastC (t : Fin cfg0.N) (h0 : ¬t.val % 16 = 0) (h1 : t.val % 16 = 15) (a : Vec Ideal S512x2048 .bf16) (b : Vec Ideal S512x2048 .f32)
    (hp : (outsAt0 m c (t.val - 1) (Nat.lt_of_le_of_lt (Nat.sub_le _ _) t.isLt)).2 = (a, b)) :
    (outsAt0 m c t.val t.isLt).2 = (a, k0_pay3 a (iblk m c 2 t) b (iblk m c 3 t)) := by
  rw [outsAt0_C m c t h0 h1, hp]
  frame_out
  refine Prod.ext rfl ?_
  show k0_pay3 _ _ _ _ = k0_pay3 _ _ _ _
  rw [show View.read (Elt Ideal) (View.whole cc0_scratch0) _ = a from (Memref.isWhole_whole cc0_scratch0).read_unread a,
    show View.read (Elt Ideal) (View.whole cc0_scratch1) _ = b from (Memref.isWhole_whole cc0_scratch1).read_unread b]

/-- The last point adds its tile's sum and writes the block. -/
theorem last (t : Fin cfg0.N) (h0 : ¬t.val % 16 = 0) (h1 : t.val % 16 = 15) (a : Vec Ideal S512x2048 .bf16) (b : Vec Ideal S512x2048 .f32)
    (hp : (outsAt0 m c (t.val - 1) (Nat.lt_of_le_of_lt (Nat.sub_le _ _) t.isLt)).2 = (a, b)) :
    (outsAt0 m c t.val t.isLt).1 = k0_pay4 (iblk m c 0 t) (k0_pay3 a (iblk m c 2 t) b (iblk m c 3 t)) (iblk m c 4 t) := by
  rw [outsAt0_C m c t h0 h1, hp]
  frame_out
  rw [show View.read (Elt Ideal) (View.whole cc0_scratch0) _ = a from (Memref.isWhole_whole cc0_scratch0).read_unread a,
    show View.read (Elt Ideal) (View.whole cc0_scratch1) _ = b from (Memref.isWhole_whole cc0_scratch1).read_unread b]

/-! ### The values read entry by entry -/

theorem pay1_at (x : FVec Ideal S512x2048 .f32) (g : FVec Ideal S1x2048 .f32) (r : Fin 512) (k : Fin 2048) :
    (k0_pay1 (F := Ideal) x g : FVec Ideal S512x2048 .bf16) (ix2 r k) = nrm (fun k => x (ix2 r k)) (fun k => g (ix2 0 k)) k := by
  pointwise [k0_pay1]
  rfl

theorem pay3_at (a : FVec Ideal S512x2048 .bf16) (wu : FVec Ideal S2048x512 .bf16) (b : FVec Ideal S512x2048 .f32) (wd : FVec Ideal S512x2048 .bf16)
    (r : Fin 512) (j : Fin 2048) :
    (k0_pay3 (F := Ideal) a wu b wd : FVec Ideal S512x2048 .f32) (ix2 r j) = b (ix2 r j) + ∑ q : Fin 512,
      max (∑ k : Fin 2048, a (ix2 r k) * wu (ix2 k q)) 0 * max (∑ k : Fin 2048, a (ix2 r k) * wu (ix2 k q)) 0 * wd (ix2 q j) := by
  pointwise [k0_pay3]

theorem pay4_at (x b : FVec Ideal S512x2048 .f32) (g : FVec Ideal S1x2048 .f32) (r : Fin 512) (k : Fin 2048) :
    (k0_pay4 (F := Ideal) x b g : FVec Ideal S512x2048 .f32) (ix2 r k) = nrm (fun k => x (ix2 r k) + b (ix2 r k)) (fun k => g (ix2 0 k)) k := by
  pointwise [k0_pay4]
  rfl

theorem pay2_at (i : S512x2048.Idx) : (k0_pay2 (F := Ideal) : FVec Ideal S512x2048 .f32) i = (0 : EReal) := by
  unfold k0_pay2
  rw [shapeCast_self]
  exact Ideal.ofBits_zero_f32

/-! ### The arrays and their blocks -/

set_option maxRecDepth 100000 in
theorem idx0 : ∀ t : Fin cfg0.N, win0_0.index t = ![t.val / 16, 0] := by decide +kernel
set_option maxRecDepth 100000 in
theorem idx1 : ∀ t : Fin cfg0.N, win0_1.index t = ![0, 0] := by decide +kernel
set_option maxRecDepth 100000 in
theorem idx2 : ∀ t : Fin cfg0.N, win0_2.index t = ![0, t.val % 16] := by decide +kernel
set_option maxRecDepth 100000 in
theorem idx3 : ∀ t : Fin cfg0.N, win0_3.index t = ![t.val % 16, 0] := by decide +kernel
set_option maxRecDepth 100000 in
theorem idx4 : ∀ t : Fin cfg0.N, win0_4.index t = ![0, 0] := by decide +kernel

/-- The rows, the weights of the two norms, and the two weight matrices. -/
abbrev X (i : Fin 9216) (k : Fin 2048) : EReal := (m ((c : Thread nD τ).loc main_arg0) : FVec Ideal S9216x2048 .f32) (ix2 i k)
abbrev Wg (k : Fin 2048) : EReal := (m ((c : Thread nD τ).loc main_arg1) : FVec Ideal S2048 .f32) (ix1 k)
abbrev Wu (k : Fin 2048) (f : Fin 8192) : EReal := (m ((c : Thread nD τ).loc main_arg2) : FVec Ideal S2048x8192 .f32) (ix2 k f)
abbrev Wd (f : Fin 8192) (j : Fin 2048) : EReal := (m ((c : Thread nD τ).loc main_arg3) : FVec Ideal S8192x2048 .f32) (ix2 f j)
abbrev Wf (k : Fin 2048) : EReal := (m ((c : Thread nD τ).loc main_arg4) : FVec Ideal S2048 .f32) (ix1 k)

theorem lt288 (t : Fin cfg0.N) : t.val < 288 := lt_of_lt_of_eq t.isLt N_0

/-- The row of the array that a row of the point's block is. -/
abbrev row (t : Fin cfg0.N) (r : Fin 512) : Fin 9216 := ⟨t.val / 16 * 512 + r.val, by have := lt288 t; omega⟩

theorem blk0 (t : Fin cfg0.N) (r : Fin 512) (k : Fin 2048) :
    (iblk m c 0 t : FVec Ideal S512x2048 .f32) (ix2 r k) = X m c (row t r) k := by
  blk_ext [iblk, V_main_arg0, idx0 t]

theorem host1 (k : Fin 2048) : (V m c main_v2 : FVec Ideal S1x2048 .f32) (ix2 0 k) = Wg m c k := by
  entry_read
  pointwise

theorem host4 (k : Fin 2048) : (V m c main_v3 : FVec Ideal S1x2048 .f32) (ix2 0 k) = Wf m c k := by
  entry_read
  pointwise

theorem host2 (k : Fin 2048) (f : Fin 8192) : (V m c main_v0 : FVec Ideal S2048x8192 .bf16) (ix2 k f) = Wu m c k f := by
  entry_read
  pointwise

theorem host3 (f : Fin 8192) (j : Fin 2048) : (V m c main_v1 : FVec Ideal S8192x2048 .bf16) (ix2 f j) = Wd m c f j := by
  entry_read
  pointwise

theorem blk1 (t : Fin cfg0.N) (k : Fin 2048) : (iblk m c 1 t : FVec Ideal S1x2048 .f32) (ix2 0 k) = Wg m c k := by
  rw [← host1]
  blk_ext [iblk, idx1 t]

theorem blk4 (t : Fin cfg0.N) (k : Fin 2048) : (iblk m c 4 t : FVec Ideal S1x2048 .f32) (ix2 0 k) = Wf m c k := by
  rw [← host4]
  blk_ext [iblk, idx4 t]

theorem blk2 (t : Fin cfg0.N) (k : Fin 2048) (q : Fin 512) : (iblk m c 2 t : FVec Ideal S2048x512 .bf16) (ix2 k q)
    = Wu m c k ⟨t.val % 16 * 512 + q.val, by omega⟩ := by
  rw [← host2]
  blk_ext [iblk, idx2 t]

theorem blk3 (t : Fin cfg0.N) (q : Fin 512) (j : Fin 2048) : (iblk m c 3 t : FVec Ideal S512x2048 .bf16) (ix2 q j)
    = Wd m c ⟨t.val % 16 * 512 + q.val, by omega⟩ j := by
  rw [← host3]
  blk_ext [iblk, idx3 t]

/-! ### The carried buffers, by induction on the point -/

/-- Adding a tile's sum to the sum of the tiles before. -/
theorem step_at (t : Fin cfg0.N) (a : FVec Ideal S512x2048 .bf16) (b : FVec Ideal S512x2048 .f32) (r : Fin 512)
    (ha : ∀ k, a (ix2 r k) = nrm (X m c (row t r)) (Wg m c) k)
    (hb : ∀ j, b (ix2 r j) = part (X m c (row t r)) (Wg m c) (Wu m c) (Wd m c) (t.val % 16) j) (j : Fin 2048) :
    (k0_pay3 (F := Ideal) a (iblk m c 2 t) b (iblk m c 3 t) : FVec Ideal S512x2048 .f32) (ix2 r j)
      = part (X m c (row t r)) (Wg m c) (Wu m c) (Wd m c) (t.val % 16 + 1) j := by
  rw [pay3_at, part_succ, hb]
  congr 1
  refine Finset.sum_congr rfl fun q _ => ?_
  have hq : 512 * (t.val % 16) + q.val < 8192 := by have := q.isLt; omega
  have e : (⟨512 * (t.val % 16) + q.val, hq⟩ : Fin 8192) = ⟨t.val % 16 * 512 + q.val, by omega⟩ := Fin.ext (by dsimp only; omega)
  unfold termN term up
  rw [dif_pos hq, e]
  simp only [ha, blk2, blk3]

/-- After every point: the normed rows, and the sum of the row block's tiles so far. -/
theorem carried : ∀ (n : ℕ) (h : n < cfg0.N) (r : Fin 512),
    (∀ k, ((outsAt0 m c n h).2.1 : FVec Ideal S512x2048 .bf16) (ix2 r k) = nrm (X m c (row ⟨n, h⟩ r)) (Wg m c) k)
    ∧ ∀ j, ((outsAt0 m c n h).2.2 : FVec Ideal S512x2048 .f32) (ix2 r j)
      = part (X m c (row ⟨n, h⟩ r)) (Wg m c) (Wu m c) (Wd m c) (n % 16 + 1) j := by
  intro n
  induction n with
  | zero =>
    intro h r
    have e := first m c ⟨0, h⟩ (by simp) (by simp)
    have h1 : ∀ k, (k0_pay1 (F := Ideal) (iblk m c 0 ⟨0, h⟩) (iblk m c 1 ⟨0, h⟩) : FVec Ideal S512x2048 .bf16) (ix2 r k)
        = nrm (X m c (row ⟨0, h⟩ r)) (Wg m c) k := fun k => by rw [pay1_at]; simp only [blk0, blk1]
    dsimp only at e
    rw [e]
    exact ⟨h1, fun j => step_at m c ⟨0, h⟩ _ _ r h1 (fun j => by rw [pay2_at]; rfl) j⟩
  | succ n ih =>
    intro h r
    by_cases h0 : (n + 1) % 16 = 0
    · have e := first m c ⟨n + 1, h⟩ h0 (by dsimp only; omega)
      have h1 : ∀ k, (k0_pay1 (F := Ideal) (iblk m c 0 ⟨n + 1, h⟩) (iblk m c 1 ⟨n + 1, h⟩) : FVec Ideal S512x2048 .bf16) (ix2 r k)
          = nrm (X m c (row ⟨n + 1, h⟩ r)) (Wg m c) k := fun k => by rw [pay1_at]; simp only [blk0, blk1]
      dsimp only at e
      rw [e]
      exact ⟨h1, fun j => step_at m c ⟨n + 1, h⟩ _ _ r h1 (fun j => by rw [pay2_at]; dsimp only; rw [h0]; rfl) j⟩
    · obtain ⟨i1, i2⟩ := ih (Nat.lt_of_succ_lt h) r
      have hr : row ⟨n, Nat.lt_of_succ_lt h⟩ r = row ⟨n + 1, h⟩ r := Fin.ext (by dsimp only; omega)
      rw [hr] at i1 i2
      have e : (outsAt0 m c (n + 1) h).2 = ((outsAt0 m c n (Nat.lt_of_succ_lt h)).2.1,
          k0_pay3 (F := Ideal) (outsAt0 m c n (Nat.lt_of_succ_lt h)).2.1 (iblk m c 2 ⟨n + 1, h⟩) (outsAt0 m c n (Nat.lt_of_succ_lt h)).2.2 (iblk m c 3 ⟨n + 1, h⟩)) := by
        by_cases h15 : (n + 1) % 16 = 15
        · exact lastC m c ⟨n + 1, h⟩ h0 h15 _ _ rfl
        · exact mid m c ⟨n + 1, h⟩ h0 h15 _ _ rfl
      rw [e]
      refine ⟨i1, fun j => step_at m c ⟨n + 1, h⟩ _ _ r i1 (fun j => ?_) j⟩
      rw [i2 j]
      dsimp only
      rw [show n % 16 + 1 = (n + 1) % 16 by omega]

/-- What the last point of a row block writes. -/
theorem written (t : Fin cfg0.N) (h15 : t.val % 16 = 15) (r : Fin 512) (j : Fin 2048) :
    ((outsAt0 m c t.val t.isLt).1 : FVec Ideal S512x2048 .f32) (ix2 r j)
      = nrm (res (X m c (row t r)) (Wg m c) (Wu m c) (Wd m c)) (Wf m c) j := by
  obtain ⟨n, h⟩ := t
  obtain ⟨n, rfl⟩ : ∃ k, n = k + 1 := ⟨n - 1, by dsimp only at h15; omega⟩
  dsimp only at h15
  obtain ⟨i1, i2⟩ := carried m c n (Nat.lt_of_succ_lt h) r
  have hr : row ⟨n, Nat.lt_of_succ_lt h⟩ r = row ⟨n + 1, h⟩ r := Fin.ext (by dsimp only; omega)
  rw [hr] at i1 i2
  rw [last m c ⟨n + 1, h⟩ (by dsimp only; omega) h15 _ _ rfl, pay4_at]
  have hs : ∀ j, (k0_pay3 (F := Ideal) (outsAt0 m c n (Nat.lt_of_succ_lt h)).2.1 (iblk m c 2 ⟨n + 1, h⟩) (outsAt0 m c n (Nat.lt_of_succ_lt h)).2.2
        (iblk m c 3 ⟨n + 1, h⟩) : FVec Ideal S512x2048 .f32) (ix2 r j)
      = ∑ f, term (X m c (row ⟨n + 1, h⟩ r)) (Wg m c) (Wu m c) (Wd m c) j f := fun j => by
    rw [step_at m c ⟨n + 1, h⟩ _ _ r i1 (fun j => by rw [i2 j]; dsimp only; rw [show n % 16 + 1 = (n + 1) % 16 by omega]) j]
    dsimp only
    rw [h15]
    exact part_all _ _ _ _ _
  unfold res
  simp only [blk0, blk4]
  exact congrArg (fun y => nrm y (Wf m c) j) (funext fun k => congrArg (X m c (row ⟨n + 1, h⟩ r) k + ·) (hs k))

/-- The result array, entry by entry. -/
theorem arr_at (i : Fin 9216) (j : Fin 2048) : (G5 m c : FVec Ideal S9216x2048 .f32) (ix2 i j)
    = nrm (res (X m c i) (Wg m c) (Wu m c) (Wd m c)) (Wf m c) j := by
  have hp : pt5Of (ix2 i j) < cfg0.N := by
    rw [show cfg0.N = 288 from N_0]
    have : (ix2 i j : S9216x2048.Idx) 0 = i := rfl
    have : (ix2 i j : S9216x2048.Idx) 1 = j := rfl
    have := i.isLt
    have := j.isLt
    show 16 * (1 * (i.val / 512 - 0) + 1 * (j.val / 2048 - 0)) + 15 < 288
    omega
  have hv : pt5Of (ix2 i j : S9216x2048.Idx) = 16 * (i.val / 512) + 15 := by
    show 16 * (1 * (i.val / 512 - 0) + 1 * (j.val / 2048 - 0)) + 15 = _
    have := j.isLt
    omega
  have hl : loc5Of (ix2 i j : S9216x2048.Idx) = (ix2 ⟨i.val % 512, by omega⟩ j : S512x2048.Idx) := by
    funext a
    match a with
    | ⟨0, _⟩ => exact Fin.ext rfl
    | ⟨1, _⟩ => exact Fin.ext (Nat.mod_eq_of_lt j.isLt)
  have hr : row ⟨pt5Of (ix2 i j), hp⟩ ⟨i.val % 512, by omega⟩ = i := Fin.ext (by
    show pt5Of (ix2 i j : S9216x2048.Idx) / 16 * 512 + i.val % 512 = i.val
    rw [hv]
    omega)
  unfold G5
  rw [dif_pos hp, ← outsAt0_sweep m c _ hp, hl, written m c ⟨_, hp⟩ (by show pt5Of (ix2 i j : S9216x2048.Idx) % 16 = 15; rw [hv]; omega), hr]

end Cert.Kernel2Ideal.Mlp

end
-- ==== Proof.M2Ref.lean ====
/-
  The network's reference with the final norm, read entry by entry.
-/
module

public import Idealize.ShloMosaic.Lib.Pointwise
public import Idealize.ShloMosaic.Lib.Pointwise.Sums
public import proofs.«01_k».proof.Proof.Gen.Reference2Ideal.Read
public import proofs.«01_k».proof.Proof.MSpec

@[expose] public section

noncomputable section

namespace Cert.Reference2Ideal.Mlp

open Idealize.ShloMosaic Cert.Reference2Ideal.Gen Cert.Reference2Ideal.Read Cert.Mlp

variable (x : FVec Ideal ⟨2, ![9216, 2048]⟩ .f32) (g : FVec Ideal ⟨1, ![2048]⟩ .f32) (wu : FVec Ideal ⟨2, ![2048, 8192]⟩ .f32)
  (wd : FVec Ideal ⟨2, ![8192, 2048]⟩ .f32) (gf : FVec Ideal ⟨1, ![2048]⟩ .f32)

/-- The reciprocal root of a row's mean square. -/
theorem v7_at (i : Fin 9216) : val_main_v7 (F := Ideal) x (ix2 i 0) = rinv (fun k => x (ix2 i k)) := by
  pointwise [val_main_v7, val_main_v6, val_main_v5, val_main_v4, val_main_v3, val_main_v2, val_main_v1, val_main_v0, val_main_cst, val_main_cst_0, val_main_cst_1]
  rfl

/-- The normed rows. -/
theorem v12_at (i : Fin 9216) (k : Fin 2048) :
    val_main_v12 (F := Ideal) x g (ix2 i k) = nrm (fun k => x (ix2 i k)) (fun k => g (ix1 k)) k := by
  unfold nrm
  rw [← v7_at]
  pointwise [val_main_v12, val_main_v11, val_main_v10, val_main_v9, val_main_v8]

/-- The hidden units before the square. -/
theorem v14_at (i : Fin 9216) (f : Fin 8192) : val_main_v14 (F := Ideal) x g wu (ix2 i f)
    = up (fun k => x (ix2 i k)) (fun k => g (ix1 k)) (fun k f => wu (ix2 k f)) f := by
  unfold up
  simp only [← v12_at]
  pointwise [val_main_v14, val_main_call0_v0, val_main_call0_cst, val_main_v13]

/-- The residual sum. -/
theorem v17_at (i : Fin 9216) (j : Fin 2048) : val_main_v17 (F := Ideal) x g wu wd (ix2 i j)
    = res (fun k => x (ix2 i k)) (fun k => g (ix1 k)) (fun k f => wu (ix2 k f)) (fun f j => wd (ix2 f j)) j := by
  unfold res term
  simp only [← v14_at]
  pointwise [val_main_v17, val_main_v16, val_main_v15]

/-- The reciprocal root of a result row's mean square. -/
theorem v25_at (i : Fin 9216) : val_main_v25 (F := Ideal) x g wu wd (ix2 i 0)
    = rinv (fun k => val_main_v17 (F := Ideal) x g wu wd (ix2 i k)) := by
  pointwise [val_main_v25, val_main_v24, val_main_v23, val_main_v22, val_main_v21, val_main_v20, val_main_v19, val_main_v18, val_main_cst_2, val_main_cst_3, val_main_cst_4]
  rfl

/-- The result. -/
theorem v30_at (i : Fin 9216) (j : Fin 2048) : val_main_v30 (F := Ideal) x g wu wd gf (ix2 i j)
    = nrm (res (fun k => x (ix2 i k)) (fun k => g (ix1 k)) (fun k f => wu (ix2 k f)) (fun f j => wd (ix2 f j))) (fun k => gf (ix1 k)) j := by
  rw [show res (fun k => x (ix2 i k)) (fun k => g (ix1 k)) (fun k f => wu (ix2 k f)) (fun f j => wd (ix2 f j))
      = fun k => val_main_v17 (F := Ideal) x g wu wd (ix2 i k) from funext fun k => (v17_at x g wu wd i k).symm]
  unfold nrm
  rw [← v25_at]
  pointwise [val_main_v30, val_main_v29, val_main_v28, val_main_v27, val_main_v26]

end Cert.Reference2Ideal.Mlp

end
-- ==== Proof.M3Step.lean ====
/-
  The network's launch without the final norm: what one point leaves in its two carried buffers and in the output block,
  and what the result array holds.
-/
module

public import proofs.«01_k».proof.Proof.MSpec
public import proofs.«01_k».proof.Proof.Gen.Kernel3Ideal.Value
public import Idealize.ShloMosaic.Lib.Pipeline.ValueKit
public import Idealize.ShloMosaic.Lib.Pointwise.Sums

@[expose] public section

set_option maxRecDepth 16384

noncomputable section

namespace Cert.Kernel3Ideal.Mlp

open Idealize.ShloMosaic Idealize.ShloMosaic.TcCoe Idealize.ShloMosaic.Tactic Idealize.SL.Sem
open Cert.Kernel3Ideal Cert.Kernel3Ideal.Gen Cert.Kernel3Ideal.Value Cert.Mlp

variable (m : (ℓ : Loc nD τ sig) → Buf (Elt Ideal) ℓ) (c : Dev nD)

/-- The first point of a row block: the normed rows, and the first tile's sum over zero. -/
theorem first (t : Fin cfg0.N) (h0 : t.val % 16 = 0) (h1 : ¬t.val % 16 = 15) :
    (outsAt0 m c t.val t.isLt).2 = (k0_pay1 (iblk m c 0 t) (iblk m c 1 t),
      k0_pay3 (k0_pay1 (iblk m c 0 t) (iblk m c 1 t)) (iblk m c 2 t) (k0_pay2 (F := Ideal)) (iblk m c 3 t)) := by
  rw [outsAt0_A m c t h0 h1]
  frame_out

/-- A point within: the normed rows stay, the tile's sum is added. -/
theorem mid (t : Fin cfg0.N) (h0 : ¬t.val % 16 = 0) (h1 : ¬t.val % 16 = 15) (a : Vec Ideal S512x2048 .bf16) (b : Vec Ideal S512x2048 .f32)
    (hp : (outsAt0 m c (t.val - 1) (Nat.lt_of_le_of_lt (Nat.sub_le _ _) t.isLt)).2 = (a, b)) :
    (outsAt0 m c t.val t.isLt).2 = (a, k0_pay3 a (iblk m c 2 t) b (iblk m c 3 t)) := by
  rw [outsAt0_B m c t h0 h1, hp]
  frame_out
  refine Prod.ext rfl ?_
  show k0_pay3 _ _ _ _ = k0_pay3 _ _ _ _
  rw [show View.read (Elt Ideal) (View.whole cc0_scratch0) _ = a from (Memref.isWhole_whole cc0_scratch0).read_unread a,
    show View.read (Elt Ideal) (View.whole cc0_scratch1) _ = b from (Memref.isWhole_whole cc0_scratch1).read_unread b]

/-- The last point leaves in the carried buffers what a point within would. -/
theorem lastC (t : Fin cfg0.N) (h0 : ¬t.val % 16 = 0) (h1 : t.val % 16 = 15) (a : Vec Ideal S512x2048 .bf16) (b : Vec Ideal S512x2048 .f32)
    (hp : (outsAt0 m c (t.val - 1) (Nat.lt_of_le_of_lt (Nat.sub_le _ _) t.isLt)).2 = (a, b)) :
    (outsAt0 m c t.val t.isLt).2 = (a, k0_pay3 a (iblk m c 2 t) b (iblk m c 3 t)) := by
  rw [outsAt0_C m c t h0 h1, hp]
  frame_out
  refine Prod.ext rfl ?_
  show k0_pay3 _ _ _ _ = k0_pay3 _ _ _ _
  rw [show View.read (Elt Ideal) (View.whole cc0_scratch0) _ = a from (Memref.isWhole_whole cc0_scratch0).read_unread a,
    show View.read (Elt Ideal) (View.whole cc0_scratch1) _ = b from (Memref.isWhole_whole cc0_scratch1).read_unread b]

/-- The last point adds its tile's sum and writes the block. -/
theorem last (t : Fin cfg0.N) (h0 : ¬t.val % 16 = 0) (h1 : t.val % 16 = 15) (a : Vec Ideal S512x2048 .bf16) (b : Vec Ideal S512x2048 .f32)
    (hp : (outsAt0 m c (t.val - 1) (Nat.lt_of_le_of_lt (Nat.sub_le _ _) t.isLt)).2 = (a, b)) :
    (outsAt0 m c t.val t.isLt).1 = k0_pay4 (iblk m c 0 t) (k0_pay3 a (iblk m c 2 t) b (iblk m c 3 t)) := by
  rw [outsAt0_C m c t h0 h1, hp]
  frame_out
  rw [show View.read (Elt Ideal) (View.whole cc0_scratch0) _ = a from (Memref.isWhole_whole cc0_scratch0).read_unread a,
    show View.read (Elt Ideal) (View.whole cc0_scratch1) _ = b from (Memref.isWhole_whole cc0_scratch1).read_unread b]

/-! ### The values read entry by entry -/

theorem pay1_at (x : FVec Ideal S512x2048 .f32) (g : FVec Ideal S1x2048 .f32) (r : Fin 512) (k : Fin 2048) :
    (k0_pay1 (F := Ideal) x g : FVec Ideal S512x2048 .bf16) (ix2 r k) = nrm (fun k => x (ix2 r k)) (fun k => g (ix2 0 k)) k := by
  pointwise [k0_pay1]
  rfl

theorem pay3_at (a : FVec Ideal S512x2048 .bf16) (wu : FVec Ideal S2048x512 .bf16) (b : FVec Ideal S512x2048 .f32) (wd : FVec Ideal S512x2048 .bf16)
    (r : Fin 512) (j : Fin 2048) :
    (k0_pay3 (F := Ideal) a wu b wd : FVec Ideal S512x2048 .f32) (ix2 r j) = b (ix2 r j) + ∑ q : Fin 512,
      max (∑ k : Fin 2048, a (ix2 r k) * wu (ix2 k q)) 0 * max (∑ k : Fin 2048, a (ix2 r k) * wu (ix2 k q)) 0 * wd (ix2 q j) := by
  pointwise [k0_pay3]

theorem pay4_at (x b : FVec Ideal S512x2048 .f32) (r : Fin 512) (k : Fin 2048) :
    (k0_pay4 (F := Ideal) x b : FVec Ideal S512x2048 .f32) (ix2 r k) = x (ix2 r k) + b (ix2 r k) := by
  pointwise [k0_pay4]

theorem pay2_at (i : S512x2048.Idx) : (k0_pay2 (F := Ideal) : FVec Ideal S512x2048 .f32) i = (0 : EReal) := by
  unfold k0_pay2
  rw [shapeCast_self]
  exact Ideal.ofBits_zero_f32

/-! ### The arrays and their blocks -/

set_option maxRecDepth 100000 in
theorem idx0 : ∀ t : Fin cfg0.N, win0_0.index t = ![t.val / 16, 0] := by decide +kernel
set_option maxRecDepth 100000 in
theorem idx1 : ∀ t : Fin cfg0.N, win0_1.index t = ![0, 0] := by decide +kernel
set_option maxRecDepth 100000 in
theorem idx2 : ∀ t : Fin cfg0.N, win0_2.index t = ![0, t.val % 16] := by decide +kernel
set_option maxRecDepth 100000 in
theorem idx3 : ∀ t : Fin cfg0.N, win0_3.index t = ![t.val % 16, 0] := by decide +kernel

/-- The rows, the weights of the norms, and the two weight matrices. -/
abbrev X (i : Fin 9216) (k : Fin 2048) : EReal := (m ((c : Thread nD τ).loc main_arg0) : FVec Ideal S9216x2048 .f32) (ix2 i k)
abbrev Wg (k : Fin 2048) : EReal := (m ((c : Thread nD τ).loc main_arg1) : FVec Ideal S2048 .f32) (ix1 k)
abbrev Wu (k : Fin 2048) (f : Fin 8192) : EReal := (m ((c : Thread nD τ).loc main_arg2) : FVec Ideal S2048x8192 .f32) (ix2 k f)
abbrev Wd (f : Fin 8192) (j : Fin 2048) : EReal := (m ((c : Thread nD τ).loc main_arg3) : FVec Ideal S8192x2048 .f32) (ix2 f j)

theorem lt288 (t : Fin cfg0.N) : t.val < 288 := lt_of_lt_of_eq t.isLt N_0

/-- The row of the array that a row of the point's block is. -/
abbrev row (t : Fin cfg0.N) (r : Fin 512) : Fin 9216 := ⟨t.val / 16 * 512 + r.val, by have := lt288 t; omega⟩

theorem blk0 (t : Fin cfg0.N) (r : Fin 512) (k : Fin 2048) :
    (iblk m c 0 t : FVec Ideal S512x2048 .f32) (ix2 r k) = X m c (row t r) k := by
  blk_ext [iblk, V_main_arg0, idx0 t]

theorem host1 (k : Fin 2048) : (V m c main_v2 : FVec Ideal S1x2048 .f32) (ix2 0 k) = Wg m c k := by
  entry_read
  pointwise

theorem host2 (k : Fin 2048) (f : Fin 8192) : (V m c main_v0 : FVec Ideal S2048x8192 .bf16) (ix2 k f) = Wu m c k f := by
  entry_read
  pointwise

theorem host3 (f : Fin 8192) (j : Fin 2048) : (V m c main_v1 : FVec Ideal S8192x2048 .bf16) (ix2 f j) = Wd m c f j := by
  entry_read
  pointwise

theorem blk1 (t : Fin cfg0.N) (k : Fin 2048) : (iblk m c 1 t : FVec Ideal S1x2048 .f32) (ix2 0 k) = Wg m c k := by
  rw [← host1]
  blk_ext [iblk, idx1 t]

theorem blk2 (t : Fin cfg0.N) (k : Fin 2048) (q : Fin 512) : (iblk m c 2 t : FVec Ideal S2048x512 .bf16) (ix2 k q)
    = Wu m c k ⟨t.val % 16 * 512 + q.val, by omega⟩ := by
  rw [← host2]
  blk_ext [iblk, idx2 t]

theorem blk3 (t : Fin cfg0.N) (q : Fin 512) (j : Fin 2048) : (iblk m c 3 t : FVec Ideal S512x2048 .bf16) (ix2 q j)
    = Wd m c ⟨t.val % 16 * 512 + q.val, by omega⟩ j := by
  rw [← host3]
  blk_ext [iblk, idx3 t]

/-! ### The carried buffers, by induction on the point -/

/-- Adding a tile's sum to the sum of the tiles before. -/
theorem step_at (t : Fin cfg0.N) (a : FVec Ideal S512x2048 .bf16) (b : FVec Ideal S512x2048 .f32) (r : Fin 512)
    (ha : ∀ k, a (ix2 r k) = nrm (X m c (row t r)) (Wg m c) k)
    (hb : ∀ j, b (ix2 r j) = part (X m c (row t r)) (Wg m c) (Wu m c) (Wd m c) (t.val % 16) j) (j : Fin 2048) :
    (k0_pay3 (F := Ideal) a (iblk m c 2 t) b (iblk m c 3 t) : FVec Ideal S512x2048 .f32) (ix2 r j)
      = part (X m c (row t r)) (Wg m c) (Wu m c) (Wd m c) (t.val % 16 + 1) j := by
  rw [pay3_at, part_succ, hb]
  congr 1
  refine Finset.sum_congr rfl fun q _ => ?_
  have hq : 512 * (t.val % 16) + q.val < 8192 := by have := q.isLt; omega
  have e : (⟨512 * (t.val % 16) + q.val, hq⟩ : Fin 8192) = ⟨t.val % 16 * 512 + q.val, by omega⟩ := Fin.ext (by dsimp only; omega)
  unfold termN term up
  rw [dif_pos hq, e]
  simp only [ha, blk2, blk3]

/-- After every point: the normed rows, and the sum of the row block's tiles so far. -/
theorem carried : ∀ (n : ℕ) (h : n < cfg0.N) (r : Fin 512),
    (∀ k, ((outsAt0 m c n h).2.1 : FVec Ideal S512x2048 .bf16) (ix2 r k) = nrm (X m c (row ⟨n, h⟩ r)) (Wg m c) k)
    ∧ ∀ j, ((outsAt0 m c n h).2.2 : FVec Ideal S512x2048 .f32) (ix2 r j)
      = part (X m c (row ⟨n, h⟩ r)) (Wg m c) (Wu m c) (Wd m c) (n % 16 + 1) j := by
  intro n
  induction n with
  | zero =>
    intro h r
    have e := first m c ⟨0, h⟩ (by simp) (by simp)
    have h1 : ∀ k, (k0_pay1 (F := Ideal) (iblk m c 0 ⟨0, h⟩) (iblk m c 1 ⟨0, h⟩) : FVec Ideal S512x2048 .bf16) (ix2 r k)
        = nrm (X m c (row ⟨0, h⟩ r)) (Wg m c) k := fun k => by rw [pay1_at]; simp only [blk0, blk1]
    dsimp only at e
    rw [e]
    exact ⟨h1, fun j => step_at m c ⟨0, h⟩ _ _ r h1 (fun j => by rw [pay2_at]; rfl) j⟩
  | succ n ih =>
    intro h r
    by_cases h0 : (n + 1) % 16 = 0
    · have e := first m c ⟨n + 1, h⟩ h0 (by dsimp only; omega)
      have h1 : ∀ k, (k0_pay1 (F := Ideal) (iblk m c 0 ⟨n + 1, h⟩) (iblk m c 1 ⟨n + 1, h⟩) : FVec Ideal S512x2048 .bf16) (ix2 r k)
          = nrm (X m c (row ⟨n + 1, h⟩ r)) (Wg m c) k := fun k => by rw [pay1_at]; simp only [blk0, blk1]
      dsimp only at e
      rw [e]
      exact ⟨h1, fun j => step_at m c ⟨n + 1, h⟩ _ _ r h1 (fun j => by rw [pay2_at]; dsimp only; rw [h0]; rfl) j⟩
    · obtain ⟨i1, i2⟩ := ih (Nat.lt_of_succ_lt h) r
      have hr : row ⟨n, Nat.lt_of_succ_lt h⟩ r = row ⟨n + 1, h⟩ r := Fin.ext (by dsimp only; omega)
      rw [hr] at i1 i2
      have e : (outsAt0 m c (n + 1) h).2 = ((outsAt0 m c n (Nat.lt_of_succ_lt h)).2.1,
          k0_pay3 (F := Ideal) (outsAt0 m c n (Nat.lt_of_succ_lt h)).2.1 (iblk m c 2 ⟨n + 1, h⟩) (outsAt0 m c n (Nat.lt_of_succ_lt h)).2.2 (iblk m c 3 ⟨n + 1, h⟩)) := by
        by_cases h15 : (n + 1) % 16 = 15
        · exact lastC m c ⟨n + 1, h⟩ h0 h15 _ _ rfl
        · exact mid m c ⟨n + 1, h⟩ h0 h15 _ _ rfl
      rw [e]
      refine ⟨i1, fun j => step_at m c ⟨n + 1, h⟩ _ _ r i1 (fun j => ?_) j⟩
      rw [i2 j]
      dsimp only
      rw [show n % 16 + 1 = (n + 1) % 16 by omega]

/-- What the last point of a row block writes. -/
theorem written (t : Fin cfg0.N) (h15 : t.val % 16 = 15) (r : Fin 512) (j : Fin 2048) :
    ((outsAt0 m c t.val t.isLt).1 : FVec Ideal S512x2048 .f32) (ix2 r j)
      = res (X m c (row t r)) (Wg m c) (Wu m c) (Wd m c) j := by
  obtain ⟨n, h⟩ := t
  obtain ⟨n, rfl⟩ : ∃ k, n = k + 1 := ⟨n - 1, by dsimp only at h15; omega⟩
  dsimp only at h15
  obtain ⟨i1, i2⟩ := carried m c n (Nat.lt_of_succ_lt h) r
  have hr : row ⟨n, Nat.lt_of_succ_lt h⟩ r = row ⟨n + 1, h⟩ r := Fin.ext (by dsimp only; omega)
  rw [hr] at i1 i2
  rw [last m c ⟨n + 1, h⟩ (by dsimp only; omega) h15 _ _ rfl, pay4_at]
  have hs : ∀ j, (k0_pay3 (F := Ideal) (outsAt0 m c n (Nat.lt_of_succ_lt h)).2.1 (iblk m c 2 ⟨n + 1, h⟩) (outsAt0 m c n (Nat.lt_of_succ_lt h)).2.2
        (iblk m c 3 ⟨n + 1, h⟩) : FVec Ideal S512x2048 .f32) (ix2 r j)
      = ∑ f, term (X m c (row ⟨n + 1, h⟩ r)) (Wg m c) (Wu m c) (Wd m c) j f := fun j => by
    rw [step_at m c ⟨n + 1, h⟩ _ _ r i1 (fun j => by rw [i2 j]; dsimp only; rw [show n % 16 + 1 = (n + 1) % 16 by omega]) j]
    dsimp only
    rw [h15]
    exact part_all _ _ _ _ _
  unfold res
  rw [blk0]
  exact congrArg (X m c (row ⟨n + 1, h⟩ r) j + ·) (hs j)

/-- The result array, entry by entry. -/
theorem arr_at (i : Fin 9216) (j : Fin 2048) : (G5 m c : FVec Ideal S9216x2048 .f32) (ix2 i j)
    = res (X m c i) (Wg m c) (Wu m c) (Wd m c) j := by
  have hp : pt5Of (ix2 i j) < cfg0.N := by
    rw [show cfg0.N = 288 from N_0]
    have : (ix2 i j : S9216x2048.Idx) 0 = i := rfl
    have : (ix2 i j : S9216x2048.Idx) 1 = j := rfl
    have := i.isLt
    have := j.isLt
    show 16 * (1 * (i.val / 512 - 0) + 1 * (j.val / 2048 - 0)) + 15 < 288
    omega
  have hv : pt5Of (ix2 i j : S9216x2048.Idx) = 16 * (i.val / 512) + 15 := by
    show 16 * (1 * (i.val / 512 - 0) + 1 * (j.val / 2048 - 0)) + 15 = _
    have := j.isLt
    omega
  have hl : loc5Of (ix2 i j : S9216x2048.Idx) = (ix2 ⟨i.val % 512, by omega⟩ j : S512x2048.Idx) := by
    funext a
    match a with
    | ⟨0, _⟩ => exact Fin.ext rfl
    | ⟨1, _⟩ => exact Fin.ext (Nat.mod_eq_of_lt j.isLt)
  have hr : row ⟨pt5Of (ix2 i j), hp⟩ ⟨i.val % 512, by omega⟩ = i := Fin.ext (by
    show pt5Of (ix2 i j : S9216x2048.Idx) / 16 * 512 + i.val % 512 = i.val
    rw [hv]
    omega)
  unfold G5
  rw [dif_pos hp, ← outsAt0_sweep m c _ hp, hl, written m c ⟨_, hp⟩ (by show pt5Of (ix2 i j : S9216x2048.Idx) % 16 = 15; rw [hv]; omega), hr]

end Cert.Kernel3Ideal.Mlp

end
-- ==== Proof.M3Ref.lean ====
/-
  The network's reference without the final norm, read entry by entry.
-/
module

public import Idealize.ShloMosaic.Lib.Pointwise
public import Idealize.ShloMosaic.Lib.Pointwise.Sums
public import proofs.«01_k».proof.Proof.Gen.Reference3Ideal.Read
public import proofs.«01_k».proof.Proof.MSpec

@[expose] public section

noncomputable section

namespace Cert.Reference3Ideal.Mlp

open Idealize.ShloMosaic Cert.Reference3Ideal.Gen Cert.Reference3Ideal.Read Cert.Mlp

variable (x : FVec Ideal ⟨2, ![9216, 2048]⟩ .f32) (g : FVec Ideal ⟨1, ![2048]⟩ .f32) (wu : FVec Ideal ⟨2, ![2048, 8192]⟩ .f32)
  (wd : FVec Ideal ⟨2, ![8192, 2048]⟩ .f32)

/-- The reciprocal root of a row's mean square. -/
theorem v7_at (i : Fin 9216) : val_main_v7 (F := Ideal) x (ix2 i 0) = rinv (fun k => x (ix2 i k)) := by
  pointwise [val_main_v7, val_main_v6, val_main_v5, val_main_v4, val_main_v3, val_main_v2, val_main_v1, val_main_v0, val_main_cst, val_main_cst_0, val_main_cst_1]
  rfl

/-- The normed rows. -/
theorem v12_at (i : Fin 9216) (k : Fin 2048) :
    val_main_v12 (F := Ideal) x g (ix2 i k) = nrm (fun k => x (ix2 i k)) (fun k => g (ix1 k)) k := by
  unfold nrm
  rw [← v7_at]
  pointwise [val_main_v12, val_main_v11, val_main_v10, val_main_v9, val_main_v8]

/-- The hidden units before the square. -/
theorem v14_at (i : Fin 9216) (f : Fin 8192) : val_main_v14 (F := Ideal) x g wu (ix2 i f)
    = up (fun k => x (ix2 i k)) (fun k => g (ix1 k)) (fun k f => wu (ix2 k f)) f := by
  unfold up
  simp only [← v12_at]
  pointwise [val_main_v14, val_main_call0_v0, val_main_call0_cst, val_main_v13]

/-- The residual sum. -/
theorem v17_at (i : Fin 9216) (j : Fin 2048) : val_main_v17 (F := Ideal) x g wu wd (ix2 i j)
    = res (fun k => x (ix2 i k)) (fun k => g (ix1 k)) (fun k f => wu (ix2 k f)) (fun f j => wd (ix2 f j)) j := by
  unfold res term
  simp only [← v14_at]
  pointwise [val_main_v17, val_main_v16, val_main_v15]

end Cert.Reference3Ideal.Mlp

end
-- ==== Proof.PSpec.lean ====
/-
  An input projection, written entry by entry: a normed row times a column of weights.
-/
module

public import proofs.«01_k».proof.Proof.MSpec

@[expose] public section

noncomputable section

namespace Cert.Mlp

open Idealize.ShloMosaic

/-- The normed row times a column. -/
def proj (x g w : Fin 2048 → EReal) : EReal := ∑ k, nrm x g k * w k

/-- The printed scale of the scores. -/
theorem eighth : Ideal.ofBits .f32 0x3E000000#32 = ((1 / 8 : ℝ) : EReal) := by
  simp [Ideal.ofBits, Ideal.ieee, -EReal.coe_mul]
  norm_num

/-- A nonnegative real factor goes through a sum of any extended reals. -/
theorem sum_mul_real {n : ℕ} (a : Fin n → EReal) (e : ℝ) (he : 0 ≤ e) : ∑ k, a k * (e : EReal) = (∑ k, a k) * e := by
  induction n with
  | zero => simp
  | succ n ih =>
    rw [Fin.sum_univ_succ, Fin.sum_univ_succ, ih,
      EReal.right_distrib_of_nonneg_of_ne_top (EReal.coe_nonneg.mpr he) (EReal.coe_ne_top e)]

/-- A column scaled is the projection scaled. -/
theorem proj_scale (x g w : Fin 2048 → EReal) :
    proj x g (fun k => w k * Ideal.ofBits .f32 0x3E000000#32) = proj x g w * Ideal.ofBits .f32 0x3E000000#32 := by
  unfold proj
  rw [eighth, ← sum_mul_real _ _ (by norm_num)]
  exact Finset.sum_congr rfl fun k _ => (mul_assoc _ _ _).symm

end Cert.Mlp

end
-- ==== Proof.P4Step.lean ====
/-
  The input projection's launch for the keys and values: what one point leaves in the carried buffer and the output block, and
  what the result array holds.
-/
module

public import proofs.«01_k».proof.Proof.PSpec
public import proofs.«01_k».proof.Proof.Gen.Kernel4Ideal.Value
public import Idealize.ShloMosaic.Lib.Pipeline.ValueKit
public import Idealize.ShloMosaic.Lib.Pointwise.Sums

@[expose] public section

set_option maxRecDepth 16384

noncomputable section

namespace Cert.Kernel4Ideal.Proj

open Idealize.ShloMosaic Idealize.ShloMosaic.TcCoe Idealize.ShloMosaic.Tactic Idealize.SL.Sem
open Cert.Kernel4Ideal Cert.Kernel4Ideal.Gen Cert.Kernel4Ideal.Value Cert.Mlp

variable (m : (ℓ : Loc nD τ sig) → Buf (Elt Ideal) ℓ) (c : Dev nD)

/-- The first point of a row block norms the rows and writes its tile. -/
theorem first (t : Fin cfg0.N) (h0 : t.val % 3 = 0) : outsAt0 m c t.val t.isLt
    = (k0_pay2 (k0_pay1 (iblk m c 0 t) (iblk m c 1 t)) (iblk m c 2 t), k0_pay1 (iblk m c 0 t) (iblk m c 1 t)) := by
  rw [outsAt0_A m c t h0]
  frame_out

/-- A later point writes its tile from the rows kept. -/
theorem later (t : Fin cfg0.N) (h0 : ¬t.val % 3 = 0) (a : Vec Ideal S1024x2048 .bf16)
    (hp : (outsAt0 m c (t.val - 1) (Nat.lt_of_le_of_lt (Nat.sub_le _ _) t.isLt)).2 = a) :
    outsAt0 m c t.val t.isLt = (k0_pay2 a (iblk m c 2 t), a) := by
  rw [outsAt0_B m c t h0, hp]
  frame_out
  refine Prod.ext ?_ rfl
  show k0_pay2 _ _ = k0_pay2 _ _
  rw [show View.read (Elt Ideal) (View.whole cc0_scratch0) _ = a from (Memref.isWhole_whole cc0_scratch0).read_unread a]

/-! ### The values read entry by entry -/

theorem pay1_at (x : FVec Ideal S1024x2048 .f32) (g : FVec Ideal S1x2048 .f32) (r : Fin 1024) (k : Fin 2048) :
    (k0_pay1 (F := Ideal) x g : FVec Ideal S1024x2048 .bf16) (ix2 r k) = nrm (fun k => x (ix2 r k)) (fun k => g (ix2 0 k)) k := by
  pointwise [k0_pay1]
  rfl

theorem pay2_at (a : FVec Ideal S1024x2048 .bf16) (w : FVec Ideal S2048x512 .bf16) (r : Fin 1024) (q : Fin 512) :
    (k0_pay2 (F := Ideal) a w : FVec Ideal S1024x512 .f32) (ix2 r q) = ∑ k : Fin 2048, a (ix2 r k) * w (ix2 k q) := by
  pointwise [k0_pay2]

/-! ### The arrays and their blocks -/

set_option maxRecDepth 100000 in
theorem idx0 : ∀ t : Fin cfg0.N, win0_0.index t = ![t.val / 3, 0] := by decide +kernel
set_option maxRecDepth 100000 in
theorem idx1 : ∀ t : Fin cfg0.N, win0_1.index t = ![0, 0] := by decide +kernel
set_option maxRecDepth 100000 in
theorem idx2 : ∀ t : Fin cfg0.N, win0_2.index t = ![0, t.val % 3] := by decide +kernel

/-- The rows, the weights of the norm, and the weight matrix of all the layer's projections. -/
abbrev X (i : Fin 9216) (k : Fin 2048) : EReal := (m ((c : Thread nD τ).loc main_arg0) : FVec Ideal S9216x2048 .f32) (ix2 i k)
abbrev Wg (k : Fin 2048) : EReal := (m ((c : Thread nD τ).loc main_arg1) : FVec Ideal S2048 .f32) (ix1 k)
abbrev W (f : Fin 7728) (k : Fin 2048) : EReal := (m ((c : Thread nD τ).loc main_arg2) : FVec Ideal S2048x7728 .f32) (ix2 k f)

/-- The column of that matrix that a column of the result is. -/
abbrev col (f : Fin 1536) : Fin 7728 := ⟨1024 + f.val, by omega⟩

theorem ltN (t : Fin cfg0.N) : t.val < 27 := lt_of_lt_of_eq t.isLt N_0

/-- The row of the array that a row of the point's block is. -/
abbrev row (t : Fin cfg0.N) (r : Fin 1024) : Fin 9216 := ⟨t.val / 3 * 1024 + r.val, by have := ltN t; omega⟩

theorem blk0 (t : Fin cfg0.N) (r : Fin 1024) (k : Fin 2048) :
    (iblk m c 0 t : FVec Ideal S1024x2048 .f32) (ix2 r k) = X m c (row t r) k := by
  blk_ext [iblk, V_main_arg0, idx0 t]

theorem host1 (k : Fin 2048) : (V m c main_v2 : FVec Ideal S1x2048 .f32) (ix2 0 k) = Wg m c k := by
  entry_read
  pointwise

theorem host2 (k : Fin 2048) (f : Fin 1536) : (V m c main_v1 : FVec Ideal S2048x1536 .bf16) (ix2 k f) = W m c (col f) k := by
  entry_read
  pointwise

theorem blk1 (t : Fin cfg0.N) (k : Fin 2048) : (iblk m c 1 t : FVec Ideal S1x2048 .f32) (ix2 0 k) = Wg m c k := by
  rw [← host1]
  blk_ext [iblk, idx1 t]

theorem blk2 (t : Fin cfg0.N) (k : Fin 2048) (q : Fin 512) : (iblk m c 2 t : FVec Ideal S2048x512 .bf16) (ix2 k q)
    = W m c (col ⟨t.val % 3 * 512 + q.val, by omega⟩) k := by
  rw [← host2]
  blk_ext [iblk, idx2 t]

/-! ### The carried buffer, by induction on the point -/

/-- The rows that the first point of a row block norms. -/
theorem normed (t : Fin cfg0.N) (r : Fin 1024) (k : Fin 2048) :
    (k0_pay1 (F := Ideal) (iblk m c 0 t) (iblk m c 1 t) : FVec Ideal S1024x2048 .bf16) (ix2 r k) = nrm (X m c (row t r)) (Wg m c) k := by
  rw [pay1_at]
  simp only [blk0, blk1]

/-- After every point: the normed rows of its row block. -/
theorem carried : ∀ (n : ℕ) (h : n < cfg0.N) (r : Fin 1024) (k : Fin 2048),
    ((outsAt0 m c n h).2 : FVec Ideal S1024x2048 .bf16) (ix2 r k) = nrm (X m c (row ⟨n, h⟩ r)) (Wg m c) k := by
  intro n
  induction n with
  | zero =>
    intro h r k
    have e := first m c ⟨0, h⟩ (by simp)
    dsimp only at e
    rw [e]
    exact normed m c ⟨0, h⟩ r k
  | succ n ih =>
    intro h r k
    by_cases h0 : (n + 1) % 3 = 0
    · have e := first m c ⟨n + 1, h⟩ h0
      dsimp only at e
      rw [e]
      exact normed m c ⟨n + 1, h⟩ r k
    · have e := later m c ⟨n + 1, h⟩ h0 _ rfl
      dsimp only at e
      rw [e]
      refine (ih (Nat.lt_of_succ_lt h) r k).trans ?_
      rw [show row ⟨n, Nat.lt_of_succ_lt h⟩ r = row ⟨n + 1, h⟩ r from Fin.ext (by dsimp only; omega)]

/-- What every point writes. -/
theorem written (t : Fin cfg0.N) (r : Fin 1024) (q : Fin 512) :
    ((outsAt0 m c t.val t.isLt).1 : FVec Ideal S1024x512 .f32) (ix2 r q)
      = proj (X m c (row t r)) (Wg m c) (W m c (col ⟨t.val % 3 * 512 + q.val, by omega⟩)) := by
  have hc := carried m c t.val t.isLt r
  have e : (outsAt0 m c t.val t.isLt).1 = k0_pay2 (outsAt0 m c t.val t.isLt).2 (iblk m c 2 t) := by
    by_cases h0 : t.val % 3 = 0
    · rw [first m c t h0]
    · rw [later m c t h0 _ rfl]
  rw [e, pay2_at]
  unfold proj
  simp only [hc, blk2]

/-- The result array, entry by entry. -/
theorem arr_at (i : Fin 9216) (j : Fin 1536) : (G3 m c : FVec Ideal S9216x1536 .f32) (ix2 i j)
    = proj (X m c i) (Wg m c) (W m c (col j)) := by
  have hi := i.isLt
  have hj := j.isLt
  have hv : pt3Of (ix2 i j : S9216x1536.Idx) = 3 * (i.val / 1024) + j.val / 512 := by
    show 3 * (i.val / 1024 - 0) + 1 * (j.val / 512 - 0) = _
    omega
  have hp : pt3Of (ix2 i j) < cfg0.N := by
    rw [show cfg0.N = 27 from N_0, hv]
    omega
  have hl : loc3Of (ix2 i j : S9216x1536.Idx) = (ix2 ⟨i.val % 1024, by omega⟩ ⟨j.val % 512, by omega⟩ : S1024x512.Idx) := by
    funext a
    match a with
    | ⟨0, _⟩ => rfl
    | ⟨1, _⟩ => rfl
  have hr : row ⟨pt3Of (ix2 i j), hp⟩ ⟨i.val % 1024, by omega⟩ = i := Fin.ext (by
    show pt3Of (ix2 i j : S9216x1536.Idx) / 3 * 1024 + i.val % 1024 = i.val
    rw [hv]
    omega)
  have hq : (⟨pt3Of (ix2 i j : S9216x1536.Idx) % 3 * 512 + j.val % 512, by omega⟩ : Fin 1536) = j := Fin.ext (by
    show pt3Of (ix2 i j : S9216x1536.Idx) % 3 * 512 + j.val % 512 = j.val
    rw [hv]
    omega)
  unfold G3
  rw [dif_pos hp, ← outsAt0_sweep m c _ hp, hl, written m c ⟨_, hp⟩, hr, hq]

end Cert.Kernel4Ideal.Proj

end
-- ==== Proof.P4Ref.lean ====
/-
  The input projection's reference for the keys and values, read entry by entry.
-/
module

public import proofs.«01_k».proof.Proof.PSpec
public import proofs.«01_k».proof.Proof.M3Ref
public import proofs.«01_k».proof.Proof.Gen.Reference4Ideal.Read

@[expose] public section

noncomputable section

namespace Cert.Reference4Ideal.Proj

open Idealize.ShloMosaic Cert.Reference4Ideal.Gen Cert.Reference4Ideal.Read Cert.Mlp

variable (x : FVec Ideal ⟨2, ![9216, 2048]⟩ .f32) (g : FVec Ideal ⟨1, ![2048]⟩ .f32) (w : FVec Ideal ⟨2, ![2048, 7728]⟩ .f32)

/-- The normed rows. -/
theorem v12_at (i : Fin 9216) (k : Fin 2048) :
    val_main_v12 (F := Ideal) x g (ix2 i k) = nrm (fun k => x (ix2 i k)) (fun k => g (ix1 k)) k :=
  Cert.Reference3Ideal.Mlp.v12_at x g i k

/-- The columns of the projection. -/
theorem v14_at (i : Fin 9216) (j : Fin 1536) : val_main_v14 (F := Ideal) x g w (ix2 i j)
    = proj (fun k => x (ix2 i k)) (fun k => g (ix1 k)) (fun k => w (ix2 k (⟨1024 + j.val, by omega⟩ : Fin 7728))) := by
  unfold proj
  simp only [← v12_at]
  pointwise [val_main_v14, val_main_v13]

end Cert.Reference4Ideal.Proj

end
-- ==== Proof.P5Step.lean ====
/-
  The input projection's launch for the pooled channels: what one point leaves in the carried buffer and the output block, and
  what the result array holds.
-/
module

public import proofs.«01_k».proof.Proof.P4Step
public import proofs.«01_k».proof.Proof.Gen.Kernel5Ideal.Value
public import Idealize.ShloMosaic.Lib.Pipeline.ValueKit
public import Idealize.ShloMosaic.Lib.Pointwise.Sums

@[expose] public section

set_option maxRecDepth 16384

noncomputable section

namespace Cert.Kernel5Ideal.Proj

open Idealize.ShloMosaic Idealize.ShloMosaic.TcCoe Idealize.ShloMosaic.Tactic Idealize.SL.Sem
open Cert.Kernel5Ideal Cert.Kernel5Ideal.Gen Cert.Kernel5Ideal.Value Cert.Mlp

variable (m : (ℓ : Loc nD τ sig) → Buf (Elt Ideal) ℓ) (c : Dev nD)

/-- The first point of a row block norms the rows and writes its tile. -/
theorem first (t : Fin cfg0.N) (h0 : t.val % 2 = 0) : outsAt0 m c t.val t.isLt
    = (k0_pay2 (k0_pay1 (iblk m c 0 t) (iblk m c 1 t)) (iblk m c 2 t), k0_pay1 (iblk m c 0 t) (iblk m c 1 t)) := by
  rw [outsAt0_A m c t h0]
  frame_out

/-- A later point writes its tile from the rows kept. -/
theorem later (t : Fin cfg0.N) (h0 : ¬t.val % 2 = 0) (a : Vec Ideal S1024x2048 .bf16)
    (hp : (outsAt0 m c (t.val - 1) (Nat.lt_of_le_of_lt (Nat.sub_le _ _) t.isLt)).2 = a) :
    outsAt0 m c t.val t.isLt = (k0_pay2 a (iblk m c 2 t), a) := by
  rw [outsAt0_B m c t h0, hp]
  frame_out
  refine Prod.ext ?_ rfl
  show k0_pay2 _ _ = k0_pay2 _ _
  rw [show View.read (Elt Ideal) (View.whole cc0_scratch0) _ = a from (Memref.isWhole_whole cc0_scratch0).read_unread a]

/-! ### The values read entry by entry -/

theorem pay1_at (x : FVec Ideal S1024x2048 .f32) (g : FVec Ideal S1x2048 .f32) (r : Fin 1024) (k : Fin 2048) :
    (k0_pay1 (F := Ideal) x g : FVec Ideal S1024x2048 .bf16) (ix2 r k) = nrm (fun k => x (ix2 r k)) (fun k => g (ix2 0 k)) k :=
  Cert.Kernel4Ideal.Proj.pay1_at x g r k

theorem pay2_at (a : FVec Ideal S1024x2048 .bf16) (w : FVec Ideal S2048x512 .bf16) (r : Fin 1024) (q : Fin 512) :
    (k0_pay2 (F := Ideal) a w : FVec Ideal S1024x512 .f32) (ix2 r q) = ∑ k : Fin 2048, a (ix2 r k) * w (ix2 k q) := by
  pointwise [k0_pay2]

/-! ### The arrays and their blocks -/

set_option maxRecDepth 100000 in
theorem idx0 : ∀ t : Fin cfg0.N, win0_0.index t = ![t.val / 2, 0] := by decide +kernel
set_option maxRecDepth 100000 in
theorem idx1 : ∀ t : Fin cfg0.N, win0_1.index t = ![0, 0] := by decide +kernel
set_option maxRecDepth 100000 in
theorem idx2 : ∀ t : Fin cfg0.N, win0_2.index t = ![0, t.val % 2] := by decide +kernel

/-- The rows, the weights of the norm, and the weight matrix of all the layer's projections. -/
abbrev X (i : Fin 9216) (k : Fin 2048) : EReal := (m ((c : Thread nD τ).loc main_arg0) : FVec Ideal S9216x2048 .f32) (ix2 i k)
abbrev Wg (k : Fin 2048) : EReal := (m ((c : Thread nD τ).loc main_arg1) : FVec Ideal S2048 .f32) (ix1 k)
abbrev W (f : Fin 7728) (k : Fin 2048) : EReal := (m ((c : Thread nD τ).loc main_arg2) : FVec Ideal S2048x7728 .f32) (ix2 k f)

/-- The column of that matrix that a column of the result is. -/
abbrev col (f : Fin 1024) : Fin 7728 := ⟨2608 + f.val, by omega⟩

theorem ltN (t : Fin cfg0.N) : t.val < 18 := lt_of_lt_of_eq t.isLt N_0

/-- The row of the array that a row of the point's block is. -/
abbrev row (t : Fin cfg0.N) (r : Fin 1024) : Fin 9216 := ⟨t.val / 2 * 1024 + r.val, by have := ltN t; omega⟩

theorem blk0 (t : Fin cfg0.N) (r : Fin 1024) (k : Fin 2048) :
    (iblk m c 0 t : FVec Ideal S1024x2048 .f32) (ix2 r k) = X m c (row t r) k := by
  blk_ext [iblk, V_main_arg0, idx0 t]

theorem host1 (k : Fin 2048) : (V m c main_v2 : FVec Ideal S1x2048 .f32) (ix2 0 k) = Wg m c k := by
  entry_read
  pointwise

theorem host2 (k : Fin 2048) (f : Fin 1024) : (V m c main_v1 : FVec Ideal S2048x1024 .bf16) (ix2 k f) = W m c (col f) k := by
  entry_read
  pointwise

theorem blk1 (t : Fin cfg0.N) (k : Fin 2048) : (iblk m c 1 t : FVec Ideal S1x2048 .f32) (ix2 0 k) = Wg m c k := by
  rw [← host1]
  blk_ext [iblk, idx1 t]

theorem blk2 (t : Fin cfg0.N) (k : Fin 2048) (q : Fin 512) : (iblk m c 2 t : FVec Ideal S2048x512 .bf16) (ix2 k q)
    = W m c (col ⟨t.val % 2 * 512 + q.val, by omega⟩) k := by
  rw [← host2]
  blk_ext [iblk, idx2 t]

/-! ### The carried buffer, by induction on the point -/

/-- The rows that the first point of a row block norms. -/
theorem normed (t : Fin cfg0.N) (r : Fin 1024) (k : Fin 2048) :
    (k0_pay1 (F := Ideal) (iblk m c 0 t) (iblk m c 1 t) : FVec Ideal S1024x2048 .bf16) (ix2 r k) = nrm (X m c (row t r)) (Wg m c) k := by
  rw [pay1_at]
  simp only [blk0, blk1]

/-- After every point: the normed rows of its row block. -/
theorem carried : ∀ (n : ℕ) (h : n < cfg0.N) (r : Fin 1024) (k : Fin 2048),
    ((outsAt0 m c n h).2 : FVec Ideal S1024x2048 .bf16) (ix2 r k) = nrm (X m c (row ⟨n, h⟩ r)) (Wg m c) k := by
  intro n
  induction n with
  | zero =>
    intro h r k
    have e := first m c ⟨0, h⟩ (by simp)
    dsimp only at e
    rw [e]
    exact normed m c ⟨0, h⟩ r k
  | succ n ih =>
    intro h r k
    by_cases h0 : (n + 1) % 2 = 0
    · have e := first m c ⟨n + 1, h⟩ h0
      dsimp only at e
      rw [e]
      exact normed m c ⟨n + 1, h⟩ r k
    · have e := later m c ⟨n + 1, h⟩ h0 _ rfl
      dsimp only at e
      rw [e]
      refine (ih (Nat.lt_of_succ_lt h) r k).trans ?_
      rw [show row ⟨n, Nat.lt_of_succ_lt h⟩ r = row ⟨n + 1, h⟩ r from Fin.ext (by dsimp only; omega)]

/-- What every point writes. -/
theorem written (t : Fin cfg0.N) (r : Fin 1024) (q : Fin 512) :
    ((outsAt0 m c t.val t.isLt).1 : FVec Ideal S1024x512 .f32) (ix2 r q)
      = proj (X m c (row t r)) (Wg m c) (W m c (col ⟨t.val % 2 * 512 + q.val, by omega⟩)) := by
  have hc := carried m c t.val t.isLt r
  have e : (outsAt0 m c t.val t.isLt).1 = k0_pay2 (outsAt0 m c t.val t.isLt).2 (iblk m c 2 t) := by
    by_cases h0 : t.val % 2 = 0
    · rw [first m c t h0]
    · rw [later m c t h0 _ rfl]
  rw [e, pay2_at]
  unfold proj
  simp only [hc, blk2]

/-- The result array, entry by entry. -/
theorem arr_at (i : Fin 9216) (j : Fin 1024) : (G3 m c : FVec Ideal S9216x1024 .f32) (ix2 i j)
    = proj (X m c i) (Wg m c) (W m c (col j)) := by
  have hi := i.isLt
  have hj := j.isLt
  have hv : pt3Of (ix2 i j : S9216x1024.Idx) = 2 * (i.val / 1024) + j.val / 512 := by
    show 2 * (i.val / 1024 - 0) + 1 * (j.val / 512 - 0) = _
    omega
  have hp : pt3Of (ix2 i j) < cfg0.N := by
    rw [show cfg0.N = 18 from N_0, hv]
    omega
  have hl : loc3Of (ix2 i j : S9216x1024.Idx) = (ix2 ⟨i.val % 1024, by omega⟩ ⟨j.val % 512, by omega⟩ : S1024x512.Idx) := by
    funext a
    match a with
    | ⟨0, _⟩ => rfl
    | ⟨1, _⟩ => rfl
  have hr : row ⟨pt3Of (ix2 i j), hp⟩ ⟨i.val % 1024, by omega⟩ = i := Fin.ext (by
    show pt3Of (ix2 i j : S9216x1024.Idx) / 2 * 1024 + i.val % 1024 = i.val
    rw [hv]
    omega)
  have hq : (⟨pt3Of (ix2 i j : S9216x1024.Idx) % 2 * 512 + j.val % 512, by omega⟩ : Fin 1024) = j := Fin.ext (by
    show pt3Of (ix2 i j : S9216x1024.Idx) % 2 * 512 + j.val % 512 = j.val
    rw [hv]
    omega)
  unfold G3
  rw [dif_pos hp, ← outsAt0_sweep m c _ hp, hl, written m c ⟨_, hp⟩, hr, hq]

end Cert.Kernel5Ideal.Proj

end
-- ==== Proof.P5Ref.lean ====
/-
  The input projection's reference for the pooled channels, read entry by entry.
-/
module

public import proofs.«01_k».proof.Proof.PSpec
public import proofs.«01_k».proof.Proof.M3Ref
public import proofs.«01_k».proof.Proof.Gen.Reference5Ideal.Read

@[expose] public section

noncomputable section

namespace Cert.Reference5Ideal.Proj

open Idealize.ShloMosaic Cert.Reference5Ideal.Gen Cert.Reference5Ideal.Read Cert.Mlp

variable (x : FVec Ideal ⟨2, ![9216, 2048]⟩ .f32) (g : FVec Ideal ⟨1, ![2048]⟩ .f32) (w : FVec Ideal ⟨2, ![2048, 7728]⟩ .f32)

/-- The normed rows. -/
theorem v12_at (i : Fin 9216) (k : Fin 2048) :
    val_main_v12 (F := Ideal) x g (ix2 i k) = nrm (fun k => x (ix2 i k)) (fun k => g (ix1 k)) k :=
  Cert.Reference3Ideal.Mlp.v12_at x g i k

/-- The columns of the projection. -/
theorem v14_at (i : Fin 9216) (j : Fin 1024) : val_main_v14 (F := Ideal) x g w (ix2 i j)
    = proj (fun k => x (ix2 i k)) (fun k => g (ix1 k)) (fun k => w (ix2 k (⟨2608 + j.val, by omega⟩ : Fin 7728))) := by
  unfold proj
  simp only [← v12_at]
  pointwise [val_main_v14, val_main_v13]

end Cert.Reference5Ideal.Proj

end
-- ==== Proof.P6Step.lean ====
/-
  The input projection's launch for the branches' gates: what one point leaves in the carried buffer and the output block, and
  what the result array holds.
-/
module

public import proofs.«01_k».proof.Proof.P4Step
public import proofs.«01_k».proof.Proof.Gen.Kernel6Ideal.Value
public import Idealize.ShloMosaic.Lib.Pipeline.ValueKit
public import Idealize.ShloMosaic.Lib.Pointwise.Sums

@[expose] public section

set_option maxRecDepth 16384

noncomputable section

namespace Cert.Kernel6Ideal.Proj

open Idealize.ShloMosaic Idealize.ShloMosaic.TcCoe Idealize.ShloMosaic.Tactic Idealize.SL.Sem
open Cert.Kernel6Ideal Cert.Kernel6Ideal.Gen Cert.Kernel6Ideal.Value Cert.Mlp

variable (m : (ℓ : Loc nD τ sig) → Buf (Elt Ideal) ℓ) (c : Dev nD)

/-- The first point of a row block norms the rows and writes its tile. -/
theorem first (t : Fin cfg0.N) (h0 : t.val % 8 = 0) : outsAt0 m c t.val t.isLt
    = (k0_pay2 (k0_pay1 (iblk m c 0 t) (iblk m c 1 t)) (iblk m c 2 t), k0_pay1 (iblk m c 0 t) (iblk m c 1 t)) := by
  rw [outsAt0_A m c t h0]
  frame_out

/-- A later point writes its tile from the rows kept. -/
theorem later (t : Fin cfg0.N) (h0 : ¬t.val % 8 = 0) (a : Vec Ideal S1024x2048 .bf16)
    (hp : (outsAt0 m c (t.val - 1) (Nat.lt_of_le_of_lt (Nat.sub_le _ _) t.isLt)).2 = a) :
    outsAt0 m c t.val t.isLt = (k0_pay2 a (iblk m c 2 t), a) := by
  rw [outsAt0_B m c t h0, hp]
  frame_out
  refine Prod.ext ?_ rfl
  show k0_pay2 _ _ = k0_pay2 _ _
  rw [show View.read (Elt Ideal) (View.whole cc0_scratch0) _ = a from (Memref.isWhole_whole cc0_scratch0).read_unread a]

/-! ### The values read entry by entry -/

theorem pay1_at (x : FVec Ideal S1024x2048 .f32) (g : FVec Ideal S1x2048 .f32) (r : Fin 1024) (k : Fin 2048) :
    (k0_pay1 (F := Ideal) x g : FVec Ideal S1024x2048 .bf16) (ix2 r k) = nrm (fun k => x (ix2 r k)) (fun k => g (ix2 0 k)) k :=
  Cert.Kernel4Ideal.Proj.pay1_at x g r k

theorem pay2_at (a : FVec Ideal S1024x2048 .bf16) (w : FVec Ideal S2048x512 .bf16) (r : Fin 1024) (q : Fin 512) :
    (k0_pay2 (F := Ideal) a w : FVec Ideal S1024x512 .bf16) (ix2 r q) = Ideal.logistic (∑ k : Fin 2048, a (ix2 r k) * w (ix2 k q)) := by
  pointwise [k0_pay2]

/-! ### The arrays and their blocks -/

set_option maxRecDepth 100000 in
theorem idx0 : ∀ t : Fin cfg0.N, win0_0.index t = ![t.val / 8, 0] := by decide +kernel
set_option maxRecDepth 100000 in
theorem idx1 : ∀ t : Fin cfg0.N, win0_1.index t = ![0, 0] := by decide +kernel
set_option maxRecDepth 100000 in
theorem idx2 : ∀ t : Fin cfg0.N, win0_2.index t = ![0, t.val % 8] := by decide +kernel

/-- The rows, the weights of the norm, and the weight matrix of all the layer's projections. -/
abbrev X (i : Fin 9216) (k : Fin 2048) : EReal := (m ((c : Thread nD τ).loc main_arg0) : FVec Ideal S9216x2048 .f32) (ix2 i k)
abbrev Wg (k : Fin 2048) : EReal := (m ((c : Thread nD τ).loc main_arg1) : FVec Ideal S2048 .f32) (ix1 k)
abbrev W (f : Fin 7728) (k : Fin 2048) : EReal := (m ((c : Thread nD τ).loc main_arg2) : FVec Ideal S2048x7728 .f32) (ix2 k f)

/-- The column of that matrix that a column of the result is. -/
abbrev col (f : Fin 4096) : Fin 7728 := ⟨3632 + f.val, by omega⟩

theorem ltN (t : Fin cfg0.N) : t.val < 72 := lt_of_lt_of_eq t.isLt N_0

/-- The row of the array that a row of the point's block is. -/
abbrev row (t : Fin cfg0.N) (r : Fin 1024) : Fin 9216 := ⟨t.val / 8 * 1024 + r.val, by have := ltN t; omega⟩

theorem blk0 (t : Fin cfg0.N) (r : Fin 1024) (k : Fin 2048) :
    (iblk m c 0 t : FVec Ideal S1024x2048 .f32) (ix2 r k) = X m c (row t r) k := by
  blk_ext [iblk, V_main_arg0, idx0 t]

theorem host1 (k : Fin 2048) : (V m c main_v2 : FVec Ideal S1x2048 .f32) (ix2 0 k) = Wg m c k := by
  entry_read
  pointwise

theorem host2 (k : Fin 2048) (f : Fin 4096) : (V m c main_v1 : FVec Ideal S2048x4096 .bf16) (ix2 k f) = W m c (col f) k := by
  entry_read
  pointwise

theorem blk1 (t : Fin cfg0.N) (k : Fin 2048) : (iblk m c 1 t : FVec Ideal S1x2048 .f32) (ix2 0 k) = Wg m c k := by
  rw [← host1]
  blk_ext [iblk, idx1 t]

theorem blk2 (t : Fin cfg0.N) (k : Fin 2048) (q : Fin 512) : (iblk m c 2 t : FVec Ideal S2048x512 .bf16) (ix2 k q)
    = W m c (col ⟨t.val % 8 * 512 + q.val, by omega⟩) k := by
  rw [← host2]
  blk_ext [iblk, idx2 t]

/-! ### The carried buffer, by induction on the point -/

/-- The rows that the first point of a row block norms. -/
theorem normed (t : Fin cfg0.N) (r : Fin 1024) (k : Fin 2048) :
    (k0_pay1 (F := Ideal) (iblk m c 0 t) (iblk m c 1 t) : FVec Ideal S1024x2048 .bf16) (ix2 r k) = nrm (X m c (row t r)) (Wg m c) k := by
  rw [pay1_at]
  simp only [blk0, blk1]

/-- After every point: the normed rows of its row block. -/
theorem carried : ∀ (n : ℕ) (h : n < cfg0.N) (r : Fin 1024) (k : Fin 2048),
    ((outsAt0 m c n h).2 : FVec Ideal S1024x2048 .bf16) (ix2 r k) = nrm (X m c (row ⟨n, h⟩ r)) (Wg m c) k := by
  intro n
  induction n with
  | zero =>
    intro h r k
    have e := first m c ⟨0, h⟩ (by simp)
    dsimp only at e
    rw [e]
    exact normed m c ⟨0, h⟩ r k
  | succ n ih =>
    intro h r k
    by_cases h0 : (n + 1) % 8 = 0
    · have e := first m c ⟨n + 1, h⟩ h0
      dsimp only at e
      rw [e]
      exact normed m c ⟨n + 1, h⟩ r k
    · have e := later m c ⟨n + 1, h⟩ h0 _ rfl
      dsimp only at e
      rw [e]
      refine (ih (Nat.lt_of_succ_lt h) r k).trans ?_
      rw [show row ⟨n, Nat.lt_of_succ_lt h⟩ r = row ⟨n + 1, h⟩ r from Fin.ext (by dsimp only; omega)]

/-- What every point writes. -/
theorem written (t : Fin cfg0.N) (r : Fin 1024) (q : Fin 512) :
    ((outsAt0 m c t.val t.isLt).1 : FVec Ideal S1024x512 .bf16) (ix2 r q)
      = Ideal.logistic (proj (X m c (row t r)) (Wg m c) (W m c (col ⟨t.val % 8 * 512 + q.val, by omega⟩))) := by
  have hc := carried m c t.val t.isLt r
  have e : (outsAt0 m c t.val t.isLt).1 = k0_pay2 (outsAt0 m c t.val t.isLt).2 (iblk m c 2 t) := by
    by_cases h0 : t.val % 8 = 0
    · rw [first m c t h0]
    · rw [later m c t h0 _ rfl]
  rw [e, pay2_at]
  unfold proj
  simp only [hc, blk2]

/-- The result array, entry by entry. -/
theorem arr_at (i : Fin 9216) (j : Fin 4096) : (G3 m c : FVec Ideal S9216x4096 .bf16) (ix2 i j)
    = Ideal.logistic (proj (X m c i) (Wg m c) (W m c (col j))) := by
  have hi := i.isLt
  have hj := j.isLt
  have hv : pt3Of (ix2 i j : S9216x4096.Idx) = 8 * (i.val / 1024) + j.val / 512 := by
    show 8 * (i.val / 1024 - 0) + 1 * (j.val / 512 - 0) = _
    omega
  have hp : pt3Of (ix2 i j) < cfg0.N := by
    rw [show cfg0.N = 72 from N_0, hv]
    omega
  have hl : loc3Of (ix2 i j : S9216x4096.Idx) = (ix2 ⟨i.val % 1024, by omega⟩ ⟨j.val % 512, by omega⟩ : S1024x512.Idx) := by
    funext a
    match a with
    | ⟨0, _⟩ => rfl
    | ⟨1, _⟩ => rfl
  have hr : row ⟨pt3Of (ix2 i j), hp⟩ ⟨i.val % 1024, by omega⟩ = i := Fin.ext (by
    show pt3Of (ix2 i j : S9216x4096.Idx) / 8 * 1024 + i.val % 1024 = i.val
    rw [hv]
    omega)
  have hq : (⟨pt3Of (ix2 i j : S9216x4096.Idx) % 8 * 512 + j.val % 512, by omega⟩ : Fin 4096) = j := Fin.ext (by
    show pt3Of (ix2 i j : S9216x4096.Idx) % 8 * 512 + j.val % 512 = j.val
    rw [hv]
    omega)
  unfold G3
  rw [dif_pos hp, ← outsAt0_sweep m c _ hp, hl, written m c ⟨_, hp⟩, hr, hq]

end Cert.Kernel6Ideal.Proj

end
-- ==== Proof.P6Ref.lean ====
/-
  The input projection's reference for the branches' gates, read entry by entry.
-/
module

public import proofs.«01_k».proof.Proof.PSpec
public import proofs.«01_k».proof.Proof.M3Ref
public import proofs.«01_k».proof.Proof.Gen.Reference6Ideal.Read

@[expose] public section

noncomputable section

namespace Cert.Reference6Ideal.Proj

open Idealize.ShloMosaic Cert.Reference6Ideal.Gen Cert.Reference6Ideal.Read Cert.Mlp

variable (x : FVec Ideal ⟨2, ![9216, 2048]⟩ .f32) (g : FVec Ideal ⟨1, ![2048]⟩ .f32) (w : FVec Ideal ⟨2, ![2048, 7728]⟩ .f32)

/-- The normed rows. -/
theorem v12_at (i : Fin 9216) (k : Fin 2048) :
    val_main_v12 (F := Ideal) x g (ix2 i k) = nrm (fun k => x (ix2 i k)) (fun k => g (ix1 k)) k :=
  Cert.Reference3Ideal.Mlp.v12_at x g i k

/-- The columns of the projection. -/
theorem v14_at (i : Fin 9216) (j : Fin 4096) : val_main_v14 (F := Ideal) x g w (ix2 i j)
    = proj (fun k => x (ix2 i k)) (fun k => g (ix1 k)) (fun k => w (ix2 k (⟨3632 + j.val, by omega⟩ : Fin 7728))) := by
  unfold proj
  simp only [← v12_at]
  pointwise [val_main_v14, val_main_v13]

/-- The gates. -/
theorem v21_at (i : Fin 9216) (j : Fin 4096) : val_main_v21 (F := Ideal) x g w (ix2 i j)
    = Ideal.logistic (proj (fun k => x (ix2 i k)) (fun k => g (ix1 k)) (fun k => w (ix2 k (⟨3632 + j.val, by omega⟩ : Fin 7728)))) := by
  rw [← v14_at]
  unfold Ideal.logistic
  pointwise [val_main_v21, val_main_v20, val_main_v19, val_main_v18, val_main_v17, val_main_v16, val_main_v15, val_main_cst_2, val_main_cst_3]

end Cert.Reference6Ideal.Proj

end
-- ==== Proof.P7Step.lean ====
/-
  The input projection's launch for the queries: what one point leaves in the carried buffer and the output block, and
  what the result array holds.
-/
module

public import proofs.«01_k».proof.Proof.P4Step
public import proofs.«01_k».proof.Proof.Gen.Kernel7Ideal.Value
public import Idealize.ShloMosaic.Lib.Pipeline.ValueKit
public import Idealize.ShloMosaic.Lib.Pointwise.Sums

@[expose] public section

set_option maxRecDepth 16384

noncomputable section

namespace Cert.Kernel7Ideal.Proj

open Idealize.ShloMosaic Idealize.ShloMosaic.TcCoe Idealize.ShloMosaic.Tactic Idealize.SL.Sem
open Cert.Kernel7Ideal Cert.Kernel7Ideal.Gen Cert.Kernel7Ideal.Value Cert.Mlp

variable (m : (ℓ : Loc nD τ sig) → Buf (Elt Ideal) ℓ) (c : Dev nD)

/-- The first point of a row block norms the rows and writes its tile. -/
theorem first (t : Fin cfg0.N) (h0 : t.val % 2 = 0) : outsAt0 m c t.val t.isLt
    = (k0_pay2 (k0_pay1 (iblk m c 0 t) (iblk m c 1 t)) (iblk m c 2 t), k0_pay1 (iblk m c 0 t) (iblk m c 1 t)) := by
  rw [outsAt0_A m c t h0]
  frame_out

/-- A later point writes its tile from the rows kept. -/
theorem later (t : Fin cfg0.N) (h0 : ¬t.val % 2 = 0) (a : Vec Ideal S1024x2048 .bf16)
    (hp : (outsAt0 m c (t.val - 1) (Nat.lt_of_le_of_lt (Nat.sub_le _ _) t.isLt)).2 = a) :
    outsAt0 m c t.val t.isLt = (k0_pay2 a (iblk m c 2 t), a) := by
  rw [outsAt0_B m c t h0, hp]
  frame_out
  refine Prod.ext ?_ rfl
  show k0_pay2 _ _ = k0_pay2 _ _
  rw [show View.read (Elt Ideal) (View.whole cc0_scratch0) _ = a from (Memref.isWhole_whole cc0_scratch0).read_unread a]

/-! ### The values read entry by entry -/

theorem pay1_at (x : FVec Ideal S1024x2048 .f32) (g : FVec Ideal S1x2048 .f32) (r : Fin 1024) (k : Fin 2048) :
    (k0_pay1 (F := Ideal) x g : FVec Ideal S1024x2048 .bf16) (ix2 r k) = nrm (fun k => x (ix2 r k)) (fun k => g (ix2 0 k)) k :=
  Cert.Kernel4Ideal.Proj.pay1_at x g r k

theorem pay2_at (a : FVec Ideal S1024x2048 .bf16) (w : FVec Ideal S2048x512 .bf16) (r : Fin 1024) (q : Fin 512) :
    (k0_pay2 (F := Ideal) a w : FVec Ideal S1024x512 .bf16) (ix2 r q) = ∑ k : Fin 2048, a (ix2 r k) * w (ix2 k q) := by
  pointwise [k0_pay2]

/-! ### The arrays and their blocks -/

set_option maxRecDepth 100000 in
theorem idx0 : ∀ t : Fin cfg0.N, win0_0.index t = ![t.val / 2, 0] := by decide +kernel
set_option maxRecDepth 100000 in
theorem idx1 : ∀ t : Fin cfg0.N, win0_1.index t = ![0, 0] := by decide +kernel
set_option maxRecDepth 100000 in
theorem idx2 : ∀ t : Fin cfg0.N, win0_2.index t = ![0, t.val % 2] := by decide +kernel

/-- The rows, the weights of the norm, and the weight matrix of all the layer's projections. -/
abbrev X (i : Fin 9216) (k : Fin 2048) : EReal := (m ((c : Thread nD τ).loc main_arg0) : FVec Ideal S9216x2048 .f32) (ix2 i k)
abbrev Wg (k : Fin 2048) : EReal := (m ((c : Thread nD τ).loc main_arg1) : FVec Ideal S2048 .f32) (ix1 k)
abbrev W (f : Fin 7728) (k : Fin 2048) : EReal := (m ((c : Thread nD τ).loc main_arg2) : FVec Ideal S2048x7728 .f32) (ix2 k f)

/-- The column of that matrix that a column of the result is. -/
abbrev col (f : Fin 1024) : Fin 7728 := ⟨0 + f.val, by omega⟩

theorem ltN (t : Fin cfg0.N) : t.val < 18 := lt_of_lt_of_eq t.isLt N_0

/-- The row of the array that a row of the point's block is. -/
abbrev row (t : Fin cfg0.N) (r : Fin 1024) : Fin 9216 := ⟨t.val / 2 * 1024 + r.val, by have := ltN t; omega⟩

theorem blk0 (t : Fin cfg0.N) (r : Fin 1024) (k : Fin 2048) :
    (iblk m c 0 t : FVec Ideal S1024x2048 .f32) (ix2 r k) = X m c (row t r) k := by
  blk_ext [iblk, V_main_arg0, idx0 t]

theorem host1 (k : Fin 2048) : (V m c main_v4 : FVec Ideal S1x2048 .f32) (ix2 0 k) = Wg m c k := by
  entry_read
  pointwise

theorem host2 (k : Fin 2048) (f : Fin 1024) : (V m c main_v3 : FVec Ideal S2048x1024 .bf16) (ix2 k f) = W m c (col f) k * Ideal.ofBits .f32 0x3E000000#32 := by
  entry_read
  pointwise
  exact congrArg (fun q => W m c q k * Ideal.ofBits .f32 0x3E000000#32) (Fin.ext (Nat.zero_add _).symm)

theorem blk1 (t : Fin cfg0.N) (k : Fin 2048) : (iblk m c 1 t : FVec Ideal S1x2048 .f32) (ix2 0 k) = Wg m c k := by
  rw [← host1]
  blk_ext [iblk, idx1 t]

theorem blk2 (t : Fin cfg0.N) (k : Fin 2048) (q : Fin 512) : (iblk m c 2 t : FVec Ideal S2048x512 .bf16) (ix2 k q)
    = W m c (col ⟨t.val % 2 * 512 + q.val, by omega⟩) k * Ideal.ofBits .f32 0x3E000000#32 := by
  rw [← host2]
  blk_ext [iblk, idx2 t]

/-! ### The carried buffer, by induction on the point -/

/-- The rows that the first point of a row block norms. -/
theorem normed (t : Fin cfg0.N) (r : Fin 1024) (k : Fin 2048) :
    (k0_pay1 (F := Ideal) (iblk m c 0 t) (iblk m c 1 t) : FVec Ideal S1024x2048 .bf16) (ix2 r k) = nrm (X m c (row t r)) (Wg m c) k := by
  rw [pay1_at]
  simp only [blk0, blk1]

/-- After every point: the normed rows of its row block. -/
theorem carried : ∀ (n : ℕ) (h : n < cfg0.N) (r : Fin 1024) (k : Fin 2048),
    ((outsAt0 m c n h).2 : FVec Ideal S1024x2048 .bf16) (ix2 r k) = nrm (X m c (row ⟨n, h⟩ r)) (Wg m c) k := by
  intro n
  induction n with
  | zero =>
    intro h r k
    have e := first m c ⟨0, h⟩ (by simp)
    dsimp only at e
    rw [e]
    exact normed m c ⟨0, h⟩ r k
  | succ n ih =>
    intro h r k
    by_cases h0 : (n + 1) % 2 = 0
    · have e := first m c ⟨n + 1, h⟩ h0
      dsimp only at e
      rw [e]
      exact normed m c ⟨n + 1, h⟩ r k
    · have e := later m c ⟨n + 1, h⟩ h0 _ rfl
      dsimp only at e
      rw [e]
      refine (ih (Nat.lt_of_succ_lt h) r k).trans ?_
      rw [show row ⟨n, Nat.lt_of_succ_lt h⟩ r = row ⟨n + 1, h⟩ r from Fin.ext (by dsimp only; omega)]

/-- What every point writes. -/
theorem written (t : Fin cfg0.N) (r : Fin 1024) (q : Fin 512) :
    ((outsAt0 m c t.val t.isLt).1 : FVec Ideal S1024x512 .bf16) (ix2 r q)
      = proj (X m c (row t r)) (Wg m c) (W m c (col ⟨t.val % 2 * 512 + q.val, by omega⟩)) * Ideal.ofBits .f32 0x3E000000#32 := by
  have hc := carried m c t.val t.isLt r
  have e : (outsAt0 m c t.val t.isLt).1 = k0_pay2 (outsAt0 m c t.val t.isLt).2 (iblk m c 2 t) := by
    by_cases h0 : t.val % 2 = 0
    · rw [first m c t h0]
    · rw [later m c t h0 _ rfl]
  rw [e, pay2_at]
  rw [← proj_scale]
  unfold proj
  simp only [hc, blk2]

/-- The result array, entry by entry. -/
theorem arr_at (i : Fin 9216) (j : Fin 1024) : (G3 m c : FVec Ideal S9216x1024 .bf16) (ix2 i j)
    = proj (X m c i) (Wg m c) (W m c (col j)) * Ideal.ofBits .f32 0x3E000000#32 := by
  have hi := i.isLt
  have hj := j.isLt
  have hv : pt3Of (ix2 i j : S9216x1024.Idx) = 2 * (i.val / 1024) + j.val / 512 := by
    show 2 * (i.val / 1024 - 0) + 1 * (j.val / 512 - 0) = _
    omega
  have hp : pt3Of (ix2 i j) < cfg0.N := by
    rw [show cfg0.N = 18 from N_0, hv]
    omega
  have hl : loc3Of (ix2 i j : S9216x1024.Idx) = (ix2 ⟨i.val % 1024, by omega⟩ ⟨j.val % 512, by omega⟩ : S1024x512.Idx) := by
    funext a
    match a with
    | ⟨0, _⟩ => rfl
    | ⟨1, _⟩ => rfl
  have hr : row ⟨pt3Of (ix2 i j), hp⟩ ⟨i.val % 1024, by omega⟩ = i := Fin.ext (by
    show pt3Of (ix2 i j : S9216x1024.Idx) / 2 * 1024 + i.val % 1024 = i.val
    rw [hv]
    omega)
  have hq : (⟨pt3Of (ix2 i j : S9216x1024.Idx) % 2 * 512 + j.val % 512, by omega⟩ : Fin 1024) = j := Fin.ext (by
    show pt3Of (ix2 i j : S9216x1024.Idx) % 2 * 512 + j.val % 512 = j.val
    rw [hv]
    omega)
  unfold G3
  rw [dif_pos hp, ← outsAt0_sweep m c _ hp, hl, written m c ⟨_, hp⟩, hr, hq]

end Cert.Kernel7Ideal.Proj

end
-- ==== Proof.P7Ref.lean ====
/-
  The input projection's reference for the queries, read entry by entry.
-/
module

public import proofs.«01_k».proof.Proof.PSpec
public import proofs.«01_k».proof.Proof.M3Ref
public import proofs.«01_k».proof.Proof.Gen.Reference7Ideal.Read

@[expose] public section

noncomputable section

namespace Cert.Reference7Ideal.Proj

open Idealize.ShloMosaic Cert.Reference7Ideal.Gen Cert.Reference7Ideal.Read Cert.Mlp

variable (x : FVec Ideal ⟨2, ![9216, 2048]⟩ .f32) (g : FVec Ideal ⟨1, ![2048]⟩ .f32) (w : FVec Ideal ⟨2, ![2048, 7728]⟩ .f32)

/-- The normed rows. -/
theorem v12_at (i : Fin 9216) (k : Fin 2048) :
    val_main_v12 (F := Ideal) x g (ix2 i k) = nrm (fun k => x (ix2 i k)) (fun k => g (ix1 k)) k :=
  Cert.Reference3Ideal.Mlp.v12_at x g i k

/-- The columns of the projection. -/
theorem v14_at (i : Fin 9216) (j : Fin 1024) : val_main_v14 (F := Ideal) x g w (ix2 i j)
    = proj (fun k => x (ix2 i k)) (fun k => g (ix1 k)) (fun k => w (ix2 k (⟨0 + j.val, by omega⟩ : Fin 7728))) := by
  unfold proj
  simp only [← v12_at]
  pointwise [val_main_v14, val_main_v13]

/-- The scaled queries. -/
theorem v17_at (i : Fin 9216) (j : Fin 1024) : val_main_v17 (F := Ideal) x g w (ix2 i j)
    = proj (fun k => x (ix2 i k)) (fun k => g (ix1 k)) (fun k => w (ix2 k (⟨0 + j.val, by omega⟩ : Fin 7728))) * Ideal.ofBits .f32 0x3E000000#32 := by
  rw [← v14_at]
  pointwise [val_main_v17, val_main_v16, val_main_v15, val_main_cst_2]

end Cert.Reference7Ideal.Proj

end
-- ==== Proof.B8Step.lean ====
/-
  The launch that merges the two branches under their gates: what its array holds, and what its reference's holds,
  entry by entry.
-/
module

public import proofs.«01_k».proof.Proof.Gen.Kernel8Ideal.Value
public import proofs.«01_k».proof.Proof.Gen.Reference8Ideal.Read
public import Idealize.ShloMosaic.Lib.Pipeline.ValueKit
public import Idealize.ShloMosaic.Lib.Pointwise.Sums

@[expose] public section

set_option maxRecDepth 16384

noncomputable section

namespace Cert.Kernel8Ideal.Branch

open Idealize.ShloMosaic Idealize.ShloMosaic.TcCoe Idealize.ShloMosaic.Tactic Idealize.SL.Sem
open Cert.Kernel8Ideal Cert.Kernel8Ideal.Gen Cert.Kernel8Ideal.Value

variable (m : (ℓ : Loc nD τ sig) → Buf (Elt Ideal) ℓ) (c : Dev nD)

/-- One entry: a row of each branch times a column of its weights, under the branch's gate. -/
abbrev outM (a b : FVec Ideal ⟨2, ![9216, 1024]⟩ .bf16) (wa wb : FVec Ideal ⟨2, ![1024, 2048]⟩ .f32) (g : FVec Ideal ⟨2, ![9216, 4096]⟩ .bf16) :
    FVec Ideal ⟨2, ![9216, 2048]⟩ .bf16 :=
  fun i => g (ix2 (i 0) (⟨(i 1).val, Nat.lt_of_lt_of_le (i 1).isLt (by decide)⟩ : Fin 4096)) * ∑ k : Fin 1024, a (ix2 (i 0) k) * wa (ix2 k (i 1))
    + g (ix2 (i 0) (⟨2048 + (i 1).val, Nat.add_lt_add_left (i 1).isLt 2048⟩ : Fin 4096)) * ∑ k : Fin 1024, b (ix2 (i 0) k) * wb (ix2 k (i 1))

/-- What a point writes. -/
theorem out_eq (a b : FVec Ideal S1024x1024 .bf16) (wa wb ga gb : FVec Ideal S1024x512 .bf16) :
    out0_6 (F := Ideal) a b wa wb ga gb = k0_pay1 (F := Ideal) a wa b wb ga gb := by
  frame_out

theorem pay1_at (a b : FVec Ideal S1024x1024 .bf16) (wa wb ga gb : FVec Ideal S1024x512 .bf16) (r : Fin 1024) (q : Fin 512) :
    (k0_pay1 (F := Ideal) a wa b wb ga gb : FVec Ideal S1024x512 .bf16) (ix2 r q)
      = ga (ix2 r q) * ∑ k : Fin 1024, a (ix2 r k) * wa (ix2 k q) + gb (ix2 r q) * ∑ k : Fin 1024, b (ix2 r k) * wb (ix2 k q) := by
  pointwise [k0_pay1]

set_option maxRecDepth 100000 in
theorem idx0 : ∀ t : Fin cfg0.N, win0_0.index t = ![t.val / 4, 0] := by decide +kernel
set_option maxRecDepth 100000 in
theorem idx1 : ∀ t : Fin cfg0.N, win0_1.index t = ![t.val / 4, 0] := by decide +kernel
set_option maxRecDepth 100000 in
theorem idx2 : ∀ t : Fin cfg0.N, win0_2.index t = ![0, t.val % 4] := by decide +kernel
set_option maxRecDepth 100000 in
theorem idx3 : ∀ t : Fin cfg0.N, win0_3.index t = ![0, t.val % 4] := by decide +kernel
set_option maxRecDepth 100000 in
theorem idx4 : ∀ t : Fin cfg0.N, win0_4.index t = ![t.val / 4, t.val % 4] := by decide +kernel
set_option maxRecDepth 100000 in
theorem idx5 : ∀ t : Fin cfg0.N, win0_5.index t = ![t.val / 4, t.val % 4 + 4] := by decide +kernel
set_option maxRecDepth 100000 in
theorem idx6 : ∀ t : Fin cfg0.N, win0_6.index t = ![t.val / 4, t.val % 4] := by decide +kernel

theorem ltN (t : Fin cfg0.N) : t.val < 36 := lt_of_lt_of_eq t.isLt N_0

/-- The row and the column of the arrays that those of a point's blocks are. -/
abbrev row (t : Fin cfg0.N) (r : Fin 1024) : Fin 9216 := ⟨t.val / 4 * 1024 + r.val, by have := ltN t; omega⟩
abbrev col (t : Fin cfg0.N) (q : Fin 512) : Fin 2048 := ⟨t.val % 4 * 512 + q.val, by omega⟩

theorem blk0 (t : Fin cfg0.N) (r k : Fin 1024) : (iblk m c 0 t : FVec Ideal S1024x1024 .bf16) (ix2 r k)
    = (m ((c : Thread nD τ).loc main_arg0) : FVec Ideal S9216x1024 .bf16) (ix2 (row t r) k) := by
  blk_ext [iblk, V_main_arg0, idx0 t]

theorem blk1 (t : Fin cfg0.N) (r k : Fin 1024) : (iblk m c 1 t : FVec Ideal S1024x1024 .bf16) (ix2 r k)
    = (m ((c : Thread nD τ).loc main_arg1) : FVec Ideal S9216x1024 .bf16) (ix2 (row t r) k) := by
  blk_ext [iblk, V_main_arg1, idx1 t]

theorem host2 (k : Fin 1024) (f : Fin 2048) : (V m c main_v0 : FVec Ideal S1024x2048 .bf16) (ix2 k f)
    = (m ((c : Thread nD τ).loc main_arg2) : FVec Ideal S1024x2048 .f32) (ix2 k f) := by
  entry_read
  pointwise

theorem host3 (k : Fin 1024) (f : Fin 2048) : (V m c main_v1 : FVec Ideal S1024x2048 .bf16) (ix2 k f)
    = (m ((c : Thread nD τ).loc main_arg3) : FVec Ideal S1024x2048 .f32) (ix2 k f) := by
  entry_read
  pointwise

theorem blk2 (t : Fin cfg0.N) (k : Fin 1024) (q : Fin 512) : (iblk m c 2 t : FVec Ideal S1024x512 .bf16) (ix2 k q)
    = (m ((c : Thread nD τ).loc main_arg2) : FVec Ideal S1024x2048 .f32) (ix2 k (col t q)) := by
  rw [← host2 m c]
  blk_ext [iblk, idx2 t]

theorem blk3 (t : Fin cfg0.N) (k : Fin 1024) (q : Fin 512) : (iblk m c 3 t : FVec Ideal S1024x512 .bf16) (ix2 k q)
    = (m ((c : Thread nD τ).loc main_arg3) : FVec Ideal S1024x2048 .f32) (ix2 k (col t q)) := by
  rw [← host3 m c]
  blk_ext [iblk, idx3 t]

theorem blk4 (t : Fin cfg0.N) (r : Fin 1024) (q : Fin 512) : (iblk m c 4 t : FVec Ideal S1024x512 .bf16) (ix2 r q)
    = (m ((c : Thread nD τ).loc main_arg4) : FVec Ideal S9216x4096 .bf16) (ix2 (row t r) ⟨(col t q).val, Nat.lt_of_lt_of_le (col t q).isLt (by decide)⟩) := by
  blk_ext [iblk, V_main_arg4, idx4 t]

theorem blk5 (t : Fin cfg0.N) (r : Fin 1024) (q : Fin 512) : (iblk m c 5 t : FVec Ideal S1024x512 .bf16) (ix2 r q)
    = (m ((c : Thread nD τ).loc main_arg4) : FVec Ideal S9216x4096 .bf16) (ix2 (row t r) ⟨2048 + (col t q).val, Nat.add_lt_add_left (col t q).isLt 2048⟩) := by
  blk_ext [iblk, V_main_arg4, idx5 t]

/-- The result array. -/
theorem arr_eq : (dats m 0 c).arrAt 6 cfg0.N = outM (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6, out_eq]
  obtain ⟨r, q, rfl⟩ : ∃ (r : Fin 1024) (q : Fin 512), y = ix2 r q := ⟨y 0, y 1, eq_ix2 y⟩
  rw [pay1_at]
  simp only [blk0, blk1, blk2, blk3, blk4, blk5]
  have he : (win0_6.blk t).view.emb (ix2 r q : S1024x512.Idx) = (ix2 (row t r) (col t q) : S9216x2048.Idx) := by
    funext a
    apply Fin.ext
    fin_cases a
    all_goals
      blk_simp [idx6 t]
      rfl
  rw [he]
  rfl

end Cert.Kernel8Ideal.Branch

namespace Cert.Reference8Ideal.Branch

open Idealize.ShloMosaic Cert.Reference8Ideal.Gen Cert.Reference8Ideal.Read

/-- The reference's array. -/
theorem v13_eq (a b : FVec Ideal ⟨2, ![9216, 1024]⟩ .bf16) (wa wb : FVec Ideal ⟨2, ![1024, 2048]⟩ .f32) (g : FVec Ideal ⟨2, ![9216, 4096]⟩ .bf16) :
    val_main_v13 (F := Ideal) a b wa wb g = Cert.Kernel8Ideal.Branch.outM a b wa wb g := by
  funext i
  obtain ⟨r, j, rfl⟩ : ∃ r j, i = ix2 r j := ⟨i 0, i 1, eq_ix2 i⟩
  pointwise [val_main_v13, val_main_v12, val_main_v11, val_main_v10, val_main_v9, val_main_v8, val_main_v7, val_main_v6, val_main_v5, val_main_v4, val_main_v3, val_main_v2, val_main_v1, val_main_v0, Cert.Kernel8Ideal.Branch.outM]

end Cert.Reference8Ideal.Branch

end
-- ==== Proof.B9Step.lean ====
/-
  The launch that adds the merged branches' projection to the residual stream: what its array holds, and what its
  reference's holds, entry by entry.
-/
module

public import proofs.«01_k».proof.Proof.Gen.Kernel9Ideal.Value
public import proofs.«01_k».proof.Proof.Gen.Reference9Ideal.Read
public import Idealize.ShloMosaic.Lib.Pipeline.ValueKit
public import Idealize.ShloMosaic.Lib.Pointwise.Sums

@[expose] public section

set_option maxRecDepth 16384

noncomputable section

namespace Cert.Kernel9Ideal.Branch

open Idealize.ShloMosaic Idealize.ShloMosaic.TcCoe Idealize.ShloMosaic.Tactic Idealize.SL.Sem
open Cert.Kernel9Ideal Cert.Kernel9Ideal.Gen Cert.Kernel9Ideal.Value

variable (m : (ℓ : Loc nD τ sig) → Buf (Elt Ideal) ℓ) (c : Dev nD)

/-- One entry: the residual stream's, and a row of the merged branches times a column of weights. -/
abbrev outM (x : FVec Ideal ⟨2, ![9216, 2048]⟩ .f32) (a : FVec Ideal ⟨2, ![9216, 2048]⟩ .bf16) (w : FVec Ideal ⟨2, ![2048, 2048]⟩ .f32) :
    FVec Ideal ⟨2, ![9216, 2048]⟩ .f32 :=
  fun i => x i + ∑ k : Fin 2048, a (ix2 (i 0) k) * w (ix2 k (i 1))

/-- What a point writes. -/
theorem out_eq (x : FVec Ideal S1024x512 .f32) (a : FVec Ideal S1024x2048 .bf16) (w : FVec Ideal S2048x512 .bf16) :
    out0_3 (F := Ideal) x a w = k0_pay1 (F := Ideal) x a w := by
  frame_out

theorem pay1_at (x : FVec Ideal S1024x512 .f32) (a : FVec Ideal S1024x2048 .bf16) (w : FVec Ideal S2048x512 .bf16) (r : Fin 1024) (q : Fin 512) :
    (k0_pay1 (F := Ideal) x a w : FVec Ideal S1024x512 .f32) (ix2 r q) = x (ix2 r q) + ∑ k : Fin 2048, a (ix2 r k) * w (ix2 k q) := by
  pointwise [k0_pay1]

set_option maxRecDepth 100000 in
theorem idx0 : ∀ t : Fin cfg0.N, win0_0.index t = ![t.val / 4, t.val % 4] := by decide +kernel
set_option maxRecDepth 100000 in
theorem idx1 : ∀ t : Fin cfg0.N, win0_1.index t = ![t.val / 4, 0] := by decide +kernel
set_option maxRecDepth 100000 in
theorem idx2 : ∀ t : Fin cfg0.N, win0_2.index t = ![0, t.val % 4] := by decide +kernel
set_option maxRecDepth 100000 in
theorem idx3 : ∀ t : Fin cfg0.N, win0_3.index t = ![t.val / 4, t.val % 4] := by decide +kernel

theorem ltN (t : Fin cfg0.N) : t.val < 36 := lt_of_lt_of_eq t.isLt N_0

/-- The row and the column of the arrays that those of a point's blocks are. -/
abbrev row (t : Fin cfg0.N) (r : Fin 1024) : Fin 9216 := ⟨t.val / 4 * 1024 + r.val, by have := ltN t; omega⟩
abbrev col (t : Fin cfg0.N) (q : Fin 512) : Fin 2048 := ⟨t.val % 4 * 512 + q.val, by omega⟩

theorem blk0 (t : Fin cfg0.N) (r : Fin 1024) (q : Fin 512) : (iblk m c 0 t : FVec Ideal S1024x512 .f32) (ix2 r q)
    = (m ((c : Thread nD τ).loc main_arg0) : FVec Ideal S9216x2048 .f32) (ix2 (row t r) (col t q)) := by
  blk_ext [iblk, V_main_arg0, idx0 t]

theorem blk1 (t : Fin cfg0.N) (r : Fin 1024) (k : Fin 2048) : (iblk m c 1 t : FVec Ideal S1024x2048 .bf16) (ix2 r k)
    = (m ((c : Thread nD τ).loc main_arg1) : FVec Ideal S9216x2048 .bf16) (ix2 (row t r) k) := by
  blk_ext [iblk, V_main_arg1, idx1 t]

theorem host2 (k f : Fin 2048) : (V m c main_v0 : FVec Ideal S2048x2048 .bf16) (ix2 k f)
    = (m ((c : Thread nD τ).loc main_arg2) : FVec Ideal S2048x2048 .f32) (ix2 k f) := by
  entry_read
  pointwise

theorem blk2 (t : Fin cfg0.N) (k : Fin 2048) (q : Fin 512) : (iblk m c 2 t : FVec Ideal S2048x512 .bf16) (ix2 k q)
    = (m ((c : Thread nD τ).loc main_arg2) : FVec Ideal S2048x2048 .f32) (ix2 k (col t q)) := by
  rw [← host2 m c]
  blk_ext [iblk, idx2 t]

/-- The result array. -/
theorem arr_eq : (dats m 0 c).arrAt 3 cfg0.N = outM (m ((c : Thread nD τ).loc main_arg0)) (m ((c : Thread nD τ).loc main_arg1))
    (m ((c : Thread nD τ).loc main_arg2)) := by
  refine (dats m 0 c).arrAt_eq_of_covers 3 _ (by decide +kernel) fun t hf y => ?_
  blk_simp
  rw [after0_3, out_eq]
  obtain ⟨r, q, rfl⟩ : ∃ (r : Fin 1024) (q : Fin 512), y = ix2 r q := ⟨y 0, y 1, eq_ix2 y⟩
  rw [pay1_at]
  simp only [blk0, blk1, blk2]
  have he : (win0_3.blk t).view.emb (ix2 r q : S1024x512.Idx) = (ix2 (row t r) (col t q) : S9216x2048.Idx) := by
    funext a
    apply Fin.ext
    fin_cases a
    all_goals
      blk_simp [idx3 t]
      rfl
  rw [he]
  rfl

end Cert.Kernel9Ideal.Branch

namespace Cert.Reference9Ideal.Branch

open Idealize.ShloMosaic Cert.Reference9Ideal.Gen Cert.Reference9Ideal.Read

/-- The reference's array. -/
theorem v2_eq (x : FVec Ideal ⟨2, ![9216, 2048]⟩ .f32) (a : FVec Ideal ⟨2, ![9216, 2048]⟩ .bf16) (w : FVec Ideal ⟨2, ![2048, 2048]⟩ .f32) :
    val_main_v2 (F := Ideal) x a w = Cert.Kernel9Ideal.Branch.outM x a w := by
  funext i
  obtain ⟨r, j, rfl⟩ : ∃ r j, i = ix2 r j := ⟨i 0, i 1, eq_ix2 i⟩
  pointwise [val_main_v2, val_main_v1, val_main_v0, Cert.Kernel9Ideal.Branch.outM]

end Cert.Reference9Ideal.Branch

end
-- ==== Proof.CSpec.lean ====
/-
  The compression of a block of rows, written entry by entry: the rows with their positions' weights, one hidden layer
  with its activation, one output layer. Two heads at once, with weights that are zero across heads, come to the same.
-/
module

public import proofs.«01_k».proof.Proof.MSpec

@[expose] public section

noncomputable section

namespace Cert.Cmp

open Idealize.ShloMosaic

/-- The activation, with the printed constants. -/
def gelu (a : EReal) : EReal :=
  a * (Ideal.ofBits .f32 0x3F000000#32 * (Ideal.ofBits .f32 0x3F800000#32
    + Ideal.tanh (Ideal.ofBits .f32 0x3F4C422A#32 * (a + Ideal.ofBits .f32 0x3D372713#32 * (a * (a * a))))))

/-- One entry of a block's compressed row, of the block's rows laid end to end. -/
def cmpr (x : Fin 4096 → EReal) (w1 : Fin 4096 → Fin 128 → EReal) (w2 : Fin 128 → Fin 64 → EReal) (e : Fin 64) : EReal :=
  ∑ j, gelu (∑ q, x q * w1 q j) * w2 j e

/-- A sum of which one half is zero. -/
theorem half {n : ℕ} (g : Fin (n + n) → EReal) (h : ℕ) (hh : h < 2) :
    ∑ k : Fin (n + n), (if k.val / n = h then g k else 0)
      = ∑ j : Fin n, g ⟨h * n + j.val, by have := j.isLt; rcases (by omega : h = 0 ∨ h = 1) with rfl | rfl <;> omega⟩ := by
  rw [Fin.sum_univ_add]
  have h0 : ∀ j : Fin n, (Fin.castAdd n j).val / n = 0 := fun j => Nat.div_eq_of_lt j.isLt
  have h1 : ∀ j : Fin n, (Fin.natAdd n j).val / n = 1 := fun j => by
    have hn : 0 < n := Nat.lt_of_le_of_lt (Nat.zero_le _) j.isLt
    show (n + j.val) / n = 1
    rw [Nat.add_div_left _ hn, Nat.div_eq_of_lt j.isLt]
  simp only [h0, h1]
  rcases (by omega : h = 0 ∨ h = 1) with rfl | rfl
  · simp only [if_true, one_ne_zero, if_false, Finset.sum_const_zero, add_zero]
    exact Finset.sum_congr rfl fun j _ => congrArg g (Fin.ext (by show j.val = 0 * n + j.val; omega))
  · simp only [if_true, zero_ne_one, if_false, Finset.sum_const_zero, zero_add]
    exact Finset.sum_congr rfl fun j _ => congrArg g (Fin.ext (by show n + j.val = 1 * n + j.val; omega))

/-- Sixty-four rows of sixty-four, laid end to end. -/
theorem flat (g : Fin 64 → Fin 64 → EReal) :
    ∑ r, ∑ d, g r d = ∑ q : Fin 4096, g ⟨q.val / 64, by omega⟩ ⟨q.val % 64, by omega⟩ := by
  rw [← Fintype.sum_prod_type' g]
  exact (Equiv.sum_comp (finProdFinEquiv (m := 64) (n := 64)).symm fun p => g p.1 p.2).symm

/-- Two heads at once. -/
theorem blocks (x p : Fin 64 → Fin 128 → EReal) (pe : Fin 64 → Fin 64 → EReal) (w : Fin 64 → Fin 128 → Fin 256 → EReal)
    (v : Fin 256 → Fin 128 → EReal) (w1 : Fin 4096 → Fin 128 → EReal) (w2 : Fin 128 → Fin 64 → EReal)
    (hp : ∀ r k, p r k = pe r ⟨k.val % 64, by omega⟩)
    (hw : ∀ r k f, w r k f = if k.val / 64 = f.val / 128 then w1 ⟨r.val * 64 + k.val % 64, by omega⟩ ⟨f.val % 128, by omega⟩ else 0)
    (hv : ∀ f l, v f l = if f.val / 128 = l.val / 64 then w2 ⟨f.val % 128, by omega⟩ ⟨l.val % 64, by omega⟩ else 0)
    (l : Fin 128) :
    ∑ f, gelu (∑ r, ∑ k, (x r k + p r k) * w r k f) * v f l
      = cmpr (fun q => x ⟨q.val / 64, by omega⟩ ⟨l.val / 64 * 64 + q.val % 64, by omega⟩ + pe ⟨q.val / 64, by omega⟩ ⟨q.val % 64, by omega⟩)
          w1 w2 ⟨l.val % 64, by omega⟩ := by
  have ha : ∀ f : Fin 256, ∑ r, ∑ k, (x r k + p r k) * w r k f
      = ∑ q : Fin 4096, (x ⟨q.val / 64, by omega⟩ ⟨f.val / 128 * 64 + q.val % 64, by omega⟩ + pe ⟨q.val / 64, by omega⟩ ⟨q.val % 64, by omega⟩)
          * w1 q ⟨f.val % 128, by omega⟩ := by
    intro f
    have hr : ∀ r : Fin 64, ∑ k, (x r k + p r k) * w r k f
        = ∑ d : Fin 64, (x r ⟨f.val / 128 * 64 + d.val, by omega⟩ + pe r d) * w1 ⟨r.val * 64 + d.val, by omega⟩ ⟨f.val % 128, by omega⟩ := by
      intro r
      simp only [hw, mul_ite, mul_zero]
      refine (half (n := 64) (fun k => (x r k + p r k) * w1 ⟨r.val * 64 + k.val % 64, by omega⟩ ⟨f.val % 128, by omega⟩)
        (f.val / 128) (by omega)).trans (Finset.sum_congr rfl fun d _ => ?_)
      have e : (f.val / 128 * 64 + d.val) % 64 = d.val := by omega
      simp only [hp, e]
    simp only [hr]
    rw [flat (fun r d => (x r ⟨f.val / 128 * 64 + d.val, by omega⟩ + pe r d) * w1 ⟨r.val * 64 + d.val, by omega⟩ ⟨f.val % 128, by omega⟩)]
    refine Finset.sum_congr rfl fun q _ => ?_
    have e : q.val / 64 * 64 + q.val % 64 = q.val := by omega
    simp only [e]
  unfold cmpr
  simp only [ha, hv, mul_ite, mul_zero]
  refine (half (n := 128) (fun f => gelu (∑ q : Fin 4096, (x ⟨q.val / 64, by omega⟩ ⟨f.val / 128 * 64 + q.val % 64, by omega⟩
      + pe ⟨q.val / 64, by omega⟩ ⟨q.val % 64, by omega⟩) * w1 q ⟨f.val % 128, by omega⟩) * w2 ⟨f.val % 128, by omega⟩ ⟨l.val % 64, by omega⟩)
    (l.val / 64) (by omega)).trans (Finset.sum_congr rfl fun j _ => ?_)
  have e : (l.val / 64 * 128 + j.val) % 128 = j.val := by omega
  have e' : (l.val / 64 * 128 + j.val) / 128 = l.val / 64 := by omega
  simp only [e, e']

end Cert.Cmp

end
-- ==== Proof.C10Step.lean ====
/-
  The compression's launch over the pages of the cache: what a point leaves in the output block, and what the result
  array holds.
-/
module

public import proofs.«01_k».proof.Proof.CSpec
public import proofs.«01_k».proof.Proof.Gen.Kernel10Ideal.Value
public import Idealize.ShloMosaic.Lib.Pipeline.ValueKit
public import Idealize.ShloMosaic.Lib.WholeRead
public import Idealize.ShloMosaic.Lib.Pointwise.Sums

@[expose] public section

set_option maxRecDepth 16384

noncomputable section

namespace Cert.Kernel10Ideal.Cmp

open Idealize.ShloMosaic Idealize.ShloMosaic.TcCoe Idealize.ShloMosaic.Tactic Idealize.SL.Sem
open Cert.Kernel10Ideal Cert.Kernel10Ideal.Gen Cert.Kernel10Ideal.Value Cert.Cmp

variable (m : (ℓ : Loc nD τ sig) → Buf (Elt Ideal) ℓ) (c : Dev nD)

/-- One entry of the compressed rows: a block is half a page; the columns are the heads' keys, then their values. -/
def outAt (x : FVec Ideal ⟨5, ![2560, 128, 2, 4, 64]⟩ .f32) (p1 : FVec Ideal ⟨2, ![64, 64]⟩ .f32) (a1 : FVec Ideal ⟨2, ![4096, 128]⟩ .f32)
    (b1 : FVec Ideal ⟨2, ![128, 64]⟩ .f32) (p2 : FVec Ideal ⟨2, ![64, 64]⟩ .f32) (a2 : FVec Ideal ⟨2, ![4096, 128]⟩ .f32)
    (b2 : FVec Ideal ⟨2, ![128, 64]⟩ .f32) (i : Fin 5120) (l : Fin 512) : EReal :=
  cmpr (fun q => x (ix5 ⟨i.val / 2, by omega⟩ ⟨i.val % 2 * 64 + q.val / 64, by omega⟩ ⟨l.val / 256, by omega⟩ ⟨l.val / 64 % 4, by omega⟩ ⟨q.val % 64, by omega⟩)
      + if l.val / 256 = 0 then p1 (ix2 ⟨q.val / 64, by omega⟩ ⟨q.val % 64, by omega⟩) else p2 (ix2 ⟨q.val / 64, by omega⟩ ⟨q.val % 64, by omega⟩))
    (fun q j => if l.val / 256 = 0 then a1 (ix2 q j) else a2 (ix2 q j))
    (fun j e => if l.val / 256 = 0 then b1 (ix2 j e) else b2 (ix2 j e)) ⟨l.val % 64, by omega⟩

/-- One row of the blocks, added to what the rows before gave. -/
def step (x : Vec Ideal S128x128 .f32) (p : Vec Ideal S1x1x128 .f32) (w : Vec Ideal S1x1x128x256 .bf16) (a : FVec Ideal S128x256 .f32) :
    FVec Ideal S128x256 .f32 :=
  addf a (matmul dot_S128x128_S128x256_S128x256_1_0_0_1_n_n none
    (truncf .bf16 (addf (shapeCast S128x128 x shapeCasts_S128x128_S128x128)
      (broadcastTo S128x128 (shapeCast S1x128 p shapeCasts_S1x1x128_S1x128) broadcasts_S1x128_S128x128)) bitsLt_bf16_f32)
    (shapeCast S128x256 w shapeCasts_S1x1x128x256_S128x256 : FVec Ideal S128x256 .bf16) (constant S128x256 .f32 0x00000000#32))

theorem inb0 {n : ℕ} (h : n < 64) : ∀ a, S128x128.size a = 0 ∨ (![n, 0] : Fin 2 → ℕ) a + (![64, 1] : Fin 2 → ℕ) a * (S128x128.size a - 1) < S8192x128.size a := by
  intro a
  right
  fin_cases a
  · show n + 64 * 127 < 8192
    omega
  · show 0 + 1 * 127 < 128
    omega

theorem inb1 {n : ℕ} (h : n < 64) : ∀ a, (![0, n, 0] : Fin 3 → ℕ) a + S1x1x128.size a ≤ S1x64x128.size a := by
  intro a
  fin_cases a
  · show 0 + 1 ≤ 1
    omega
  · show n + 1 ≤ 64
    omega
  · show 0 + 128 ≤ 128
    omega

theorem inb2 {n : ℕ} (h : n < 64) : ∀ a, (![0, n, 0, 0] : Fin 4 → ℕ) a + S1x1x128x256.size a ≤ S1x64x128x256.size a := by
  intro a
  fin_cases a
  · show 0 + 1 ≤ 1
    omega
  · show n + 1 ≤ 64
    omega
  · show 0 + 128 ≤ 128
    omega
  · show 0 + 256 ≤ 256
    omega

/-- The first `n` rows of the blocks. -/
def accum (r : Memref sig .tc .vmem S8192x128 .f32) (hr : r.IsWhole) (x : Vec Ideal S8192x128 .f32) (p : Vec Ideal S1x64x128 .f32)
    (w : Vec Ideal S1x64x128x256 .bf16) : (n : ℕ) → n ≤ 64 → FVec Ideal S128x256 .f32
  | 0, _ => broadcast S128x256 (Scalar.ofBits (F := Ideal) .f32 0x00000000#32)
  | n + 1, h => step (View.readAt (Elt Ideal) r.view ⟨![n, 0], S128x128.size, ![64, 1], inb0 h⟩ (hr.unread x))
      (View.ld p (Rect.unit ![0, n, 0] S1x1x128.size (inb1 h))) (View.ld w (Rect.unit ![0, n, 0, 0] S1x1x128x256.size (inb2 h)))
      (accum r hr x p w n (Nat.le_of_succ_le h))

/-- The hyperbolic tangent of the activation. -/
def th (a : FVec Ideal S128x256 .f32) : FVec Ideal S128x256 .f32 :=
  tanh (mulf (broadcast S128x256 (Scalar.ofBits (F := Ideal) .f32 0x3F4C422A#32))
    (addf a (mulf (broadcast S128x256 (Scalar.ofBits (F := Ideal) .f32 0x3D372713#32)) (mulf a (mulf a a)))))

set_option maxHeartbeats 2000000 in
/-- What a point writes. -/
theorem out_eq (t : Fin cfg0.N) : outsAt0 m c t
    = k0_pay1 (accum (ms0_0 t) (hs0_0 t) (iblk m c 0 t) (iblk m c 1 t) (iblk m c 2 t) 64 le_rfl)
        (th (accum (ms0_0 t) (hs0_0 t) (iblk m c 0 t) (iblk m c 1 t) (iblk m c 2 t) 64 le_rfl)) (iblk m c 3 t) := by
  unfold outsAt0
  frame_out
  rfl

theorem step_at (x : Vec Ideal S128x128 .f32) (p : Vec Ideal S1x1x128 .f32) (w : Vec Ideal S1x1x128x256 .bf16) (a : FVec Ideal S128x256 .f32)
    (b : Fin 128) (f : Fin 256) : step x p w a (ix2 b f)
      = a (ix2 b f) + ∑ k : Fin 128, ((x : FVec Ideal S128x128 .f32) (ix2 b k) + (p : FVec Ideal S1x1x128 .f32) (ix3 0 0 k)) * (w : FVec Ideal S1x1x128x256 .bf16) (ix4 0 0 k f) := by
  pointwise [step]

/-- The rows added so far, entry by entry. -/
theorem accum_at (r : Memref sig .tc .vmem S8192x128 .f32) (hr : r.IsWhole) (x : FVec Ideal S8192x128 .f32) (p : FVec Ideal S1x64x128 .f32)
    (w : FVec Ideal S1x64x128x256 .bf16) (b : Fin 128) (f : Fin 256) : ∀ (n : ℕ) (h : n ≤ 64), accum r hr x p w n h (ix2 b f)
      = ∑ i : Fin n, ∑ k : Fin 128, (x (ix2 ⟨b.val * 64 + i.val, by omega⟩ k) + p (ix3 0 ⟨i.val, by omega⟩ k)) * w (ix4 0 ⟨i.val, by omega⟩ k f) := by
  intro n
  induction n with
  | zero =>
    intro h
    rw [Fin.sum_univ_zero]
    show Ideal.ofBits .f32 0x00000000#32 = 0
    simp [Ideal.ofBits, Ideal.ieee]
  | succ n ih =>
    intro h
    rw [accum, step_at, ih]
    refine Eq.trans ?_ (Fin.sum_univ_castSucc _).symm
    refine congrArg (fun s : EReal => (∑ i : Fin n, ∑ k : Fin 128, (x (ix2 ⟨b.val * 64 + i.val, by omega⟩ k) + p (ix3 0 ⟨i.val, by omega⟩ k)) * w (ix4 0 ⟨i.val, by omega⟩ k f)) + s) ?_
    refine Finset.sum_congr rfl fun k _ => ?_
    rw [Memref.IsWhole.readAt_unread]
    have hx : (⟨![n, 0], S128x128.size, ![64, 1], inb0 h⟩ : LoadRect S8192x128).idx (ix2 b k : S128x128.Idx) = (ix2 ⟨b.val * 64 + n, by omega⟩ k : S8192x128.Idx) := by
      funext a
      apply Fin.ext
      fin_cases a
      · show n + 64 * b.val = b.val * 64 + n
        omega
      · show 0 + 1 * k.val = k.val
        omega
    have hp : (View.ld (Val := Elt Ideal) (e' := .f32) (p : FVec Ideal S1x64x128 .f32) (Rect.unit ![0, n, 0] S1x1x128.size (inb1 h)) (ix3 0 0 k : S1x1x128.Idx) : EReal) = (p (ix3 0 ⟨n, h⟩ k) : EReal) := by
      refine congrArg p (funext fun a => Fin.ext ?_)
      fin_cases a
      · rfl
      · show n + 1 * 0 = n
        omega
      · show 0 + 1 * k.val = k.val
        omega
    have hw : (View.ld (Val := Elt Ideal) (e' := .bf16) (w : FVec Ideal S1x64x128x256 .bf16) (Rect.unit ![0, n, 0, 0] S1x1x128x256.size (inb2 h)) (ix4 0 0 k f : S1x1x128x256.Idx) : EReal) = (w (ix4 0 ⟨n, h⟩ k f) : EReal) := by
      refine congrArg w (funext fun a => Fin.ext ?_)
      fin_cases a
      · rfl
      · show n + 1 * 0 = n
        omega
      · show 0 + 1 * k.val = k.val
        omega
      · show 0 + 1 * f.val = f.val
        omega
    rw [hx]
    exact congrArg₂ (fun u v => (x (ix2 ⟨b.val * 64 + n, by omega⟩ k) + u) * v) hp hw

/-- What a point writes, of the rows added. -/
theorem pay1_at (a : FVec Ideal S128x256 .f32) (v : FVec Ideal S1x256x128 .bf16) (b l : Fin 128) :
    (k0_pay1 (F := Ideal) a (th a) v : FVec Ideal S128x128 .f32) (ix2 b l) = ∑ f : Fin 256, gelu (a (ix2 b f)) * v (ix3 0 f l) := by
  pointwise [k0_pay1, th, gelu]

set_option maxRecDepth 100000 in
theorem idx0 : ∀ t : Fin cfg0.N, win0_0.index t = ![t.val / 4, t.val % 4] := by decide +kernel
set_option maxRecDepth 100000 in
theorem idx1 : ∀ t : Fin cfg0.N, win0_1.index t = ![t.val % 4 / 2, 0, 0] := by decide +kernel
set_option maxRecDepth 100000 in
theorem idx2 : ∀ t : Fin cfg0.N, win0_2.index t = ![t.val % 4 / 2, 0, 0, 0] := by decide +kernel
set_option maxRecDepth 100000 in
theorem idx3 : ∀ t : Fin cfg0.N, win0_3.index t = ![t.val % 4 / 2, 0, 0] := by decide +kernel
set_option maxRecDepth 100000 in
theorem idx4 : ∀ t : Fin cfg0.N, win0_4.index t = ![t.val / 4, t.val % 4] := by decide +kernel

theorem ltN (t : Fin cfg0.N) : t.val < 160 := lt_of_lt_of_eq t.isLt N_0

/-- The positions' weights and the two layers' weights, of the keys and of the values. -/
def pe (g : Fin 2) (r d : Fin 64) : EReal := if g.val = 0 then (m ((c : Thread nD τ).loc main_arg1) : FVec Ideal S64x64 .f32) (ix2 r d)
  else (m ((c : Thread nD τ).loc main_arg4) : FVec Ideal S64x64 .f32) (ix2 r d)
def w1 (g : Fin 2) (q : Fin 4096) (j : Fin 128) : EReal := if g.val = 0 then (m ((c : Thread nD τ).loc main_arg2) : FVec Ideal S4096x128 .f32) (ix2 q j)
  else (m ((c : Thread nD τ).loc main_arg5) : FVec Ideal S4096x128 .f32) (ix2 q j)
def w2 (g : Fin 2) (j : Fin 128) (e : Fin 64) : EReal := if g.val = 0 then (m ((c : Thread nD τ).loc main_arg3) : FVec Ideal S128x64 .f32) (ix2 j e)
  else (m ((c : Thread nD τ).loc main_arg6) : FVec Ideal S128x64 .f32) (ix2 j e)

theorem host1 (g : Fin 2) (r : Fin 64) (k : Fin 128) : (V m c main_v26 : FVec Ideal S2x64x128 .f32) (ix3 g r k)
    = pe m c g r ⟨k.val % 64, by omega⟩ := by
  entry_read
  pointwise
  rcases g with ⟨g, hg⟩
  interval_cases g
  · rw [dif_pos (show (0 : ℕ) < 1 by decide)]
    by_cases hk : k.val < 64
    · after_results_simp
      after_results_loop
      pointwise
      rw [dif_pos hk]
      exact congrArg₂ (fun a b => (m ((c : Thread nD τ).loc main_arg1) : FVec Ideal S64x64 .f32) (ix2 a b))
          (Fin.ext (show r.val = r.val by omega)) (Fin.ext (show k.val = k.val % 64 by omega))
    · after_results_simp
      after_results_loop
      pointwise
      rw [dif_neg hk]
      exact congrArg₂ (fun a b => (m ((c : Thread nD τ).loc main_arg1) : FVec Ideal S64x64 .f32) (ix2 a b))
          (Fin.ext (show r.val = r.val by omega)) (Fin.ext (show k.val - 64 = k.val % 64 by omega))
  · rw [dif_neg (show ¬(1 : ℕ) < 1 by decide)]
    by_cases hk : k.val < 64
    · after_results_simp
      after_results_loop
      pointwise
      rw [dif_pos hk]
      exact congrArg₂ (fun a b => (m ((c : Thread nD τ).loc main_arg4) : FVec Ideal S64x64 .f32) (ix2 a b))
          (Fin.ext (show r.val = r.val by omega)) (Fin.ext (show k.val = k.val % 64 by omega))
    · after_results_simp
      after_results_loop
      pointwise
      rw [dif_neg hk]
      exact congrArg₂ (fun a b => (m ((c : Thread nD τ).loc main_arg4) : FVec Ideal S64x64 .f32) (ix2 a b))
          (Fin.ext (show r.val = r.val by omega)) (Fin.ext (show k.val - 64 = k.val % 64 by omega))

theorem host2 (g : Fin 2) (r : Fin 64) (k : Fin 128) (f : Fin 256) : (V m c main_v29 : FVec Ideal S2x64x128x256 .bf16) (ix4 g r k f)
    = if k.val / 64 = f.val / 128 then w1 m c g ⟨r.val * 64 + k.val % 64, by omega⟩ ⟨f.val % 128, by omega⟩ else (0 : EReal) := by
  entry_read
  pointwise
  rcases g with ⟨g, hg⟩
  interval_cases g
  · rw [dif_pos (show (0 : ℕ) < 1 by decide)]
    by_cases hf : k.val < 64
    · rw [dif_pos hf]
      after_results_simp
      after_results_loop
      pointwise
      by_cases hk : f.val < 128
      · rw [dif_pos hk]
        refine Eq.trans ?_ (if_pos (by omega)).symm
        exact congrArg₂ (fun a b => (m ((c : Thread nD τ).loc main_arg2) : FVec Ideal S4096x128 .f32) (ix2 a b))
          (Fin.ext (show r.val * 64 + k.val = r.val * 64 + k.val % 64 by omega)) (Fin.ext (show f.val = f.val % 128 by omega))
      · rw [dif_neg hk]
        exact (if_neg (by omega)).symm
    · rw [dif_neg hf]
      after_results_simp
      after_results_loop
      pointwise
      by_cases hk : f.val < 128
      · rw [dif_pos hk]
        exact (if_neg (by omega)).symm
      · rw [dif_neg hk]
        refine Eq.trans ?_ (if_pos (by omega)).symm
        exact congrArg₂ (fun a b => (m ((c : Thread nD τ).loc main_arg2) : FVec Ideal S4096x128 .f32) (ix2 a b))
          (Fin.ext (show r.val * 64 + (k.val - 64) = r.val * 64 + k.val % 64 by omega)) (Fin.ext (show f.val - 128 = f.val % 128 by omega))
  · rw [dif_neg (show ¬(1 : ℕ) < 1 by decide)]
    by_cases hf : k.val < 64
    · rw [dif_pos hf]
      after_results_simp
      after_results_loop
      pointwise
      by_cases hk : f.val < 128
      · rw [dif_pos hk]
        refine Eq.trans ?_ (if_pos (by omega)).symm
        exact congrArg₂ (fun a b => (m ((c : Thread nD τ).loc main_arg5) : FVec Ideal S4096x128 .f32) (ix2 a b))
          (Fin.ext (show r.val * 64 + k.val = r.val * 64 + k.val % 64 by omega)) (Fin.ext (show f.val = f.val % 128 by omega))
      · rw [dif_neg hk]
        exact (if_neg (by omega)).symm
    · rw [dif_neg hf]
      after_results_simp
      after_results_loop
      pointwise
      by_cases hk : f.val < 128
      · rw [dif_pos hk]
        exact (if_neg (by omega)).symm
      · rw [dif_neg hk]
        refine Eq.trans ?_ (if_pos (by omega)).symm
        exact congrArg₂ (fun a b => (m ((c : Thread nD τ).loc main_arg5) : FVec Ideal S4096x128 .f32) (ix2 a b))
          (Fin.ext (show r.val * 64 + (k.val - 64) = r.val * 64 + k.val % 64 by omega)) (Fin.ext (show f.val - 128 = f.val % 128 by omega))

theorem host3 (g : Fin 2) (f : Fin 256) (l : Fin 128) : (V m c main_v32 : FVec Ideal S2x256x128 .bf16) (ix3 g f l)
    = if f.val / 128 = l.val / 64 then w2 m c g ⟨f.val % 128, by omega⟩ ⟨l.val % 64, by omega⟩ else (0 : EReal) := by
  entry_read
  pointwise
  rcases g with ⟨g, hg⟩
  interval_cases g
  · rw [dif_pos (show (0 : ℕ) < 1 by decide)]
    by_cases hf : f.val < 128
    · rw [dif_pos hf]
      after_results_simp
      after_results_loop
      pointwise
      by_cases hk : l.val < 64
      · rw [dif_pos hk]
        refine Eq.trans ?_ (if_pos (by omega)).symm
        exact congrArg₂ (fun a b => (m ((c : Thread nD τ).loc main_arg3) : FVec Ideal S128x64 .f32) (ix2 a b))
          (Fin.ext (show f.val = f.val % 128 by omega)) (Fin.ext (show l.val = l.val % 64 by omega))
      · rw [dif_neg hk]
        exact (if_neg (by omega)).symm
    · rw [dif_neg hf]
      after_results_simp
      after_results_loop
      pointwise
      by_cases hk : l.val < 64
      · rw [dif_pos hk]
        exact (if_neg (by omega)).symm
      · rw [dif_neg hk]
        refine Eq.trans ?_ (if_pos (by omega)).symm
        exact congrArg₂ (fun a b => (m ((c : Thread nD τ).loc main_arg3) : FVec Ideal S128x64 .f32) (ix2 a b))
          (Fin.ext (show f.val - 128 = f.val % 128 by omega)) (Fin.ext (show l.val - 64 = l.val % 64 by omega))
  · rw [dif_neg (show ¬(1 : ℕ) < 1 by decide)]
    by_cases hf : f.val < 128
    · rw [dif_pos hf]
      after_results_simp
      after_results_loop
      pointwise
      by_cases hk : l.val < 64
      · rw [dif_pos hk]
        refine Eq.trans ?_ (if_pos (by omega)).symm
        exact congrArg₂ (fun a b => (m ((c : Thread nD τ).loc main_arg6) : FVec Ideal S128x64 .f32) (ix2 a b))
          (Fin.ext (show f.val = f.val % 128 by omega)) (Fin.ext (show l.val = l.val % 64 by omega))
      · rw [dif_neg hk]
        exact (if_neg (by omega)).symm
    · rw [dif_neg hf]
      after_results_simp
      after_results_loop
      pointwise
      by_cases hk : l.val < 64
      · rw [dif_pos hk]
        exact (if_neg (by omega)).symm
      · rw [dif_neg hk]
        refine Eq.trans ?_ (if_pos (by omega)).symm
        exact congrArg₂ (fun a b => (m ((c : Thread nD τ).loc main_arg6) : FVec Ideal S128x64 .f32) (ix2 a b))
          (Fin.ext (show f.val - 128 = f.val % 128 by omega)) (Fin.ext (show l.val - 64 = l.val % 64 by omega))

theorem host0 (i : Fin 327680) (k : Fin 512) : (V m c main_v33 : FVec Ideal S327680x512 .f32) (ix2 i k)
    = (m ((c : Thread nD τ).loc main_arg0) : FVec Ideal S2560x128x2x4x64 .f32)
        (ix5 ⟨i.val / 128, by omega⟩ ⟨i.val % 128, by omega⟩ ⟨k.val / 256, by omega⟩ ⟨k.val / 64 % 4, by omega⟩ ⟨k.val % 64, by omega⟩) := by
  entry_read
  pointwise

theorem blk0 (t : Fin cfg0.N) (r : Fin 8192) (k : Fin 128) : (iblk m c 0 t : FVec Ideal S8192x128 .f32) (ix2 r k)
    = (V m c main_v33 : FVec Ideal S327680x512 .f32) (ix2 ⟨t.val / 4 * 8192 + r.val, by have := ltN t; omega⟩ ⟨t.val % 4 * 128 + k.val, by omega⟩) := by
  blk_ext [iblk, idx0 t]

theorem blk1 (t : Fin cfg0.N) (r : Fin 64) (k : Fin 128) : (iblk m c 1 t : FVec Ideal S1x64x128 .f32) (ix3 0 r k)
    = (V m c main_v26 : FVec Ideal S2x64x128 .f32) (ix3 ⟨t.val % 4 / 2, by omega⟩ r k) := by
  blk_ext [iblk, idx1 t]

theorem blk2 (t : Fin cfg0.N) (r : Fin 64) (k : Fin 128) (f : Fin 256) : (iblk m c 2 t : FVec Ideal S1x64x128x256 .bf16) (ix4 0 r k f)
    = (V m c main_v29 : FVec Ideal S2x64x128x256 .bf16) (ix4 ⟨t.val % 4 / 2, by omega⟩ r k f) := by
  blk_ext [iblk, idx2 t]

theorem blk3 (t : Fin cfg0.N) (f : Fin 256) (l : Fin 128) : (iblk m c 3 t : FVec Ideal S1x256x128 .bf16) (ix3 0 f l)
    = (V m c main_v32 : FVec Ideal S2x256x128 .bf16) (ix3 ⟨t.val % 4 / 2, by omega⟩ f l) := by
  blk_ext [iblk, idx3 t]

/-- The row and the column of the result that those of a point's block are. -/
abbrev row (t : Fin cfg0.N) (b : Fin 128) : Fin 5120 := ⟨t.val / 4 * 128 + b.val, by have := ltN t; omega⟩
abbrev col (t : Fin cfg0.N) (l : Fin 128) : Fin 512 := ⟨t.val % 4 * 128 + l.val, by omega⟩

/-- What a point writes, entry by entry. -/
theorem written (t : Fin cfg0.N) (b l : Fin 128) : (outsAt0 m c t : FVec Ideal S128x128 .f32) (ix2 b l)
    = outAt (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (row t b) (col t l) := by
  have hg : (⟨t.val % 4 / 2, by omega⟩ : Fin 2) = ⟨(col t l).val / 256, by omega⟩ :=
    Fin.ext (show t.val % 4 / 2 = (t.val % 4 * 128 + l.val) / 256 by omega)
  rw [out_eq, pay1_at]
  simp only [accum_at]
  refine (blocks (fun r k => (iblk m c 0 t : FVec Ideal S8192x128 .f32) (ix2 ⟨b.val * 64 + r.val, by omega⟩ k))
    (fun r k => (iblk m c 1 t : FVec Ideal S1x64x128 .f32) (ix3 0 r k)) (pe m c ⟨(col t l).val / 256, by omega⟩)
    (fun r k f => (iblk m c 2 t : FVec Ideal S1x64x128x256 .bf16) (ix4 0 r k f))
    (fun f l => (iblk m c 3 t : FVec Ideal S1x256x128 .bf16) (ix3 0 f l)) (w1 m c ⟨(col t l).val / 256, by omega⟩)
    (w2 m c ⟨(col t l).val / 256, by omega⟩)
    (fun r k => by rw [blk1, host1, hg]) (fun r k f => by rw [blk2, host2, hg]) (fun f l' => by rw [blk3, host3, hg]) l).trans ?_
  unfold outAt
  have hq : (⟨l.val % 64, by omega⟩ : Fin 64) = ⟨(col t l).val % 64, by omega⟩ :=
    Fin.ext (show l.val % 64 = (t.val % 4 * 128 + l.val) % 64 by omega)
  rw [hq]
  refine congrArg (fun z => cmpr z (w1 m c ⟨(col t l).val / 256, by omega⟩) (w2 m c ⟨(col t l).val / 256, by omega⟩) ⟨(col t l).val % 64, by omega⟩)
    (funext fun q => ?_)
  refine congrArg (fun z : EReal => z + pe m c ⟨(col t l).val / 256, by omega⟩ ⟨q.val / 64, by omega⟩ ⟨q.val % 64, by omega⟩) ?_
  have ht := ltN t
  beta_reduce
  rw [blk0, host0]
  refine congrArg (m ((c : Thread nD τ).loc main_arg0) : FVec Ideal S2560x128x2x4x64 .f32) (funext fun a => Fin.ext ?_)
  match a with
  | ⟨0, _⟩ =>
    show (t.val / 4 * 8192 + (b.val * 64 + q.val / 64)) / 128 = (t.val / 4 * 128 + b.val) / 2
    omega
  | ⟨1, _⟩ =>
    show (t.val / 4 * 8192 + (b.val * 64 + q.val / 64)) % 128 = (t.val / 4 * 128 + b.val) % 2 * 64 + q.val / 64
    omega
  | ⟨2, _⟩ =>
    show (t.val % 4 * 128 + (l.val / 64 * 64 + q.val % 64)) / 256 = (t.val % 4 * 128 + l.val) / 256
    omega
  | ⟨3, _⟩ =>
    show (t.val % 4 * 128 + (l.val / 64 * 64 + q.val % 64)) / 64 % 4 = (t.val % 4 * 128 + l.val) / 64 % 4
    omega
  | ⟨4, _⟩ =>
    show (t.val % 4 * 128 + (l.val / 64 * 64 + q.val % 64)) % 64 = q.val % 64
    omega

/-- The result array. -/
theorem arr_eq : (dats m 0 c).arrAt 4 cfg0.N = (fun i => outAt (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (i 0) (i 1) : FVec Ideal S5120x512 .f32) := by
  refine (dats m 0 c).arrAt_eq_of_covers 4 _ (by decide +kernel) fun t hf y => ?_
  blk_simp
  rw [after0_4]
  obtain ⟨b, l, rfl⟩ : ∃ b l : Fin 128, y = ix2 b l := ⟨y 0, y 1, eq_ix2 y⟩
  rw [written]
  have he : (win0_4.blk t).view.emb (ix2 b l : S128x128.Idx) = (ix2 (row t b) (col t l) : S5120x512.Idx) := by
    funext a
    apply Fin.ext
    fin_cases a
    all_goals
      blk_simp [idx4 t]
      rfl
  rw [he]
  rfl

end Cert.Kernel10Ideal.Cmp

end
-- ==== Proof.C10Ref.lean ====
/-
  The compression's reference over the cache's pages, read entry by entry.
-/
module

public import proofs.«01_k».proof.Proof.C10Step
public import proofs.«01_k».proof.Proof.Gen.Reference10Ideal.Read

@[expose] public section

noncomputable section

namespace Cert.Reference10Ideal.Cmp

open Idealize.ShloMosaic Cert.Reference10Ideal.Gen Cert.Reference10Ideal.Read Cert.Cmp

variable (x0 : FVec Ideal ⟨5, ![2560, 128, 2, 4, 64]⟩ .f32) (x1 : FVec Ideal ⟨2, ![64, 64]⟩ .f32) (x2 : FVec Ideal ⟨2, ![4096, 128]⟩ .f32)
  (x3 : FVec Ideal ⟨2, ![128, 64]⟩ .f32) (x4 : FVec Ideal ⟨2, ![64, 64]⟩ .f32) (x5 : FVec Ideal ⟨2, ![4096, 128]⟩ .f32)
  (x6 : FVec Ideal ⟨2, ![128, 64]⟩ .f32)

/-- The rows of a block laid end to end, the keys. -/
theorem v7_at (n : Fin 2560) (h : Fin 2) (d : Fin 4) (q : Fin 4096) : val_main_v7 (F := Ideal) x0 x1 (ix4 n h d q)
    = x0 (ix5 n ⟨h.val * 64 + q.val / 64, by omega⟩ 0 d ⟨q.val % 64, by omega⟩) + x1 (ix2 ⟨q.val / 64, by omega⟩ ⟨q.val % 64, by omega⟩) := by
  pointwise [val_main_v7, val_main_v6, val_main_v5, val_main_v4, val_main_v3, val_main_v2, val_main_v1, val_main_v0]

/-- The hidden layer before its activation, the keys. -/
theorem v8_at (n : Fin 2560) (h : Fin 2) (d : Fin 4) (j : Fin 128) : val_main_v8 (F := Ideal) x0 x1 x2 (ix4 n h d j)
    = ∑ q : Fin 4096, (x0 (ix5 n ⟨h.val * 64 + q.val / 64, by omega⟩ 0 d ⟨q.val % 64, by omega⟩)
        + x1 (ix2 ⟨q.val / 64, by omega⟩ ⟨q.val % 64, by omega⟩)) * x2 (ix2 q j) := by
  simp only [← v7_at]
  pointwise [val_main_v8]

/-- The hidden layer, the keys. -/
theorem v21_at (n : Fin 2560) (h : Fin 2) (d : Fin 4) (j : Fin 128) : val_main_v21 (F := Ideal) x0 x1 x2 (ix4 n h d j)
    = gelu (val_main_v8 (F := Ideal) x0 x1 x2 (ix4 n h d j)) := by
  unfold gelu
  generalize hy : val_main_v8 (F := Ideal) x0 x1 x2 = y
  rw [← mul_comm (y (ix4 n h d j) * y (ix4 n h d j)) (y (ix4 n h d j))]
  pointwise [val_main_v21, val_main_v20, val_main_v19, val_main_v18, val_main_v17, val_main_v16, val_main_v15, val_main_v14, val_main_v13, val_main_v12, val_main_v11, val_main_v10, val_main_v9, val_main_cst, val_main_cst_0, val_main_cst_1, val_main_cst_2, hy]

/-- The compressed row, the keys. -/
theorem v22_at (n : Fin 2560) (h : Fin 2) (d : Fin 4) (e : Fin 64) : val_main_v22 (F := Ideal) x0 x1 x2 x3 (ix4 n h d e)
    = cmpr (fun q => x0 (ix5 n ⟨h.val * 64 + q.val / 64, by omega⟩ 0 d ⟨q.val % 64, by omega⟩)
        + x1 (ix2 ⟨q.val / 64, by omega⟩ ⟨q.val % 64, by omega⟩)) (fun q j => x2 (ix2 q j)) (fun j e => x3 (ix2 j e)) e := by
  unfold cmpr
  simp only [← v8_at, ← v21_at]
  pointwise [val_main_v22]

/-- The rows of a block laid end to end, the values. -/
theorem v30_at (n : Fin 2560) (h : Fin 2) (d : Fin 4) (q : Fin 4096) : val_main_v30 (F := Ideal) x0 x4 (ix4 n h d q)
    = x0 (ix5 n ⟨h.val * 64 + q.val / 64, by omega⟩ 1 d ⟨q.val % 64, by omega⟩) + x4 (ix2 ⟨q.val / 64, by omega⟩ ⟨q.val % 64, by omega⟩) := by
  pointwise [val_main_v30, val_main_v29, val_main_v28, val_main_v27, val_main_v26, val_main_v25, val_main_v24, val_main_v23]

/-- The hidden layer before its activation, the values. -/
theorem v31_at (n : Fin 2560) (h : Fin 2) (d : Fin 4) (j : Fin 128) : val_main_v31 (F := Ideal) x0 x4 x5 (ix4 n h d j)
    = ∑ q : Fin 4096, (x0 (ix5 n ⟨h.val * 64 + q.val / 64, by omega⟩ 1 d ⟨q.val % 64, by omega⟩)
        + x4 (ix2 ⟨q.val / 64, by omega⟩ ⟨q.val % 64, by omega⟩)) * x5 (ix2 q j) := by
  simp only [← v30_at]
  pointwise [val_main_v31]

/-- The hidden layer, the values. -/
theorem v44_at (n : Fin 2560) (h : Fin 2) (d : Fin 4) (j : Fin 128) : val_main_v44 (F := Ideal) x0 x4 x5 (ix4 n h d j)
    = gelu (val_main_v31 (F := Ideal) x0 x4 x5 (ix4 n h d j)) := by
  unfold gelu
  generalize hy : val_main_v31 (F := Ideal) x0 x4 x5 = y
  rw [← mul_comm (y (ix4 n h d j) * y (ix4 n h d j)) (y (ix4 n h d j))]
  pointwise [val_main_v44, val_main_v43, val_main_v42, val_main_v41, val_main_v40, val_main_v39, val_main_v38, val_main_v37, val_main_v36, val_main_v35, val_main_v34, val_main_v33, val_main_v32, val_main_cst_3, val_main_cst_4, val_main_cst_5, val_main_cst_6, hy]

/-- The compressed row, the values. -/
theorem v45_at (n : Fin 2560) (h : Fin 2) (d : Fin 4) (e : Fin 64) : val_main_v45 (F := Ideal) x0 x4 x5 x6 (ix4 n h d e)
    = cmpr (fun q => x0 (ix5 n ⟨h.val * 64 + q.val / 64, by omega⟩ 1 d ⟨q.val % 64, by omega⟩)
        + x4 (ix2 ⟨q.val / 64, by omega⟩ ⟨q.val % 64, by omega⟩)) (fun q j => x5 (ix2 q j)) (fun j e => x6 (ix2 j e)) e := by
  unfold cmpr
  simp only [← v31_at, ← v44_at]
  pointwise [val_main_v45]

/-- Where the result's entry comes from. -/
theorem v49_v48 (i : Fin 5120) (l : Fin 512) : val_main_v49 (F := Ideal) x0 x1 x2 x3 x4 x5 x6 (ix2 i l)
    = val_main_v48 (F := Ideal) x0 x1 x2 x3 x4 x5 x6 (ix5 ⟨i.val / 2, by omega⟩ ⟨i.val % 2, by omega⟩ ⟨l.val / 256, by omega⟩ ⟨l.val / 64 % 4, by omega⟩ ⟨l.val % 64, by omega⟩) := by
  pointwise [val_main_v49]

/-- The result, entry by entry. -/
theorem v49_at (i : Fin 5120) (l : Fin 512) : val_main_v49 (F := Ideal) x0 x1 x2 x3 x4 x5 x6 (ix2 i l)
    = Cert.Kernel10Ideal.Cmp.outAt x0 x1 x2 x3 x4 x5 x6 i l := by
  unfold Cert.Kernel10Ideal.Cmp.outAt
  rw [v49_v48]
  by_cases hl : l.val / 256 = 0
  · simp only [if_pos hl]
    have hc : (⟨l.val / 256, by omega⟩ : Fin 2) = 0 := Fin.ext hl
    rw [hc]
    refine Eq.trans ?_ (v22_at x0 x1 x2 x3 ⟨i.val / 2, by omega⟩ ⟨i.val % 2, by omega⟩ ⟨l.val / 64 % 4, by omega⟩ ⟨l.val % 64, by omega⟩)
    generalize hz : val_main_v22 (F := Ideal) x0 x1 x2 x3 = z
    pointwise [val_main_v48, val_main_v46, hz]
  · simp only [if_neg hl]
    have hc : (⟨l.val / 256, by omega⟩ : Fin 2) = 1 := Fin.ext (show l.val / 256 = 1 by omega)
    rw [hc]
    refine Eq.trans ?_ (v45_at x0 x4 x5 x6 ⟨i.val / 2, by omega⟩ ⟨i.val % 2, by omega⟩ ⟨l.val / 64 % 4, by omega⟩ ⟨l.val % 64, by omega⟩)
    generalize hz : val_main_v45 (F := Ideal) x0 x4 x5 x6 = z
    pointwise [val_main_v48, val_main_v47, hz]

/-- The result array. -/
theorem v49_eq : val_main_v49 (F := Ideal) x0 x1 x2 x3 x4 x5 x6
    = (fun i => Cert.Kernel10Ideal.Cmp.outAt x0 x1 x2 x3 x4 x5 x6 (i 0) (i 1) : FVec Ideal S5120x512 .f32) := by
  funext i
  obtain ⟨a, b, rfl⟩ : ∃ (a : Fin 5120) (b : Fin 512), i = ix2 a b := ⟨i 0, i 1, eq_ix2 i⟩
  exact v49_at x0 x1 x2 x3 x4 x5 x6 a b

end Cert.Reference10Ideal.Cmp

end
-- ==== Proof.C11Step.lean ====
/-
  The compression's launch over the rows of the prompt: what a point leaves in the output block, and what the result
  array holds.
-/
module

public import proofs.«01_k».proof.Proof.CSpec
public import proofs.«01_k».proof.Proof.Gen.Kernel11Ideal.Value
public import Idealize.ShloMosaic.Lib.Pipeline.ValueKit
public import Idealize.ShloMosaic.Lib.WholeRead
public import Idealize.ShloMosaic.Lib.Pointwise.Sums

@[expose] public section

set_option maxRecDepth 16384

noncomputable section

namespace Cert.Kernel11Ideal.Cmp

open Idealize.ShloMosaic Idealize.ShloMosaic.TcCoe Idealize.ShloMosaic.Tactic Idealize.SL.Sem
open Cert.Kernel11Ideal Cert.Kernel11Ideal.Gen Cert.Kernel11Ideal.Value Cert.Cmp

variable (m : (ℓ : Loc nD τ sig) → Buf (Elt Ideal) ℓ) (c : Dev nD)

/-- One entry of the compressed rows: a block is 64 rows of the prompt; the columns are the heads' keys, then their values. -/
def outAt (x : FVec Ideal ⟨2, ![9216, 1536]⟩ .f32) (p1 : FVec Ideal ⟨2, ![64, 64]⟩ .f32) (a1 : FVec Ideal ⟨2, ![4096, 128]⟩ .f32)
    (b1 : FVec Ideal ⟨2, ![128, 64]⟩ .f32) (p2 : FVec Ideal ⟨2, ![64, 64]⟩ .f32) (a2 : FVec Ideal ⟨2, ![4096, 128]⟩ .f32)
    (b2 : FVec Ideal ⟨2, ![128, 64]⟩ .f32) (i : Fin 128) (l : Fin 512) : EReal :=
  cmpr (fun q => x (ix2 ⟨i.val * 64 + q.val / 64, by omega⟩ ⟨l.val / 64 * 64 + q.val % 64, by omega⟩)
      + if l.val / 256 = 0 then p1 (ix2 ⟨q.val / 64, by omega⟩ ⟨q.val % 64, by omega⟩) else p2 (ix2 ⟨q.val / 64, by omega⟩ ⟨q.val % 64, by omega⟩))
    (fun q j => if l.val / 256 = 0 then a1 (ix2 q j) else a2 (ix2 q j))
    (fun j e => if l.val / 256 = 0 then b1 (ix2 j e) else b2 (ix2 j e)) ⟨l.val % 64, by omega⟩

/-- One row of the blocks, added to what the rows before gave. -/
def step (x : Vec Ideal S128x128 .f32) (p : Vec Ideal S1x1x128 .f32) (w : Vec Ideal S1x1x128x256 .bf16) (a : FVec Ideal S128x256 .f32) :
    FVec Ideal S128x256 .f32 :=
  addf a (matmul dot_S128x128_S128x256_S128x256_1_0_0_1_n_n none
    (truncf .bf16 (addf (x : FVec Ideal S128x128 .f32)
      (broadcastTo S128x128 (shapeCast S1x128 p shapeCasts_S1x1x128_S1x128) broadcasts_S1x128_S128x128)) bitsLt_bf16_f32)
    (shapeCast S128x256 w shapeCasts_S1x1x128x256_S128x256 : FVec Ideal S128x256 .bf16) (constant S128x256 .f32 0x00000000#32))

theorem inb0 {n : ℕ} (h : n < 64) : ∀ a, S128x128.size a = 0 ∨ (![n, 0] : Fin 2 → ℕ) a + (![64, 1] : Fin 2 → ℕ) a * (S128x128.size a - 1) < S8192x128.size a := by
  intro a
  right
  fin_cases a
  · show n + 64 * 127 < 8192
    omega
  · show 0 + 1 * 127 < 128
    omega

theorem inb1 {n : ℕ} (h : n < 64) : ∀ a, (![0, n, 0] : Fin 3 → ℕ) a + S1x1x128.size a ≤ S1x64x128.size a := by
  intro a
  fin_cases a
  · show 0 + 1 ≤ 1
    omega
  · show n + 1 ≤ 64
    omega
  · show 0 + 128 ≤ 128
    omega

theorem inb2 {n : ℕ} (h : n < 64) : ∀ a, (![0, n, 0, 0] : Fin 4 → ℕ) a + S1x1x128x256.size a ≤ S1x64x128x256.size a := by
  intro a
  fin_cases a
  · show 0 + 1 ≤ 1
    omega
  · show n + 1 ≤ 64
    omega
  · show 0 + 128 ≤ 128
    omega
  · show 0 + 256 ≤ 256
    omega

/-- The first `n` rows of the blocks. -/
def accum (r : Memref sig .tc .vmem S8192x128 .f32) (hr : r.IsWhole) (x : Vec Ideal S8192x128 .f32) (p : Vec Ideal S1x64x128 .f32)
    (w : Vec Ideal S1x64x128x256 .bf16) : (n : ℕ) → n ≤ 64 → FVec Ideal S128x256 .f32
  | 0, _ => broadcast S128x256 (Scalar.ofBits (F := Ideal) .f32 0x00000000#32)
  | n + 1, h => step (View.readAt (Elt Ideal) r.view ⟨![n, 0], S128x128.size, ![64, 1], inb0 h⟩ (hr.unread x))
      (View.ld p (Rect.unit ![0, n, 0] S1x1x128.size (inb1 h))) (View.ld w (Rect.unit ![0, n, 0, 0] S1x1x128x256.size (inb2 h)))
      (accum r hr x p w n (Nat.le_of_succ_le h))

/-- One and the hyperbolic tangent of the activation. -/
def th (a : FVec Ideal S128x256 .f32) : FVec Ideal S128x256 .f32 :=
  addf (broadcast S128x256 (Scalar.ofBits (F := Ideal) .f32 0x3F800000#32)) (tanh (mulf (broadcast S128x256 (Scalar.ofBits (F := Ideal) .f32 0x3F4C422A#32))
    (addf a (mulf (broadcast S128x256 (Scalar.ofBits (F := Ideal) .f32 0x3D372713#32)) (mulf a (mulf a a))))))

set_option maxHeartbeats 2000000 in
/-- What a point writes. -/
theorem out_eq (t : Fin cfg0.N) : outsAt0 m c t
    = k0_pay1 (accum (ms0_0 t) (hs0_0 t) (X0_0 m c t) (iblk m c 1 t) (iblk m c 2 t) 64 le_rfl)
        (th (accum (ms0_0 t) (hs0_0 t) (X0_0 m c t) (iblk m c 1 t) (iblk m c 2 t) 64 le_rfl)) k0_pay46 (iblk m c 3 t) := by
  unfold outsAt0
  frame_out
  rfl

theorem step_at (x : Vec Ideal S128x128 .f32) (p : Vec Ideal S1x1x128 .f32) (w : Vec Ideal S1x1x128x256 .bf16) (a : FVec Ideal S128x256 .f32)
    (b : Fin 128) (f : Fin 256) : step x p w a (ix2 b f)
      = a (ix2 b f) + ∑ k : Fin 128, ((x : FVec Ideal S128x128 .f32) (ix2 b k) + (p : FVec Ideal S1x1x128 .f32) (ix3 0 0 k)) * (w : FVec Ideal S1x1x128x256 .bf16) (ix4 0 0 k f) := by
  pointwise [step]

/-- The rows added so far, entry by entry. -/
theorem accum_at (r : Memref sig .tc .vmem S8192x128 .f32) (hr : r.IsWhole) (x : FVec Ideal S8192x128 .f32) (p : FVec Ideal S1x64x128 .f32)
    (w : FVec Ideal S1x64x128x256 .bf16) (b : Fin 128) (f : Fin 256) : ∀ (n : ℕ) (h : n ≤ 64), accum r hr x p w n h (ix2 b f)
      = ∑ i : Fin n, ∑ k : Fin 128, (x (ix2 ⟨b.val * 64 + i.val, by omega⟩ k) + p (ix3 0 ⟨i.val, by omega⟩ k)) * w (ix4 0 ⟨i.val, by omega⟩ k f) := by
  intro n
  induction n with
  | zero =>
    intro h
    rw [Fin.sum_univ_zero]
    show Ideal.ofBits .f32 0x00000000#32 = 0
    simp [Ideal.ofBits, Ideal.ieee]
  | succ n ih =>
    intro h
    rw [accum, step_at, ih]
    refine Eq.trans ?_ (Fin.sum_univ_castSucc _).symm
    refine congrArg (fun s : EReal => (∑ i : Fin n, ∑ k : Fin 128, (x (ix2 ⟨b.val * 64 + i.val, by omega⟩ k) + p (ix3 0 ⟨i.val, by omega⟩ k)) * w (ix4 0 ⟨i.val, by omega⟩ k f)) + s) ?_
    refine Finset.sum_congr rfl fun k _ => ?_
    rw [Memref.IsWhole.readAt_unread]
    have hx : (⟨![n, 0], S128x128.size, ![64, 1], inb0 h⟩ : LoadRect S8192x128).idx (ix2 b k : S128x128.Idx) = (ix2 ⟨b.val * 64 + n, by omega⟩ k : S8192x128.Idx) := by
      funext a
      apply Fin.ext
      fin_cases a
      · show n + 64 * b.val = b.val * 64 + n
        omega
      · show 0 + 1 * k.val = k.val
        omega
    have hp : (View.ld (Val := Elt Ideal) (e' := .f32) (p : FVec Ideal S1x64x128 .f32) (Rect.unit ![0, n, 0] S1x1x128.size (inb1 h)) (ix3 0 0 k : S1x1x128.Idx) : EReal) = (p (ix3 0 ⟨n, h⟩ k) : EReal) := by
      refine congrArg p (funext fun a => Fin.ext ?_)
      fin_cases a
      · rfl
      · show n + 1 * 0 = n
        omega
      · show 0 + 1 * k.val = k.val
        omega
    have hw : (View.ld (Val := Elt Ideal) (e' := .bf16) (w : FVec Ideal S1x64x128x256 .bf16) (Rect.unit ![0, n, 0, 0] S1x1x128x256.size (inb2 h)) (ix4 0 0 k f : S1x1x128x256.Idx) : EReal) = (w (ix4 0 ⟨n, h⟩ k f) : EReal) := by
      refine congrArg w (funext fun a => Fin.ext ?_)
      fin_cases a
      · rfl
      · show n + 1 * 0 = n
        omega
      · show 0 + 1 * k.val = k.val
        omega
      · show 0 + 1 * f.val = f.val
        omega
    rw [hx]
    exact congrArg₂ (fun u v => (x (ix2 ⟨b.val * 64 + n, by omega⟩ k) + u) * v) hp hw

/-- What a point writes, of the rows added. -/
theorem pay1_at (a : FVec Ideal S128x256 .f32) (v : FVec Ideal S1x256x128 .bf16) (b l : Fin 128) :
    (k0_pay1 (F := Ideal) a (th a) k0_pay46 v : FVec Ideal S128x128 .f32) (ix2 b l) = ∑ f : Fin 256, gelu (a (ix2 b f)) * v (ix3 0 f l) := by
  pointwise [k0_pay1, k0_pay46, th, gelu]

set_option maxRecDepth 100000 in
theorem idx0 : ∀ t : Fin cfg0.N, win0_0.index t = ![t.val / 4, t.val % 4] := by decide +kernel
set_option maxRecDepth 100000 in
theorem idx1 : ∀ t : Fin cfg0.N, win0_1.index t = ![t.val % 4 / 2, 0, 0] := by decide +kernel
set_option maxRecDepth 100000 in
theorem idx2 : ∀ t : Fin cfg0.N, win0_2.index t = ![t.val % 4 / 2, 0, 0, 0] := by decide +kernel
set_option maxRecDepth 100000 in
theorem idx3 : ∀ t : Fin cfg0.N, win0_3.index t = ![t.val % 4 / 2, 0, 0] := by decide +kernel
set_option maxRecDepth 100000 in
theorem idx4 : ∀ t : Fin cfg0.N, win0_4.index t = ![t.val / 4, t.val % 4] := by decide +kernel

theorem ltN (t : Fin cfg0.N) : t.val < 4 := lt_of_lt_of_eq t.isLt N_0

/-- The positions' weights and the two layers' weights, of the keys and of the values. -/
def pe (g : Fin 2) (r d : Fin 64) : EReal := if g.val = 0 then (m ((c : Thread nD τ).loc main_arg1) : FVec Ideal S64x64 .f32) (ix2 r d)
  else (m ((c : Thread nD τ).loc main_arg4) : FVec Ideal S64x64 .f32) (ix2 r d)
def w1 (g : Fin 2) (q : Fin 4096) (j : Fin 128) : EReal := if g.val = 0 then (m ((c : Thread nD τ).loc main_arg2) : FVec Ideal S4096x128 .f32) (ix2 q j)
  else (m ((c : Thread nD τ).loc main_arg5) : FVec Ideal S4096x128 .f32) (ix2 q j)
def w2 (g : Fin 2) (j : Fin 128) (e : Fin 64) : EReal := if g.val = 0 then (m ((c : Thread nD τ).loc main_arg3) : FVec Ideal S128x64 .f32) (ix2 j e)
  else (m ((c : Thread nD τ).loc main_arg6) : FVec Ideal S128x64 .f32) (ix2 j e)

theorem host1 (g : Fin 2) (r : Fin 64) (k : Fin 128) : (V m c main_v26 : FVec Ideal S2x64x128 .f32) (ix3 g r k)
    = pe m c g r ⟨k.val % 64, by omega⟩ := by
  entry_read
  pointwise
  rcases g with ⟨g, hg⟩
  interval_cases g
  · rw [dif_pos (show (0 : ℕ) < 1 by decide)]
    by_cases hk : k.val < 64
    · after_results_simp
      after_results_loop
      pointwise
      rw [dif_pos hk]
      exact congrArg₂ (fun a b => (m ((c : Thread nD τ).loc main_arg1) : FVec Ideal S64x64 .f32) (ix2 a b))
          (Fin.ext (show r.val = r.val by omega)) (Fin.ext (show k.val = k.val % 64 by omega))
    · after_results_simp
      after_results_loop
      pointwise
      rw [dif_neg hk]
      exact congrArg₂ (fun a b => (m ((c : Thread nD τ).loc main_arg1) : FVec Ideal S64x64 .f32) (ix2 a b))
          (Fin.ext (show r.val = r.val by omega)) (Fin.ext (show k.val - 64 = k.val % 64 by omega))
  · rw [dif_neg (show ¬(1 : ℕ) < 1 by decide)]
    by_cases hk : k.val < 64
    · after_results_simp
      after_results_loop
      pointwise
      rw [dif_pos hk]
      exact congrArg₂ (fun a b => (m ((c : Thread nD τ).loc main_arg4) : FVec Ideal S64x64 .f32) (ix2 a b))
          (Fin.ext (show r.val = r.val by omega)) (Fin.ext (show k.val = k.val % 64 by omega))
    · after_results_simp
      after_results_loop
      pointwise
      rw [dif_neg hk]
      exact congrArg₂ (fun a b => (m ((c : Thread nD τ).loc main_arg4) : FVec Ideal S64x64 .f32) (ix2 a b))
          (Fin.ext (show r.val = r.val by omega)) (Fin.ext (show k.val - 64 = k.val % 64 by omega))

theorem host2 (g : Fin 2) (r : Fin 64) (k : Fin 128) (f : Fin 256) : (V m c main_v29 : FVec Ideal S2x64x128x256 .bf16) (ix4 g r k f)
    = if k.val / 64 = f.val / 128 then w1 m c g ⟨r.val * 64 + k.val % 64, by omega⟩ ⟨f.val % 128, by omega⟩ else (0 : EReal) := by
  entry_read
  pointwise
  rcases g with ⟨g, hg⟩
  interval_cases g
  · rw [dif_pos (show (0 : ℕ) < 1 by decide)]
    by_cases hf : k.val < 64
    · rw [dif_pos hf]
      after_results_simp
      after_results_loop
      pointwise
      by_cases hk : f.val < 128
      · rw [dif_pos hk]
        refine Eq.trans ?_ (if_pos (by omega)).symm
        exact congrArg₂ (fun a b => (m ((c : Thread nD τ).loc main_arg2) : FVec Ideal S4096x128 .f32) (ix2 a b))
          (Fin.ext (show r.val * 64 + k.val = r.val * 64 + k.val % 64 by omega)) (Fin.ext (show f.val = f.val % 128 by omega))
      · rw [dif_neg hk]
        exact (if_neg (by omega)).symm
    · rw [dif_neg hf]
      after_results_simp
      after_results_loop
      pointwise
      by_cases hk : f.val < 128
      · rw [dif_pos hk]
        exact (if_neg (by omega)).symm
      · rw [dif_neg hk]
        refine Eq.trans ?_ (if_pos (by omega)).symm
        exact congrArg₂ (fun a b => (m ((c : Thread nD τ).loc main_arg2) : FVec Ideal S4096x128 .f32) (ix2 a b))
          (Fin.ext (show r.val * 64 + (k.val - 64) = r.val * 64 + k.val % 64 by omega)) (Fin.ext (show f.val - 128 = f.val % 128 by omega))
  · rw [dif_neg (show ¬(1 : ℕ) < 1 by decide)]
    by_cases hf : k.val < 64
    · rw [dif_pos hf]
      after_results_simp
      after_results_loop
      pointwise
      by_cases hk : f.val < 128
      · rw [dif_pos hk]
        refine Eq.trans ?_ (if_pos (by omega)).symm
        exact congrArg₂ (fun a b => (m ((c : Thread nD τ).loc main_arg5) : FVec Ideal S4096x128 .f32) (ix2 a b))
          (Fin.ext (show r.val * 64 + k.val = r.val * 64 + k.val % 64 by omega)) (Fin.ext (show f.val = f.val % 128 by omega))
      · rw [dif_neg hk]
        exact (if_neg (by omega)).symm
    · rw [dif_neg hf]
      after_results_simp
      after_results_loop
      pointwise
      by_cases hk : f.val < 128
      · rw [dif_pos hk]
        exact (if_neg (by omega)).symm
      · rw [dif_neg hk]
        refine Eq.trans ?_ (if_pos (by omega)).symm
        exact congrArg₂ (fun a b => (m ((c : Thread nD τ).loc main_arg5) : FVec Ideal S4096x128 .f32) (ix2 a b))
          (Fin.ext (show r.val * 64 + (k.val - 64) = r.val * 64 + k.val % 64 by omega)) (Fin.ext (show f.val - 128 = f.val % 128 by omega))

theorem host3 (g : Fin 2) (f : Fin 256) (l : Fin 128) : (V m c main_v32 : FVec Ideal S2x256x128 .bf16) (ix3 g f l)
    = if f.val / 128 = l.val / 64 then w2 m c g ⟨f.val % 128, by omega⟩ ⟨l.val % 64, by omega⟩ else (0 : EReal) := by
  entry_read
  pointwise
  rcases g with ⟨g, hg⟩
  interval_cases g
  · rw [dif_pos (show (0 : ℕ) < 1 by decide)]
    by_cases hf : f.val < 128
    · rw [dif_pos hf]
      after_results_simp
      after_results_loop
      pointwise
      by_cases hk : l.val < 64
      · rw [dif_pos hk]
        refine Eq.trans ?_ (if_pos (by omega)).symm
        exact congrArg₂ (fun a b => (m ((c : Thread nD τ).loc main_arg3) : FVec Ideal S128x64 .f32) (ix2 a b))
          (Fin.ext (show f.val = f.val % 128 by omega)) (Fin.ext (show l.val = l.val % 64 by omega))
      · rw [dif_neg hk]
        exact (if_neg (by omega)).symm
    · rw [dif_neg hf]
      after_results_simp
      after_results_loop
      pointwise
      by_cases hk : l.val < 64
      · rw [dif_pos hk]
        exact (if_neg (by omega)).symm
      · rw [dif_neg hk]
        refine Eq.trans ?_ (if_pos (by omega)).symm
        exact congrArg₂ (fun a b => (m ((c : Thread nD τ).loc main_arg3) : FVec Ideal S128x64 .f32) (ix2 a b))
          (Fin.ext (show f.val - 128 = f.val % 128 by omega)) (Fin.ext (show l.val - 64 = l.val % 64 by omega))
  · rw [dif_neg (show ¬(1 : ℕ) < 1 by decide)]
    by_cases hf : f.val < 128
    · rw [dif_pos hf]
      after_results_simp
      after_results_loop
      pointwise
      by_cases hk : l.val < 64
      · rw [dif_pos hk]
        refine Eq.trans ?_ (if_pos (by omega)).symm
        exact congrArg₂ (fun a b => (m ((c : Thread nD τ).loc main_arg6) : FVec Ideal S128x64 .f32) (ix2 a b))
          (Fin.ext (show f.val = f.val % 128 by omega)) (Fin.ext (show l.val = l.val % 64 by omega))
      · rw [dif_neg hk]
        exact (if_neg (by omega)).symm
    · rw [dif_neg hf]
      after_results_simp
      after_results_loop
      pointwise
      by_cases hk : l.val < 64
      · rw [dif_pos hk]
        exact (if_neg (by omega)).symm
      · rw [dif_neg hk]
        refine Eq.trans ?_ (if_pos (by omega)).symm
        exact congrArg₂ (fun a b => (m ((c : Thread nD τ).loc main_arg6) : FVec Ideal S128x64 .f32) (ix2 a b))
          (Fin.ext (show f.val - 128 = f.val % 128 by omega)) (Fin.ext (show l.val - 64 = l.val % 64 by omega))

theorem blk0 (t : Fin cfg0.N) (r : Fin 8192) (k : Fin 128) : (X0_0 m c t : FVec Ideal S8192x128 .f32) (ix2 r k)
    = (m ((c : Thread nD τ).loc main_arg0) : FVec Ideal S9216x1536 .f32)
        (ix2 ⟨t.val / 4 * 8192 + r.val, by have := ltN t; omega⟩ ⟨t.val % 4 * 128 + k.val, by omega⟩) := by
  unfold X0_0 Pipeline.Window.fill
  rw [dif_pos (moved0_0 t (ix2 r k : S8192x128.Idx))]
  blk_ext [iblk, V_main_arg0, idx0 t]

theorem blk1 (t : Fin cfg0.N) (r : Fin 64) (k : Fin 128) : (iblk m c 1 t : FVec Ideal S1x64x128 .f32) (ix3 0 r k)
    = (V m c main_v26 : FVec Ideal S2x64x128 .f32) (ix3 ⟨t.val % 4 / 2, by omega⟩ r k) := by
  blk_ext [iblk, idx1 t]

theorem blk2 (t : Fin cfg0.N) (r : Fin 64) (k : Fin 128) (f : Fin 256) : (iblk m c 2 t : FVec Ideal S1x64x128x256 .bf16) (ix4 0 r k f)
    = (V m c main_v29 : FVec Ideal S2x64x128x256 .bf16) (ix4 ⟨t.val % 4 / 2, by omega⟩ r k f) := by
  blk_ext [iblk, idx2 t]

theorem blk3 (t : Fin cfg0.N) (f : Fin 256) (l : Fin 128) : (iblk m c 3 t : FVec Ideal S1x256x128 .bf16) (ix3 0 f l)
    = (V m c main_v32 : FVec Ideal S2x256x128 .bf16) (ix3 ⟨t.val % 4 / 2, by omega⟩ f l) := by
  blk_ext [iblk, idx3 t]

/-- The row and the column of the result that those of a point's block are. -/
abbrev row (t : Fin cfg0.N) (b : Fin 128) : Fin 128 := ⟨t.val / 4 * 128 + b.val, by have := ltN t; omega⟩
abbrev col (t : Fin cfg0.N) (l : Fin 128) : Fin 512 := ⟨t.val % 4 * 128 + l.val, by omega⟩

/-- What a point writes, entry by entry. -/
theorem written (t : Fin cfg0.N) (b l : Fin 128) : (outsAt0 m c t : FVec Ideal S128x128 .f32) (ix2 b l)
    = outAt (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (row t b) (col t l) := by
  have hg : (⟨t.val % 4 / 2, by omega⟩ : Fin 2) = ⟨(col t l).val / 256, by omega⟩ :=
    Fin.ext (show t.val % 4 / 2 = (t.val % 4 * 128 + l.val) / 256 by omega)
  rw [out_eq, pay1_at]
  simp only [accum_at]
  refine (blocks (fun r k => (X0_0 m c t : FVec Ideal S8192x128 .f32) (ix2 ⟨b.val * 64 + r.val, by omega⟩ k))
    (fun r k => (iblk m c 1 t : FVec Ideal S1x64x128 .f32) (ix3 0 r k)) (pe m c ⟨(col t l).val / 256, by omega⟩)
    (fun r k f => (iblk m c 2 t : FVec Ideal S1x64x128x256 .bf16) (ix4 0 r k f))
    (fun f l => (iblk m c 3 t : FVec Ideal S1x256x128 .bf16) (ix3 0 f l)) (w1 m c ⟨(col t l).val / 256, by omega⟩)
    (w2 m c ⟨(col t l).val / 256, by omega⟩)
    (fun r k => by rw [blk1, host1, hg]) (fun r k f => by rw [blk2, host2, hg]) (fun f l' => by rw [blk3, host3, hg]) l).trans ?_
  unfold outAt
  have hq : (⟨l.val % 64, by omega⟩ : Fin 64) = ⟨(col t l).val % 64, by omega⟩ :=
    Fin.ext (show l.val % 64 = (t.val % 4 * 128 + l.val) % 64 by omega)
  rw [hq]
  refine congrArg (fun z => cmpr z (w1 m c ⟨(col t l).val / 256, by omega⟩) (w2 m c ⟨(col t l).val / 256, by omega⟩) ⟨(col t l).val % 64, by omega⟩)
    (funext fun q => ?_)
  refine congrArg (fun z : EReal => z + pe m c ⟨(col t l).val / 256, by omega⟩ ⟨q.val / 64, by omega⟩ ⟨q.val % 64, by omega⟩) ?_
  have ht := ltN t
  beta_reduce
  rw [blk0]
  refine congrArg (m ((c : Thread nD τ).loc main_arg0) : FVec Ideal S9216x1536 .f32) (funext fun a => Fin.ext ?_)
  match a with
  | ⟨0, _⟩ =>
    show t.val / 4 * 8192 + (b.val * 64 + q.val / 64) = (t.val / 4 * 128 + b.val) * 64 + q.val / 64
    omega
  | ⟨1, _⟩ =>
    show t.val % 4 * 128 + (l.val / 64 * 64 + q.val % 64) = (t.val % 4 * 128 + l.val) / 64 * 64 + q.val % 64
    omega

/-- The result array. -/
theorem arr_eq : (dats m 0 c).arrAt 4 cfg0.N = (fun i => outAt (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (i 0) (i 1) : FVec Ideal S128x512 .f32) := by
  refine (dats m 0 c).arrAt_eq_of_covers 4 _ (by decide +kernel) fun t hf y => ?_
  blk_simp
  rw [after0_4]
  obtain ⟨b, l, rfl⟩ : ∃ b l : Fin 128, y = ix2 b l := ⟨y 0, y 1, eq_ix2 y⟩
  rw [written]
  have he : (win0_4.blk t).view.emb (ix2 b l : S128x128.Idx) = (ix2 (row t b) (col t l) : S128x512.Idx) := by
    funext a
    apply Fin.ext
    fin_cases a
    all_goals
      blk_simp [idx4 t]
      rfl
  rw [he]
  rfl

end Cert.Kernel11Ideal.Cmp

end
-- ==== Proof.C11Ref.lean ====
/-
  The compression's reference over the rows of the prompt, read entry by entry.
-/
module

public import proofs.«01_k».proof.Proof.C11Step
public import proofs.«01_k».proof.Proof.Gen.Reference11Ideal.Read

@[expose] public section

noncomputable section

namespace Cert.Reference11Ideal.Cmp

open Idealize.ShloMosaic Cert.Reference11Ideal.Gen Cert.Reference11Ideal.Read Cert.Cmp

variable (x0 : FVec Ideal ⟨2, ![9216, 1536]⟩ .f32) (x1 : FVec Ideal ⟨2, ![64, 64]⟩ .f32) (x2 : FVec Ideal ⟨2, ![4096, 128]⟩ .f32)
  (x3 : FVec Ideal ⟨2, ![128, 64]⟩ .f32) (x4 : FVec Ideal ⟨2, ![64, 64]⟩ .f32) (x5 : FVec Ideal ⟨2, ![4096, 128]⟩ .f32)
  (x6 : FVec Ideal ⟨2, ![128, 64]⟩ .f32)

/-- The rows of a block laid end to end, the keys. -/
theorem v9_at (n : Fin 2) (h : Fin 64) (d : Fin 4) (q : Fin 4096) : val_main_v9 (F := Ideal) x0 x1 (ix4 n h d q)
    = x0 (ix2 ⟨n.val * 4096 + (h.val * 64 + q.val / 64), by omega⟩ ⟨0 + d.val * 64 + q.val % 64, by omega⟩) + x1 (ix2 ⟨q.val / 64, by omega⟩ ⟨q.val % 64, by omega⟩) := by
  pointwise [val_main_v9, val_main_v8, val_main_v7, val_main_v6, val_main_v5, val_main_v4, val_main_v3, val_main_v2, val_main_v1, val_main_v0]

/-- The hidden layer before its activation, the keys. -/
theorem v10_at (n : Fin 2) (h : Fin 64) (d : Fin 4) (j : Fin 128) : val_main_v10 (F := Ideal) x0 x1 x2 (ix4 n h d j)
    = ∑ q : Fin 4096, (x0 (ix2 ⟨n.val * 4096 + (h.val * 64 + q.val / 64), by omega⟩ ⟨0 + d.val * 64 + q.val % 64, by omega⟩)
        + x1 (ix2 ⟨q.val / 64, by omega⟩ ⟨q.val % 64, by omega⟩)) * x2 (ix2 q j) := by
  simp only [← v9_at]
  pointwise [val_main_v10]

/-- The hidden layer, the keys. -/
theorem v23_at (n : Fin 2) (h : Fin 64) (d : Fin 4) (j : Fin 128) : val_main_v23 (F := Ideal) x0 x1 x2 (ix4 n h d j)
    = gelu (val_main_v10 (F := Ideal) x0 x1 x2 (ix4 n h d j)) := by
  unfold gelu
  generalize hy : val_main_v10 (F := Ideal) x0 x1 x2 = y
  rw [← mul_comm (y (ix4 n h d j) * y (ix4 n h d j)) (y (ix4 n h d j))]
  pointwise [val_main_v23, val_main_v22, val_main_v21, val_main_v20, val_main_v19, val_main_v18, val_main_v17, val_main_v16, val_main_v15, val_main_v14, val_main_v13, val_main_v12, val_main_v11, val_main_cst, val_main_cst_0, val_main_cst_1, val_main_cst_2, hy]

/-- The compressed row, the keys. -/
theorem v24_at (n : Fin 2) (h : Fin 64) (d : Fin 4) (e : Fin 64) : val_main_v24 (F := Ideal) x0 x1 x2 x3 (ix4 n h d e)
    = cmpr (fun q => x0 (ix2 ⟨n.val * 4096 + (h.val * 64 + q.val / 64), by omega⟩ ⟨0 + d.val * 64 + q.val % 64, by omega⟩)
        + x1 (ix2 ⟨q.val / 64, by omega⟩ ⟨q.val % 64, by omega⟩)) (fun q j => x2 (ix2 q j)) (fun j e => x3 (ix2 j e)) e := by
  unfold cmpr
  simp only [← v10_at, ← v23_at]
  pointwise [val_main_v24]

/-- The rows of a block laid end to end, the values. -/
theorem v32_at (n : Fin 2) (h : Fin 64) (d : Fin 4) (q : Fin 4096) : val_main_v32 (F := Ideal) x0 x4 (ix4 n h d q)
    = x0 (ix2 ⟨n.val * 4096 + (h.val * 64 + q.val / 64), by omega⟩ ⟨256 + d.val * 64 + q.val % 64, by omega⟩) + x4 (ix2 ⟨q.val / 64, by omega⟩ ⟨q.val % 64, by omega⟩) := by
  pointwise [val_main_v32, val_main_v31, val_main_v30, val_main_v29, val_main_v28, val_main_v27, val_main_v26, val_main_v25, val_main_v1, val_main_v0]

/-- The hidden layer before its activation, the values. -/
theorem v33_at (n : Fin 2) (h : Fin 64) (d : Fin 4) (j : Fin 128) : val_main_v33 (F := Ideal) x0 x4 x5 (ix4 n h d j)
    = ∑ q : Fin 4096, (x0 (ix2 ⟨n.val * 4096 + (h.val * 64 + q.val / 64), by omega⟩ ⟨256 + d.val * 64 + q.val % 64, by omega⟩)
        + x4 (ix2 ⟨q.val / 64, by omega⟩ ⟨q.val % 64, by omega⟩)) * x5 (ix2 q j) := by
  simp only [← v32_at]
  pointwise [val_main_v33]

/-- The hidden layer, the values. -/
theorem v46_at (n : Fin 2) (h : Fin 64) (d : Fin 4) (j : Fin 128) : val_main_v46 (F := Ideal) x0 x4 x5 (ix4 n h d j)
    = gelu (val_main_v33 (F := Ideal) x0 x4 x5 (ix4 n h d j)) := by
  unfold gelu
  generalize hy : val_main_v33 (F := Ideal) x0 x4 x5 = y
  rw [← mul_comm (y (ix4 n h d j) * y (ix4 n h d j)) (y (ix4 n h d j))]
  pointwise [val_main_v46, val_main_v45, val_main_v44, val_main_v43, val_main_v42, val_main_v41, val_main_v40, val_main_v39, val_main_v38, val_main_v37, val_main_v36, val_main_v35, val_main_v34, val_main_cst_3, val_main_cst_4, val_main_cst_5, val_main_cst_6, hy]

/-- The compressed row, the values. -/
theorem v47_at (n : Fin 2) (h : Fin 64) (d : Fin 4) (e : Fin 64) : val_main_v47 (F := Ideal) x0 x4 x5 x6 (ix4 n h d e)
    = cmpr (fun q => x0 (ix2 ⟨n.val * 4096 + (h.val * 64 + q.val / 64), by omega⟩ ⟨256 + d.val * 64 + q.val % 64, by omega⟩)
        + x4 (ix2 ⟨q.val / 64, by omega⟩ ⟨q.val % 64, by omega⟩)) (fun q j => x5 (ix2 q j)) (fun j e => x6 (ix2 j e)) e := by
  unfold cmpr
  simp only [← v33_at, ← v46_at]
  pointwise [val_main_v47]

/-- Where the result's entry comes from. -/
theorem v51_v50 (i : Fin 128) (l : Fin 512) : val_main_v51 (F := Ideal) x0 x1 x2 x3 x4 x5 x6 (ix2 i l)
    = val_main_v50 (F := Ideal) x0 x1 x2 x3 x4 x5 x6 (ix5 ⟨i.val / 64, by omega⟩ ⟨i.val % 64, by omega⟩ ⟨l.val / 256, by omega⟩ ⟨l.val / 64 % 4, by omega⟩ ⟨l.val % 64, by omega⟩) := by
  pointwise [val_main_v51]

/-- The result, entry by entry. -/
theorem v51_at (i : Fin 128) (l : Fin 512) : val_main_v51 (F := Ideal) x0 x1 x2 x3 x4 x5 x6 (ix2 i l)
    = Cert.Kernel11Ideal.Cmp.outAt x0 x1 x2 x3 x4 x5 x6 i l := by
  unfold Cert.Kernel11Ideal.Cmp.outAt
  rw [v51_v50]
  by_cases hl : l.val / 256 = 0
  · simp only [if_pos hl]
    have hc : (⟨l.val / 256, by omega⟩ : Fin 2) = 0 := Fin.ext hl
    rw [hc]
    have hx : ∀ q : Fin 4096, (ix2 ⟨i.val * 64 + q.val / 64, by omega⟩ ⟨l.val / 64 * 64 + q.val % 64, by omega⟩ : S9216x1536.Idx)
        = ix2 ⟨i.val / 64 * 4096 + (i.val % 64 * 64 + q.val / 64), by omega⟩ ⟨0 + l.val / 64 % 4 * 64 + q.val % 64, by omega⟩ := fun q =>
      congrArg₂ ix2 (Fin.ext (show i.val * 64 + q.val / 64 = i.val / 64 * 4096 + (i.val % 64 * 64 + q.val / 64) by omega))
        (Fin.ext (show l.val / 64 * 64 + q.val % 64 = 0 + l.val / 64 % 4 * 64 + q.val % 64 by omega))
    simp only [hx]
    refine Eq.trans ?_ (v24_at x0 x1 x2 x3 ⟨i.val / 64, by omega⟩ ⟨i.val % 64, by omega⟩ ⟨l.val / 64 % 4, by omega⟩ ⟨l.val % 64, by omega⟩)
    generalize hz : val_main_v24 (F := Ideal) x0 x1 x2 x3 = z
    pointwise [val_main_v50, val_main_v48, hz]
  · simp only [if_neg hl]
    have hc : (⟨l.val / 256, by omega⟩ : Fin 2) = 1 := Fin.ext (show l.val / 256 = 1 by omega)
    rw [hc]
    have hx : ∀ q : Fin 4096, (ix2 ⟨i.val * 64 + q.val / 64, by omega⟩ ⟨l.val / 64 * 64 + q.val % 64, by omega⟩ : S9216x1536.Idx)
        = ix2 ⟨i.val / 64 * 4096 + (i.val % 64 * 64 + q.val / 64), by omega⟩ ⟨256 + l.val / 64 % 4 * 64 + q.val % 64, by omega⟩ := fun q =>
      congrArg₂ ix2 (Fin.ext (show i.val * 64 + q.val / 64 = i.val / 64 * 4096 + (i.val % 64 * 64 + q.val / 64) by omega))
        (Fin.ext (show l.val / 64 * 64 + q.val % 64 = 256 + l.val / 64 % 4 * 64 + q.val % 64 by omega))
    simp only [hx]
    refine Eq.trans ?_ (v47_at x0 x4 x5 x6 ⟨i.val / 64, by omega⟩ ⟨i.val % 64, by omega⟩ ⟨l.val / 64 % 4, by omega⟩ ⟨l.val % 64, by omega⟩)
    generalize hz : val_main_v47 (F := Ideal) x0 x4 x5 x6 = z
    pointwise [val_main_v50, val_main_v49, hz]

/-- The result array. -/
theorem v51_eq : val_main_v51 (F := Ideal) x0 x1 x2 x3 x4 x5 x6
    = (fun i => Cert.Kernel11Ideal.Cmp.outAt x0 x1 x2 x3 x4 x5 x6 (i 0) (i 1) : FVec Ideal S128x512 .f32) := by
  funext i
  obtain ⟨a, b, rfl⟩ : ∃ (a : Fin 128) (b : Fin 512), i = ix2 a b := ⟨i 0, i 1, eq_ix2 i⟩
  exact v51_at x0 x1 x2 x3 x4 x5 x6 a b

end Cert.Reference11Ideal.Cmp

end
-- ==== Proof.lean ====
/-
  The claims, assembled: the attention kernel terminates and keeps its arguments, as printed and idealized; its
  idealization puts −∞ for the mask; and at the extended reals its result is the reference's, wherever the queries,
  keys and values are real numbers. The network's two kernels, with the final norm and without, terminate and keep
  their arguments too, and their results are the references' of any arguments; and so of four input projections, the
  merge of the branches, the projection back to the residual stream, and the compression of the cache's pages and of
  the prompt's rows.
-/
module

public import proofs.«01_k».proof.Defs
public import proofs.«01_k».proof.Proof.BFrame
public import proofs.«01_k».proof.Proof.KValue
public import proofs.«01_k».proof.Proof.ROut
public import proofs.«01_k».proof.Proof.Pre
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Value
public import proofs.«01_k».proof.Proof.Gen.Kernel3.Frame
public import proofs.«01_k».proof.Proof.Gen.Kernel3Ideal.Value
public import proofs.«01_k».proof.Proof.Gen.Reference2Ideal.Run
public import proofs.«01_k».proof.Proof.Gen.Reference2Ideal.Read
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.M2Step
public import proofs.«01_k».proof.Proof.M2Ref
public import proofs.«01_k».proof.Proof.M3Step
public import proofs.«01_k».proof.Proof.M3Ref
public import proofs.«01_k».proof.Proof.P4Step
public import proofs.«01_k».proof.Proof.P4Ref
public import proofs.«01_k».proof.Proof.P5Step
public import proofs.«01_k».proof.Proof.P5Ref
public import proofs.«01_k».proof.Proof.P6Step
public import proofs.«01_k».proof.Proof.P6Ref
public import proofs.«01_k».proof.Proof.P7Step
public import proofs.«01_k».proof.Proof.P7Ref
public import proofs.«01_k».proof.Proof.B8Step
public import proofs.«01_k».proof.Proof.B9Step
public import proofs.«01_k».proof.Proof.C10Step
public import proofs.«01_k».proof.Proof.C10Ref
public import proofs.«01_k».proof.Proof.C11Step
public import proofs.«01_k».proof.Proof.C11Ref
public import Idealize.ShloMosaic.Adequacy
public import Idealize.ShloMosaic.Init

@[expose] public section

noncomputable section

namespace Cert.Proof

open Idealize.ShloMosaic Idealize.ShloMosaic.TcCoe Idealize.SL.Sem

theorem frame_p : Cert.quiescent_Kernel (hKernel := Cert.Kernel.Gen.facts) := fun m ρ _ => Cert.Kernel.Nsa.frame m ρ

theorem frame_pi : Cert.quiescent_KernelIdeal (hKernelIdeal := Cert.KernelIdeal.Gen.facts) :=
  fun m ρ _ => Cert.KernelIdeal.Nsa.frame m ρ

theorem frame_pi_pre : Cert.quiescent_KernelIdeal_pre_real_inputs (hKernelIdeal := Cert.KernelIdeal.Gen.facts)
    (hPre_real_inputs := Cert.Nsa.pre_facts) := fun m ρ _ => Cert.KernelIdeal.Nsa.frame m ρ

/-- The reference's arguments end unchanged; it declares no semaphore. -/
theorem frame_r : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_r_pre : Cert.quiescent_ReferenceIdeal_pre_real_inputs (hReferenceIdeal := Cert.ReferenceIdeal.Gen.facts)
    (hPre_real_inputs := Cert.Nsa.pre_facts) := fun m ρ _ => frame_r m ρ trivial

theorem mask : Cert.preserves_Kernel_KernelIdeal := IdealRules.named_const.statement _ "mask" .f32 0xF149F2CA#32 ⊥ rfl

/-- The reference's result, of real queries, keys and values. -/
theorem ref_val (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩
      (fun r => ∀ c : Dev Cert.ReferenceIdeal.nD,
        r.2.mem ((c.tc : Thread Cert.ReferenceIdeal.nD Cert.ReferenceIdeal.τ).loc Cert.ReferenceIdeal.main_v175)
          = Cert.ReferenceIdeal.Read.val_main_v175 (F := Ideal)
            (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg2))
            (m' ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) :=
  (θ_run Cert.ReferenceIdeal.defs _ _).mono
    (fun _ h c => ⟨(h c).1.trans (Cert.ReferenceIdeal.Read.val_main_v175_eq (F := Ideal) (StableHlo.launchContents m' c)), (h c).2⟩)
    (Cert.ReferenceIdeal.Value.run (F := Ideal) m' ρ')

theorem value : Cert.algebraic_KernelIdeal_ReferenceIdeal_pre_real_inputs (hKernelIdeal := Cert.KernelIdeal.Gen.facts)
    (hReferenceIdeal := Cert.ReferenceIdeal.Gen.facts) (hPre_real_inputs := Cert.Nsa.pre_facts) := by
  intro m ρ m' ρ' pre hag
  have hr := fun c => @Cert.Nsa.pre_real Cert.Nsa.pre_facts _ _ _ _ (pre c)
  refine ⟨fun c => Cert.Nsa.G m c, (θ_run Cert.KernelIdeal.defs _ _).mono
      (fun _ h c => ⟨(h c).1.trans (Cert.Nsa.arr_eq m c (hr c).1 (hr c).2.1 (hr c).2.2), (h c).2⟩) (Cert.KernelIdeal.Nsa.run_blocks m ρ),
    (θ_run Cert.ReferenceIdeal.defs _ _).mono (fun _ h c => ⟨(h c).1.trans ?_, (h c).2⟩) (ref_val m' ρ')⟩
  rw [(hag c).1, (hag c).2.1, (hag c).2.2.1, (hag c).2.2.2]
  exact Cert.ReferenceIdeal.Nsa.res_eq _ _ _ _ (hr c).1 (hr c).2.1 (hr c).2.2

/-! ### The network with the final norm -/

theorem frame_p2 : Cert.quiescent_Kernel2 (hKernel2 := Cert.Kernel2.Gen.facts) := fun m ρ _ => Cert.Kernel2.Gen.frame m ρ

theorem frame_pi2 : Cert.quiescent_Kernel2Ideal (hKernel2Ideal := Cert.Kernel2Ideal.Gen.facts) :=
  fun m ρ _ => Cert.Kernel2Ideal.Gen.frame m ρ

/-- The reference's arguments end unchanged; it declares no semaphore. -/
theorem frame_r2 : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- The kernel's result is the reference's, of any arguments at the extended reals. -/
theorem value2 : Cert.algebraic_Kernel2Ideal_Reference2Ideal (hKernel2Ideal := Cert.Kernel2Ideal.Gen.facts)
    (hReference2Ideal := Cert.Reference2Ideal.Gen.facts) := by
  intro m ρ m' ρ' _ hag
  refine ⟨fun c => Cert.Kernel2Ideal.Value.G5 m c, Cert.Kernel2Ideal.Value.run m ρ,
    (θ_run Cert.Reference2Ideal.defs _ _).mono (fun _ h c => ⟨(h c).1.trans ?_, (h c).2⟩) (Cert.Reference2Ideal.Value.run (F := Ideal) m' ρ')⟩
  obtain ⟨a0, a1, a2, a3, a4⟩ := hag c
  refine (Cert.Reference2Ideal.Read.val_main_v30_eq (F := Ideal) m' c).trans ?_
  funext i
  obtain ⟨r, j, rfl⟩ : ∃ r j, i = ix2 r j := ⟨i 0, i 1, eq_ix2 i⟩
  refine (Cert.Reference2Ideal.Mlp.v30_at _ _ _ _ _ r j).trans (Eq.trans ?_ (Cert.Kernel2Ideal.Mlp.arr_at m c r j).symm)
  rw [a0, a1, a2, a3, a4]

/-! ### The network without the final norm -/

theorem frame_p3 : Cert.quiescent_Kernel3 (hKernel3 := Cert.Kernel3.Gen.facts) := fun m ρ _ => Cert.Kernel3.Gen.frame m ρ

theorem frame_pi3 : Cert.quiescent_Kernel3Ideal (hKernel3Ideal := Cert.Kernel3Ideal.Gen.facts) :=
  fun m ρ _ => Cert.Kernel3Ideal.Gen.frame m ρ

/-- The reference's arguments end unchanged; it declares no semaphore. -/
theorem frame_r3 : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- The kernel's result is the reference's, of any arguments at the extended reals. -/
theorem value3 : Cert.algebraic_Kernel3Ideal_Reference3Ideal (hKernel3Ideal := Cert.Kernel3Ideal.Gen.facts)
    (hReference3Ideal := Cert.Reference3Ideal.Gen.facts) := by
  intro m ρ m' ρ' _ hag
  refine ⟨fun c => Cert.Kernel3Ideal.Value.G5 m c, Cert.Kernel3Ideal.Value.run m ρ,
    (θ_run Cert.Reference3Ideal.defs _ _).mono (fun _ h c => ⟨(h c).1.trans ?_, (h c).2⟩) (Cert.Reference3Ideal.Value.run (F := Ideal) m' ρ')⟩
  obtain ⟨a0, a1, a2, a3, a4⟩ := hag c
  refine (Cert.Reference3Ideal.Read.val_main_v17_eq (F := Ideal) _ _ _ _).trans ?_
  funext i
  obtain ⟨r, j, rfl⟩ : ∃ r j, i = ix2 r j := ⟨i 0, i 1, eq_ix2 i⟩
  refine (Cert.Reference3Ideal.Mlp.v17_at _ _ _ _ r j).trans (Eq.trans ?_ (Cert.Kernel3Ideal.Mlp.arr_at m c r j).symm)
  rw [a0, a1, a2, a3]

/-! ### The projection to keys and values -/

theorem frame_p4 : Cert.quiescent_Kernel4 (hKernel4 := Cert.Kernel4.Gen.facts) := fun m ρ _ => Cert.Kernel4.Gen.frame m ρ

theorem frame_pi4 : Cert.quiescent_Kernel4Ideal (hKernel4Ideal := Cert.Kernel4Ideal.Gen.facts) :=
  fun m ρ _ => Cert.Kernel4Ideal.Gen.frame m ρ

/-- The reference's arguments end unchanged; it declares no semaphore. -/
theorem frame_r4 : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

/-- The kernel's result is the reference's, of any arguments at the extended reals. -/
theorem value4 : Cert.algebraic_Kernel4Ideal_Reference4Ideal (hKernel4Ideal := Cert.Kernel4Ideal.Gen.facts)
    (hReference4Ideal := Cert.Reference4Ideal.Gen.facts) := by
  intro m ρ m' ρ' _ hag
  refine ⟨fun c => Cert.Kernel4Ideal.Value.G3 m c, Cert.Kernel4Ideal.Value.run m ρ,
    (θ_run Cert.Reference4Ideal.defs _ _).mono (fun _ h c => ⟨(h c).1.trans ?_, (h c).2⟩) (Cert.Reference4Ideal.Value.run (F := Ideal) m' ρ')⟩
  obtain ⟨a0, a1, a2⟩ := hag c
  refine (Cert.Reference4Ideal.Read.val_main_v14_eq (F := Ideal) _ _ _).trans ?_
  funext i
  obtain ⟨r, j, rfl⟩ : ∃ r j, i = ix2 r j := ⟨i 0, i 1, eq_ix2 i⟩
  refine (Cert.Reference4Ideal.Proj.v14_at _ _ _ r j).trans (Eq.trans ?_ (Cert.Kernel4Ideal.Proj.arr_at m c r j).symm)
  rw [a0, a1, a2]

/-! ### The projection to the pooled channels -/

theorem frame_p5 : Cert.quiescent_Kernel5 (hKernel5 := Cert.Kernel5.Gen.facts) := fun m ρ _ => Cert.Kernel5.Gen.frame m ρ

theorem frame_pi5 : Cert.quiescent_Kernel5Ideal (hKernel5Ideal := Cert.Kernel5Ideal.Gen.facts) :=
  fun m ρ _ => Cert.Kernel5Ideal.Gen.frame m ρ

/-- The reference's arguments end unchanged; it declares no semaphore. -/
theorem frame_r5 : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

/-- The kernel's result is the reference's, of any arguments at the extended reals. -/
theorem value5 : Cert.algebraic_Kernel5Ideal_Reference5Ideal (hKernel5Ideal := Cert.Kernel5Ideal.Gen.facts)
    (hReference5Ideal := Cert.Reference5Ideal.Gen.facts) := by
  intro m ρ m' ρ' _ hag
  refine ⟨fun c => Cert.Kernel5Ideal.Value.G3 m c, Cert.Kernel5Ideal.Value.run m ρ,
    (θ_run Cert.Reference5Ideal.defs _ _).mono (fun _ h c => ⟨(h c).1.trans ?_, (h c).2⟩) (Cert.Reference5Ideal.Value.run (F := Ideal) m' ρ')⟩
  obtain ⟨a0, a1, a2⟩ := hag c
  refine (Cert.Reference5Ideal.Read.val_main_v14_eq (F := Ideal) _ _ _).trans ?_
  funext i
  obtain ⟨r, j, rfl⟩ : ∃ r j, i = ix2 r j := ⟨i 0, i 1, eq_ix2 i⟩
  refine (Cert.Reference5Ideal.Proj.v14_at _ _ _ r j).trans (Eq.trans ?_ (Cert.Kernel5Ideal.Proj.arr_at m c r j).symm)
  rw [a0, a1, a2]

/-! ### The projection to the branches' gates -/

theorem frame_p6 : Cert.quiescent_Kernel6 (hKernel6 := Cert.Kernel6.Gen.facts) := fun m ρ _ => Cert.Kernel6.Gen.frame m ρ

theorem frame_pi6 : Cert.quiescent_Kernel6Ideal (hKernel6Ideal := Cert.Kernel6Ideal.Gen.facts) :=
  fun m ρ _ => Cert.Kernel6Ideal.Gen.frame m ρ

/-- The reference's arguments end unchanged; it declares no semaphore. -/
theorem frame_r6 : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

/-- The kernel's result is the reference's, of any arguments at the extended reals. -/
theorem value6 : Cert.algebraic_Kernel6Ideal_Reference6Ideal (hKernel6Ideal := Cert.Kernel6Ideal.Gen.facts)
    (hReference6Ideal := Cert.Reference6Ideal.Gen.facts) := by
  intro m ρ m' ρ' _ hag
  refine ⟨fun c => Cert.Kernel6Ideal.Value.G3 m c, Cert.Kernel6Ideal.Value.run m ρ,
    (θ_run Cert.Reference6Ideal.defs _ _).mono (fun _ h c => ⟨(h c).1.trans ?_, (h c).2⟩) (Cert.Reference6Ideal.Value.run (F := Ideal) m' ρ')⟩
  obtain ⟨a0, a1, a2⟩ := hag c
  refine (Cert.Reference6Ideal.Read.val_main_v21_eq (F := Ideal) _ _ _).trans ?_
  funext i
  obtain ⟨r, j, rfl⟩ : ∃ r j, i = ix2 r j := ⟨i 0, i 1, eq_ix2 i⟩
  refine (Cert.Reference6Ideal.Proj.v21_at _ _ _ r j).trans (Eq.trans ?_ (Cert.Kernel6Ideal.Proj.arr_at m c r j).symm)
  rw [a0, a1, a2]

/-! ### The projection to the queries -/

theorem frame_p7 : Cert.quiescent_Kernel7 (hKernel7 := Cert.Kernel7.Gen.facts) := fun m ρ _ => Cert.Kernel7.Gen.frame m ρ

theorem frame_pi7 : Cert.quiescent_Kernel7Ideal (hKernel7Ideal := Cert.Kernel7Ideal.Gen.facts) :=
  fun m ρ _ => Cert.Kernel7Ideal.Gen.frame m ρ

/-- The reference's arguments end unchanged; it declares no semaphore. -/
theorem frame_r7 : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run (F := Ideal) m ρ)

/-- The kernel's result is the reference's, of any arguments at the extended reals. -/
theorem value7 : Cert.algebraic_Kernel7Ideal_Reference7Ideal (hKernel7Ideal := Cert.Kernel7Ideal.Gen.facts)
    (hReference7Ideal := Cert.Reference7Ideal.Gen.facts) := by
  intro m ρ m' ρ' _ hag
  refine ⟨fun c => Cert.Kernel7Ideal.Value.G3 m c, Cert.Kernel7Ideal.Value.run m ρ,
    (θ_run Cert.Reference7Ideal.defs _ _).mono (fun _ h c => ⟨(h c).1.trans ?_, (h c).2⟩) (Cert.Reference7Ideal.Value.run (F := Ideal) m' ρ')⟩
  obtain ⟨a0, a1, a2⟩ := hag c
  refine (Cert.Reference7Ideal.Read.val_main_v17_eq (F := Ideal) _ _ _).trans ?_
  funext i
  obtain ⟨r, j, rfl⟩ : ∃ r j, i = ix2 r j := ⟨i 0, i 1, eq_ix2 i⟩
  refine (Cert.Reference7Ideal.Proj.v17_at _ _ _ r j).trans (Eq.trans ?_ (Cert.Kernel7Ideal.Proj.arr_at m c r j).symm)
  rw [a0, a1, a2]

/-! ### The merge of the branches -/

theorem frame_p8 : Cert.quiescent_Kernel8 (hKernel8 := Cert.Kernel8.Gen.facts) := fun m ρ _ => Cert.Kernel8.Gen.frame m ρ

theorem frame_pi8 : Cert.quiescent_Kernel8Ideal (hKernel8Ideal := Cert.Kernel8Ideal.Gen.facts) :=
  fun m ρ _ => Cert.Kernel8Ideal.Gen.frame m ρ

/-- The reference's arguments end unchanged; it declares no semaphore. -/
theorem frame_r8 : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run (F := Ideal) m ρ)

/-- The kernel's result is the reference's, of any arguments at the extended reals. -/
theorem value8 : Cert.algebraic_Kernel8Ideal_Reference8Ideal (hKernel8Ideal := Cert.Kernel8Ideal.Gen.facts)
    (hReference8Ideal := Cert.Reference8Ideal.Gen.facts) := by
  intro m ρ m' ρ' _ hag
  refine ⟨fun c => Cert.Kernel8Ideal.Branch.outM (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)),
    (θ_run Cert.Kernel8Ideal.defs _ _).mono (fun _ h c => ⟨(h c).1.trans (Cert.Kernel8Ideal.Branch.arr_eq m c), (h c).2⟩)
      (Cert.Kernel8Ideal.Value.run_blocks m ρ),
    (θ_run Cert.Reference8Ideal.defs _ _).mono (fun _ h c => ⟨(h c).1.trans ?_, (h c).2⟩) (Cert.Reference8Ideal.Value.run (F := Ideal) m' ρ')⟩
  obtain ⟨a0, a1, a2, a3, a4⟩ := hag c
  refine ((Cert.Reference8Ideal.Read.val_main_v13_eq (F := Ideal) _ _ _ _ _).trans (Cert.Reference8Ideal.Branch.v13_eq _ _ _ _ _)).trans ?_
  rw [a0, a1, a2, a3, a4]

/-! ### The projection back to the residual stream -/

theorem frame_p9 : Cert.quiescent_Kernel9 (hKernel9 := Cert.Kernel9.Gen.facts) := fun m ρ _ => Cert.Kernel9.Gen.frame m ρ

theorem frame_pi9 : Cert.quiescent_Kernel9Ideal (hKernel9Ideal := Cert.Kernel9Ideal.Gen.facts) :=
  fun m ρ _ => Cert.Kernel9Ideal.Gen.frame m ρ

/-- The reference's arguments end unchanged; it declares no semaphore. -/
theorem frame_r9 : Cert.quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩)
    (Cert.Reference9Ideal.Value.run (F := Ideal) m ρ)

/-- The kernel's result is the reference's, of any arguments at the extended reals. -/
theorem value9 : Cert.algebraic_Kernel9Ideal_Reference9Ideal (hKernel9Ideal := Cert.Kernel9Ideal.Gen.facts)
    (hReference9Ideal := Cert.Reference9Ideal.Gen.facts) := by
  intro m ρ m' ρ' _ hag
  refine ⟨fun c => Cert.Kernel9Ideal.Branch.outM (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)),
    (θ_run Cert.Kernel9Ideal.defs _ _).mono (fun _ h c => ⟨(h c).1.trans (Cert.Kernel9Ideal.Branch.arr_eq m c), (h c).2⟩)
      (Cert.Kernel9Ideal.Value.run_blocks m ρ),
    (θ_run Cert.Reference9Ideal.defs _ _).mono (fun _ h c => ⟨(h c).1.trans ?_, (h c).2⟩) (Cert.Reference9Ideal.Value.run (F := Ideal) m' ρ')⟩
  obtain ⟨a0, a1, a2⟩ := hag c
  refine ((Cert.Reference9Ideal.Read.val_main_v2_eq (F := Ideal) _ _ _).trans (Cert.Reference9Ideal.Branch.v2_eq _ _ _)).trans ?_
  rw [a0, a1, a2]

/-! ### The compression of the cache's pages -/

theorem frame_p10 : Cert.quiescent_Kernel10 (hKernel10 := Cert.Kernel10.Gen.facts) := fun m ρ _ => Cert.Kernel10.Gen.frame m ρ

theorem frame_pi10 : Cert.quiescent_Kernel10Ideal (hKernel10Ideal := Cert.Kernel10Ideal.Gen.facts) :=
  fun m ρ _ => Cert.Kernel10Ideal.Gen.frame m ρ

/-- The reference's arguments end unchanged; it declares no semaphore. -/
theorem frame_r10 : Cert.quiescent_Reference10Ideal (hReference10Ideal := Cert.Reference10Ideal.Gen.facts) := fun m ρ _ =>
  (θ_run Cert.Reference10Ideal.defs _ _).mono (fun r h => ⟨fun c => (h c).2, sem_eq_zero_of_no_sems (by decide) r.2⟩)
    (Cert.Reference10Ideal.Value.run (F := Ideal) m ρ)

/-- The kernel's result is the reference's, of any arguments at the extended reals. -/
theorem value10 : Cert.algebraic_Kernel10Ideal_Reference10Ideal (hKernel10Ideal := Cert.Kernel10Ideal.Gen.facts)
    (hReference10Ideal := Cert.Reference10Ideal.Gen.facts) := by
  intro m ρ m' ρ' _ hag
  refine ⟨fun c => (fun i => Cert.Kernel10Ideal.Cmp.outAt
      (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1))
      (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3))
      (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5))
      (m ((c.tc : Thread Cert.Kernel10Ideal.nD Cert.Kernel10Ideal.τ).loc Cert.Kernel10Ideal.main_arg6)) (i 0) (i 1) : FVec Ideal ⟨2, ![5120, 512]⟩ .f32),
    (θ_run Cert.Kernel10Ideal.defs _ _).mono (fun _ h c => ⟨(h c).1.trans (Cert.Kernel10Ideal.Cmp.arr_eq m c), (h c).2⟩)
      (Cert.Kernel10Ideal.Value.run_blocks m ρ),
    (θ_run Cert.Reference10Ideal.defs _ _).mono (fun _ h c => ⟨(h c).1.trans ?_, (h c).2⟩) (Cert.Reference10Ideal.Value.run (F := Ideal) m' ρ')⟩
  obtain ⟨a0, a1, a2, a3, a4, a5, a6⟩ := hag c
  refine ((Cert.Reference10Ideal.Read.val_main_v49_eq (F := Ideal) _ _).trans (Cert.Reference10Ideal.Cmp.v49_eq _ _ _ _ _ _ _)).trans ?_
  rw [a0, a1, a2, a3, a4, a5, a6]

/-! ### The compression of the prompt's rows -/

theorem frame_p11 : Cert.quiescent_Kernel11 (hKernel11 := Cert.Kernel11.Gen.facts) := fun m ρ _ => Cert.Kernel11.Gen.frame m ρ

theorem frame_pi11 : Cert.quiescent_Kernel11Ideal (hKernel11Ideal := Cert.Kernel11Ideal.Gen.facts) :=
  fun m ρ _ => Cert.Kernel11Ideal.Gen.frame m ρ

/-- The reference's arguments end unchanged; it declares no semaphore. -/
theorem frame_r11 : Cert.quiescent_Reference11Ideal (hReference11Ideal := Cert.Reference11Ideal.Gen.facts) := fun m ρ _ =>
  (θ_run Cert.Reference11Ideal.defs _ _).mono (fun r h => ⟨fun c => (h c).2, sem_eq_zero_of_no_sems (by decide) r.2⟩)
    (Cert.Reference11Ideal.Value.run (F := Ideal) m ρ)

/-- The kernel's result is the reference's, of any arguments at the extended reals. -/
theorem value11 : Cert.algebraic_Kernel11Ideal_Reference11Ideal (hKernel11Ideal := Cert.Kernel11Ideal.Gen.facts)
    (hReference11Ideal := Cert.Reference11Ideal.Gen.facts) := by
  intro m ρ m' ρ' _ hag
  refine ⟨fun c => (fun i => Cert.Kernel11Ideal.Cmp.outAt
      (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1))
      (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3))
      (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5))
      (m ((c.tc : Thread Cert.Kernel11Ideal.nD Cert.Kernel11Ideal.τ).loc Cert.Kernel11Ideal.main_arg6)) (i 0) (i 1) : FVec Ideal ⟨2, ![128, 512]⟩ .f32),
    (θ_run Cert.Kernel11Ideal.defs _ _).mono (fun _ h c => ⟨(h c).1.trans (Cert.Kernel11Ideal.Cmp.arr_eq m c), (h c).2⟩)
      (Cert.Kernel11Ideal.Value.run_blocks m ρ),
    (θ_run Cert.Reference11Ideal.defs _ _).mono (fun _ h c => ⟨(h c).1.trans ?_, (h c).2⟩) (Cert.Reference11Ideal.Value.run (F := Ideal) m' ρ')⟩
  obtain ⟨a0, a1, a2, a3, a4, a5, a6⟩ := hag c
  refine ((Cert.Reference11Ideal.Read.val_main_v51_eq (F := Ideal) _ _).trans (Cert.Reference11Ideal.Cmp.v51_eq _ _ _ _ _ _ _)).trans ?_
  rw [a0, a1, a2, a3, a4, a5, a6]

/-! ### The claim -/

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Nsa.pre_facts,
    frame_p, frame_pi, frame_pi_pre, frame_r, frame_r_pre, frame_p2, frame_pi2, frame_r2, frame_p3, frame_pi3, frame_r3,
    frame_p4, frame_pi4, frame_r4, frame_p5, frame_pi5, frame_r5, frame_p6, frame_pi6, frame_r6, frame_p7, frame_pi7, frame_r7, frame_p8, frame_pi8, frame_r8, frame_p9, frame_pi9, frame_r9,
    frame_p10, frame_pi10, frame_r10, frame_p11, frame_pi11, frame_r11,
    mask, value, trivial, value2, trivial, value3, trivial, value4, trivial, value5, trivial, value6, trivial, value7, trivial, value8, trivial, value9, trivial, value10, trivial, value11⟩

end Cert.Proof

end
